-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 4096, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 65536, 8, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 65536, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = Layout.block ⟨3, ![1, 256, 1024]⟩ ⟨3, ![1, 4096, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1024 : Shape := ⟨2, ![256, 1024]⟩
abbrev S_ : Shape := ⟨0, ![]⟩
abbrev S256x8x128 : Shape := ⟨3, ![256, 8, 128]⟩
abbrev S8x128x256 : Shape := ⟨3, ![8, 128, 256]⟩
abbrev S4096x8x128 : Shape := ⟨3, ![4096, 8, 128]⟩
abbrev S8x4096x128 : Shape := ⟨3, ![8, 4096, 128]⟩
abbrev S2x8x2x136x256 : Shape := ⟨5, ![2, 8, 2, 136, 256]⟩
abbrev S2x8 : Shape := ⟨2, ![2, 8]⟩
abbrev S1x128x256 : Shape := ⟨3, ![1, 128, 256]⟩
abbrev S128x256 : Shape := ⟨2, ![128, 256]⟩
abbrev S1x1x1x128x256 : Shape := ⟨5, ![1, 1, 1, 128, 256]⟩
abbrev S1x256 : Shape := ⟨2, ![1, 256]⟩
abbrev S1x1x1x1x256 : Shape := ⟨5, ![1, 1, 1, 1, 256]⟩
abbrev S136x256 : Shape := ⟨2, ![136, 256]⟩
abbrev S1x1x1x136x256 : Shape := ⟨5, ![1, 1, 1, 136, 256]⟩
abbrev S1x1024x128 : Shape := ⟨3, ![1, 1024, 128]⟩
abbrev S1024x128 : Shape := ⟨2, ![1024, 128]⟩
abbrev S1024x256 : Shape := ⟨2, ![1024, 256]⟩
abbrev S256 : Shape := ⟨1, ![256]⟩
abbrev S2x256 : Shape := ⟨2, ![2, 256]⟩
abbrev S1x1x1x2x256 : Shape := ⟨5, ![1, 1, 1, 2, 256]⟩
abbrev S1x1 : Shape := ⟨2, ![1, 1]⟩
abbrev S1x1x2x136x256 : Shape := ⟨5, ![1, 1, 2, 136, 256]⟩
abbrev S2x136x256 : Shape := ⟨3, ![2, 136, 256]⟩

abbrev nBuf : Space → Nat
  | .hbm => 21
  | .vmem => 6
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S256x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S256x1024, .f32⟩
  | .hbm, ⟨10, _⟩ => ⟨S256x8x128, .f32⟩
  | .hbm, ⟨11, _⟩ => ⟨S8x128x256, .f32⟩
  | .hbm, ⟨12, _⟩ => ⟨S4096x8x128, .f32⟩
  | .hbm, ⟨13, _⟩ => ⟨S8x4096x128, .f32⟩
  | .hbm, ⟨14, _⟩ => ⟨S4096x8x128, .f32⟩
  | .hbm, ⟨15, _⟩ => ⟨S8x4096x128, .f32⟩
  | .hbm, ⟨16, _⟩ => ⟨S8x128x256, .f32⟩
  | .hbm, ⟨17, _⟩ => ⟨S256x8x128, .f32⟩
  | .hbm, ⟨18, _⟩ => ⟨S256x1024, .f32⟩
  | .hbm, ⟨19, _⟩ => ⟨S256x1024, .f32⟩
  | .hbm, ⟨20, _⟩ => ⟨S1x256x1024, .f32⟩
  | .local _ .vmem, ⟨0, _⟩ => ⟨S8x128x256, .f32⟩
  | .local _ .vmem, ⟨1, _⟩ => ⟨S8x4096x128, .f32⟩
  | .local _ .vmem, ⟨2, _⟩ => ⟨S8x4096x128, .f32⟩
  | .local _ .vmem, ⟨3, _⟩ => ⟨S8x128x256, .f32⟩
  | .local _ .vmem, ⟨4, _⟩ => ⟨S2x8x2x136x256, .f32⟩
  | .local _ .vmem, ⟨5, _⟩ => ⟨S8x128x256, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 3 38 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_10 : BitVec 32 := 0#32
  let c4_i32 : BitVec 32 := 4#32
  let v13 : BitVec 32 := Scalar.addi c0_i32_10 c4_i32
  let c1_i32_11 : BitVec 32 := 1#32
  ⟨c0_i32_10, v13, c1_i32_11⟩
def k0_off1 (k0_t1 : Fin k0_t1_loop.trips) : Fin 3 → Nat :=
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let v26 : Index := Scalar.indexCast v24
  let c0 : Index := 0#32
  let c0_35 : Index := 0#32
  ![v26.toNat, 0, 0]
def k0_off2 (k0_t1 : Fin k0_t1_loop.trips) : Fin 5 → Nat :=
  let c0_36 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let v29 : Index := Scalar.indexCast v24
  let c0_37 : Index := 0#32
  let c0_38 : Index := 0#32
  let c0_39 : Index := 0#32
  ![0, v29.toNat, 0, 0, 0]
def k0_off3 (k0_t1 : Fin k0_t1_loop.trips) : Fin 5 → Nat :=
  let c0_40 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let v34 : Index := Scalar.indexCast v24
  let c0_41 : Index := 0#32
  let c128 : Index := 128#32
  let c0_42 : Index := 0#32
  ![0, v34.toNat, 0, 128, 0]
def k0_off4 (k0_t1 : Fin k0_t1_loop.trips) : Fin 5 → Nat :=
  let c0_44 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let v39 : Index := Scalar.indexCast v24
  let c0_45 : Index := 0#32
  let c129 : Index := 129#32
  let c0_46 : Index := 0#32
  ![0, v39.toNat, 0, 129, 0]
def k0_off5 (k0_t1 : Fin k0_t1_loop.trips) : Fin 5 → Nat :=
  let c0_48 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let v44 : Index := Scalar.indexCast v24
  let c1 : Index := 1#32
  let c0_49 : Index := 0#32
  let c0_50 : Index := 0#32
  ![0, v44.toNat, 1, 0, 0]
def k0_off6 (k0_t1 : Fin k0_t1_loop.trips) : Fin 3 → Nat :=
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let v48 : Index := Scalar.indexCast v25
  let c0_51 : Index := 0#32
  let c0_52 : Index := 0#32
  ![v48.toNat, 0, 0]
def k0_off7 (k0_t1 : Fin k0_t1_loop.trips) : Fin 5 → Nat :=
  let c0_53 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let v51 : Index := Scalar.indexCast v25
  let c0_54 : Index := 0#32
  let c0_55 : Index := 0#32
  let c0_56 : Index := 0#32
  ![0, v51.toNat, 0, 0, 0]
def k0_off8 (k0_t1 : Fin k0_t1_loop.trips) : Fin 5 → Nat :=
  let c0_58 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let v56 : Index := Scalar.indexCast v25
  let c0_59 : Index := 0#32
  let c128_60 : Index := 128#32
  let c0_61 : Index := 0#32
  ![0, v56.toNat, 0, 128, 0]
def k0_off9 (k0_t1 : Fin k0_t1_loop.trips) : Fin 5 → Nat :=
  let c0_63 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let v61 : Index := Scalar.indexCast v25
  let c0_64 : Index := 0#32
  let c129_65 : Index := 129#32
  let c0_66 : Index := 0#32
  ![0, v61.toNat, 0, 129, 0]
def k0_off10 (k0_t1 : Fin k0_t1_loop.trips) : Fin 5 → Nat :=
  let c0_68 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let v66 : Index := Scalar.indexCast v25
  let c1_69 : Index := 1#32
  let c0_70 : Index := 0#32
  let c0_71 : Index := 0#32
  ![0, v66.toNat, 1, 0, 0]
def k0_off11 (k0_t1 : Fin k0_t1_loop.trips) : Fin 5 → Nat :=
  let c0_72 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let v70 : Index := Scalar.indexCast v24
  let c0_73 : Index := 0#32
  let c0_74 : Index := 0#32
  let c0_75 : Index := 0#32
  ![0, v70.toNat, 0, 0, 0]
def k0_off12 (k0_t1 : Fin k0_t1_loop.trips) : Fin 5 → Nat :=
  let c0_76 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let v73 : Index := Scalar.indexCast v25
  let c0_77 : Index := 0#32
  let c0_78 : Index := 0#32
  let c0_79 : Index := 0#32
  ![0, v73.toNat, 0, 0, 0]
def k0_off13 (k0_t1 : Fin k0_t1_loop.trips) : Fin 5 → Nat :=
  let c0_80 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let v78 : Index := Scalar.indexCast v24
  let c1_81 : Index := 1#32
  let c0_82 : Index := 0#32
  let c0_83 : Index := 0#32
  ![0, v78.toNat, 1, 0, 0]
def k0_off14 (k0_t1 : Fin k0_t1_loop.trips) : Fin 5 → Nat :=
  let c0_84 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let v83 : Index := Scalar.indexCast v25
  let c1_85 : Index := 1#32
  let c0_86 : Index := 0#32
  let c0_87 : Index := 0#32
  ![0, v83.toNat, 1, 0, 0]
@[reducible] def k0_t2_loop : Scf.Loop 32 :=
  let c0_i32_88 : BitVec 32 := 0#32
  let c4_i32_89 : BitVec 32 := 4#32
  let v88 : BitVec 32 := Scalar.addi c0_i32_88 c4_i32_89
  let c1_i32_90 : BitVec 32 := 1#32
  ⟨c0_i32_88, v88, c1_i32_90⟩
def k0_off15 (k0_t1 : Fin k0_t1_loop.trips) (k0_t2 : Fin k0_t2_loop.trips) : Fin 3 → Nat :=
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let v129 : Index := Scalar.indexCast v24
  let c0_i32_88 : BitVec 32 := 0#32
  let c1_i32_90 : BitVec 32 := 1#32
  let arg13 : BitVec 32 := Scf.iv c0_i32_88 c1_i32_90 k0_t2
  let c1024_i32 : BitVec 32 := 1024#32
  let v128 : BitVec 32 := Scalar.muli arg13 c1024_i32
  let v130 : Index := Scalar.indexCast v128
  let c0_132 : Index := 0#32
  ![v129.toNat, v130.toNat, 0]
def k0_off16 (k0_t1 : Fin k0_t1_loop.trips) (k0_t2 : Fin k0_t2_loop.trips) : Fin 3 → Nat :=
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let v156 : Index := Scalar.indexCast v25
  let c0_i32_88 : BitVec 32 := 0#32
  let c1_i32_90 : BitVec 32 := 1#32
  let arg13 : BitVec 32 := Scf.iv c0_i32_88 c1_i32_90 k0_t2
  let c1024_i32_139 : BitVec 32 := 1024#32
  let v155 : BitVec 32 := Scalar.muli arg13 c1024_i32_139
  let v157 : Index := Scalar.indexCast v155
  let c0_140 : Index := 0#32
  ![v156.toNat, v157.toNat, 0]
def k0_off17 (k0_t1 : Fin k0_t1_loop.trips) : Fin 5 → Nat :=
  let c0_96 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let v95 : Index := Scalar.indexCast v24
  let c0_97 : Index := 0#32
  let c128_98 : Index := 128#32
  let c0_99 : Index := 0#32
  ![0, v95.toNat, 0, 128, 0]
def k0_off18 (k0_t1 : Fin k0_t1_loop.trips) : Fin 5 → Nat :=
  let c0_104 : Index := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let v104 : Index := Scalar.indexCast v25
  let c0_105 : Index := 0#32
  let c128_106 : Index := 128#32
  let c0_107 : Index := 0#32
  ![0, v104.toNat, 0, 128, 0]
def k0_off19 (k0_t1 : Fin k0_t1_loop.trips) : Fin 2 → Nat :=
  let c1_i32_111 : BitVec 32 := 1#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  ![1, v24.toNat]
def k0_off20 (k0_t1 : Fin k0_t1_loop.trips) : Fin 5 → Nat :=
  let c1_i32_109 : BitVec 32 := 1#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c0_i32_114 : BitVec 32 := 0#32
  let c0_i32_115 : BitVec 32 := 0#32
  let c0_i32_116 : BitVec 32 := 0#32
  ![1, v24.toNat, 0, 0, 0]
def k0_off21 (k0_t1 : Fin k0_t1_loop.trips) : Fin 5 → Nat :=
  let c0_i32_108 : BitVec 32 := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c0_i32_117 : BitVec 32 := 0#32
  let c0_i32_118 : BitVec 32 := 0#32
  let c0_i32_119 : BitVec 32 := 0#32
  ![0, v24.toNat, 0, 0, 0]
def k0_dev3 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_112 : BitVec 32 := 1#32
  let v108 : BitVec 32 := Scalar.muli v7 c1_i32_112
  let v109 : BitVec 32 := Scalar.addi c0_i32_113 v108
  v109.toNat
def k0_off22 (k0_t1 : Fin k0_t1_loop.trips) : Fin 2 → Nat :=
  let c1_i32_123 : BitVec 32 := 1#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  ![1, v25.toNat]
def k0_off23 (k0_t1 : Fin k0_t1_loop.trips) : Fin 5 → Nat :=
  let c1_i32_121 : BitVec 32 := 1#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let c0_i32_126 : BitVec 32 := 0#32
  let c0_i32_127 : BitVec 32 := 0#32
  let c0_i32_128 : BitVec 32 := 0#32
  ![1, v25.toNat, 0, 0, 0]
def k0_off24 (k0_t1 : Fin k0_t1_loop.trips) : Fin 5 → Nat :=
  let c0_i32_120 : BitVec 32 := 0#32
  let c2_i32_33 : BitVec 32 := 2#32
  let c0_i32_10 : BitVec 32 := 0#32
  let c1_i32_11 : BitVec 32 := 1#32
  let arg12 : BitVec 32 := Scf.iv c0_i32_10 c1_i32_11 k0_t1
  let v24 : BitVec 32 := Scalar.muli c2_i32_33 arg12
  let c1_i32_34 : BitVec 32 := 1#32
  let v25 : BitVec 32 := Scalar.addi v24 c1_i32_34
  let c0_i32_129 : BitVec 32 := 0#32
  let c0_i32_130 : BitVec 32 := 0#32
  let c0_i32_131 : BitVec 32 := 0#32
  ![0, v25.toNat, 0, 0, 0]
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_124 : BitVec 32 := 1#32
  let v118 : BitVec 32 := Scalar.muli v7 c1_i32_124
  let v119 : BitVec 32 := Scalar.addi c0_i32_125 v118
  v119.toNat
@[reducible] def k0_t3_loop : Scf.Loop 32 :=
  let c1_i32_13 : BitVec 32 := 1#32
  let c14_i32 : BitVec 32 := 14#32
  let v14 : BitVec 32 := Scalar.addi c1_i32_13 c14_i32
  let c1_i32_14 : BitVec 32 := 1#32
  ⟨c1_i32_13, v14, c1_i32_14⟩
@[reducible] def k0_t4_loop : Scf.Loop 32 :=
  let c0_i32_35 : BitVec 32 := 0#32
  let c4_i32_36 : BitVec 32 := 4#32
  let v26 : BitVec 32 := Scalar.addi c0_i32_35 c4_i32_36
  let c1_i32_37 : BitVec 32 := 1#32
  ⟨c0_i32_35, v26, c1_i32_37⟩
def k0_off25 (k0_t3 : Fin k0_t3_loop.trips) (k0_t4 : Fin k0_t4_loop.trips) : Fin 2 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  ![v24.toNat, v27.toNat]
def k0_off26 (k0_t3 : Fin k0_t3_loop.trips) (k0_t4 : Fin k0_t4_loop.trips) : Fin 5 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c0_i32_44 : BitVec 32 := 0#32
  let c0_i32_45 : BitVec 32 := 0#32
  let c0_i32_46 : BitVec 32 := 0#32
  ![v24.toNat, v27.toNat, 0, 0, 0]
def k0_off27 (k0_t3 : Fin k0_t3_loop.trips) (k0_t4 : Fin k0_t4_loop.trips) : Fin 5 → Nat :=
  let c1_i32_41 : BitVec 32 := 1#32
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v29 : BitVec 32 := Scalar.subi c1_i32_41 v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c0_i32_47 : BitVec 32 := 0#32
  let c0_i32_48 : BitVec 32 := 0#32
  let c0_i32_49 : BitVec 32 := 0#32
  ![v29.toNat, v27.toNat, 0, 0, 0]
def k0_off28 (k0_t3 : Fin k0_t3_loop.trips) (k0_t4 : Fin k0_t4_loop.trips) : Fin 2 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c1_i32_40 : BitVec 32 := 1#32
  let v28 : BitVec 32 := Scalar.addi v27 c1_i32_40
  ![v24.toNat, v28.toNat]
def k0_off29 (k0_t3 : Fin k0_t3_loop.trips) (k0_t4 : Fin k0_t4_loop.trips) : Fin 5 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c1_i32_40 : BitVec 32 := 1#32
  let v28 : BitVec 32 := Scalar.addi v27 c1_i32_40
  let c0_i32_53 : BitVec 32 := 0#32
  let c0_i32_54 : BitVec 32 := 0#32
  let c0_i32_55 : BitVec 32 := 0#32
  ![v24.toNat, v28.toNat, 0, 0, 0]
def k0_off30 (k0_t3 : Fin k0_t3_loop.trips) (k0_t4 : Fin k0_t4_loop.trips) : Fin 5 → Nat :=
  let c1_i32_50 : BitVec 32 := 1#32
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v38 : BitVec 32 := Scalar.subi c1_i32_50 v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c1_i32_40 : BitVec 32 := 1#32
  let v28 : BitVec 32 := Scalar.addi v27 c1_i32_40
  let c0_i32_56 : BitVec 32 := 0#32
  let c0_i32_57 : BitVec 32 := 0#32
  let c0_i32_58 : BitVec 32 := 0#32
  ![v38.toNat, v28.toNat, 0, 0, 0]
def k0_off31 (k0_t3 : Fin k0_t3_loop.trips) (k0_t4 : Fin k0_t4_loop.trips) : Fin 5 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v47 : Index := Scalar.indexCast v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let v48 : Index := Scalar.indexCast v27
  let c0 : Index := 0#32
  let c0_59 : Index := 0#32
  let c0_60 : Index := 0#32
  ![v47.toNat, v48.toNat, 0, 0, 0]
def k0_off32 (k0_t3 : Fin k0_t3_loop.trips) (k0_t4 : Fin k0_t4_loop.trips) : Fin 5 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v51 : Index := Scalar.indexCast v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c1_i32_40 : BitVec 32 := 1#32
  let v28 : BitVec 32 := Scalar.addi v27 c1_i32_40
  let v52 : Index := Scalar.indexCast v28
  let c0_61 : Index := 0#32
  let c0_62 : Index := 0#32
  let c0_63 : Index := 0#32
  ![v51.toNat, v52.toNat, 0, 0, 0]
def k0_off33 (k0_t3 : Fin k0_t3_loop.trips) (k0_t4 : Fin k0_t4_loop.trips) : Fin 5 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v57 : Index := Scalar.indexCast v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let v58 : Index := Scalar.indexCast v27
  let c1 : Index := 1#32
  let c0_64 : Index := 0#32
  let c0_65 : Index := 0#32
  ![v57.toNat, v58.toNat, 1, 0, 0]
def k0_off34 (k0_t3 : Fin k0_t3_loop.trips) (k0_t4 : Fin k0_t4_loop.trips) : Fin 5 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v63 : Index := Scalar.indexCast v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c1_i32_40 : BitVec 32 := 1#32
  let v28 : BitVec 32 := Scalar.addi v27 c1_i32_40
  let v64 : Index := Scalar.indexCast v28
  let c1_66 : Index := 1#32
  let c0_67 : Index := 0#32
  let c0_68 : Index := 0#32
  ![v63.toNat, v64.toNat, 1, 0, 0]
@[reducible] def k0_t5_loop : Scf.Loop 32 :=
  let c0_i32_69 : BitVec 32 := 0#32
  let c4_i32_70 : BitVec 32 := 4#32
  let v69 : BitVec 32 := Scalar.addi c0_i32_69 c4_i32_70
  let c1_i32_71 : BitVec 32 := 1#32
  ⟨c0_i32_69, v69, c1_i32_71⟩
def k0_off35 (k0_t4 : Fin k0_t4_loop.trips) (k0_t5 : Fin k0_t5_loop.trips) : Fin 3 → Nat :=
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let v130 : Index := Scalar.indexCast v27
  let c0_i32_69 : BitVec 32 := 0#32
  let c1_i32_71 : BitVec 32 := 1#32
  let arg14 : BitVec 32 := Scf.iv c0_i32_69 c1_i32_71 k0_t5
  let c1024_i32 : BitVec 32 := 1024#32
  let v129 : BitVec 32 := Scalar.muli arg14 c1024_i32
  let v131 : Index := Scalar.indexCast v129
  let c0_121 : Index := 0#32
  ![v130.toNat, v131.toNat, 0]
def k0_off36 (k0_t4 : Fin k0_t4_loop.trips) (k0_t5 : Fin k0_t5_loop.trips) : Fin 3 → Nat :=
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c1_i32_40 : BitVec 32 := 1#32
  let v28 : BitVec 32 := Scalar.addi v27 c1_i32_40
  let v157 : Index := Scalar.indexCast v28
  let c0_i32_69 : BitVec 32 := 0#32
  let c1_i32_71 : BitVec 32 := 1#32
  let arg14 : BitVec 32 := Scf.iv c0_i32_69 c1_i32_71 k0_t5
  let c1024_i32_127 : BitVec 32 := 1024#32
  let v156 : BitVec 32 := Scalar.muli arg14 c1024_i32_127
  let v158 : Index := Scalar.indexCast v156
  let c0_128 : Index := 0#32
  ![v157.toNat, v158.toNat, 0]
def k0_off37 (k0_t3 : Fin k0_t3_loop.trips) (k0_t4 : Fin k0_t4_loop.trips) : Fin 5 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v77 : Index := Scalar.indexCast v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let v78 : Index := Scalar.indexCast v27
  let c0_76 : Index := 0#32
  let c128 : Index := 128#32
  let c0_77 : Index := 0#32
  ![v77.toNat, v78.toNat, 0, 128, 0]
def k0_off38 (k0_t3 : Fin k0_t3_loop.trips) (k0_t4 : Fin k0_t4_loop.trips) : Fin 5 → Nat :=
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v88 : Index := Scalar.indexCast v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c1_i32_40 : BitVec 32 := 1#32
  let v28 : BitVec 32 := Scalar.addi v27 c1_i32_40
  let v89 : Index := Scalar.indexCast v28
  let c0_81 : Index := 0#32
  let c128_82 : Index := 128#32
  let c0_83 : Index := 0#32
  ![v88.toNat, v89.toNat, 0, 128, 0]
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_101 : BitVec 32 := 1#32
  let v107 : BitVec 32 := Scalar.muli v5 c1_i32_101
  let v108 : BitVec 32 := Scalar.addi c0_i32_102 v107
  v108.toNat
def k0_off39 (k0_t3 : Fin k0_t3_loop.trips) (k0_t4 : Fin k0_t4_loop.trips) : Fin 2 → Nat :=
  let c1_i32_34 : BitVec 32 := 1#32
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v25 : BitVec 32 := Scalar.subi c1_i32_34 v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  ![v25.toNat, v27.toNat]
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_105 : BitVec 32 := 1#32
  let v109 : BitVec 32 := Scalar.muli v7 c1_i32_105
  let v110 : BitVec 32 := Scalar.addi c0_i32_106 v109
  v110.toNat
def k0_off40 (k0_t3 : Fin k0_t3_loop.trips) (k0_t4 : Fin k0_t4_loop.trips) : Fin 2 → Nat :=
  let c1_i32_34 : BitVec 32 := 1#32
  let c1_i32_13 : BitVec 32 := 1#32
  let c1_i32_14 : BitVec 32 := 1#32
  let arg12 : BitVec 32 := Scf.iv c1_i32_13 c1_i32_14 k0_t3
  let c2_i32_33 : BitVec 32 := 2#32
  let v24 : BitVec 32 := Scalar.remsi arg12 c2_i32_33
  let v25 : BitVec 32 := Scalar.subi c1_i32_34 v24
  let c2_i32_39 : BitVec 32 := 2#32
  let c0_i32_35 : BitVec 32 := 0#32
  let c1_i32_37 : BitVec 32 := 1#32
  let arg13 : BitVec 32 := Scf.iv c0_i32_35 c1_i32_37 k0_t4
  let v27 : BitVec 32 := Scalar.muli c2_i32_39 arg13
  let c1_i32_40 : BitVec 32 := 1#32
  let v28 : BitVec 32 := Scalar.addi v27 c1_i32_40
  ![v25.toNat, v28.toNat]
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_113 : BitVec 32 := 1#32
  let v119 : BitVec 32 := Scalar.muli v7 c1_i32_113
  let v120 : BitVec 32 := Scalar.addi c0_i32_114 v119
  v120.toNat
@[reducible] def k0_t6_loop : Scf.Loop 32 :=
  let c0_i32_16 : BitVec 32 := 0#32
  let c4_i32_17 : BitVec 32 := 4#32
  let v15 : BitVec 32 := Scalar.addi c0_i32_16 c4_i32_17
  let c1_i32_18 : BitVec 32 := 1#32
  ⟨c0_i32_16, v15, c1_i32_18⟩
def k0_off41 (k0_t6 : Fin k0_t6_loop.trips) : Fin 2 → Nat :=
  let c1_i32_37 : BitVec 32 := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  ![1, v24.toNat]
def k0_off42 (k0_t6 : Fin k0_t6_loop.trips) : Fin 5 → Nat :=
  let c1_i32_36 : BitVec 32 := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c0_i32_41 : BitVec 32 := 0#32
  let c0_i32_42 : BitVec 32 := 0#32
  let c0_i32_43 : BitVec 32 := 0#32
  ![1, v24.toNat, 0, 0, 0]
def k0_off43 (k0_t6 : Fin k0_t6_loop.trips) : Fin 5 → Nat :=
  let c0_i32_35 : BitVec 32 := 0#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c0_i32_44 : BitVec 32 := 0#32
  let c0_i32_45 : BitVec 32 := 0#32
  let c0_i32_46 : BitVec 32 := 0#32
  ![0, v24.toNat, 0, 0, 0]
def k0_off44 (k0_t6 : Fin k0_t6_loop.trips) : Fin 2 → Nat :=
  let c1_i32_49 : BitVec 32 := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c1_i32_34 : BitVec 32 := 1#32
  let v25 : BitVec 32 := Scalar.addi v24 c1_i32_34
  ![1, v25.toNat]
def k0_off45 (k0_t6 : Fin k0_t6_loop.trips) : Fin 5 → Nat :=
  let c1_i32_48 : BitVec 32 := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c1_i32_34 : BitVec 32 := 1#32
  let v25 : BitVec 32 := Scalar.addi v24 c1_i32_34
  let c0_i32_53 : BitVec 32 := 0#32
  let c0_i32_54 : BitVec 32 := 0#32
  let c0_i32_55 : BitVec 32 := 0#32
  ![1, v25.toNat, 0, 0, 0]
def k0_off46 (k0_t6 : Fin k0_t6_loop.trips) : Fin 5 → Nat :=
  let c0_i32_47 : BitVec 32 := 0#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c1_i32_34 : BitVec 32 := 1#32
  let v25 : BitVec 32 := Scalar.addi v24 c1_i32_34
  let c0_i32_56 : BitVec 32 := 0#32
  let c0_i32_57 : BitVec 32 := 0#32
  let c0_i32_58 : BitVec 32 := 0#32
  ![0, v25.toNat, 0, 0, 0]
def k0_off47 (k0_t6 : Fin k0_t6_loop.trips) : Fin 5 → Nat :=
  let c1 : Index := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let v42 : Index := Scalar.indexCast v24
  let c0 : Index := 0#32
  let c0_59 : Index := 0#32
  let c0_60 : Index := 0#32
  ![1, v42.toNat, 0, 0, 0]
def k0_off48 (k0_t6 : Fin k0_t6_loop.trips) : Fin 5 → Nat :=
  let c1_61 : Index := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c1_i32_34 : BitVec 32 := 1#32
  let v25 : BitVec 32 := Scalar.addi v24 c1_i32_34
  let v45 : Index := Scalar.indexCast v25
  let c0_62 : Index := 0#32
  let c0_63 : Index := 0#32
  let c0_64 : Index := 0#32
  ![1, v45.toNat, 0, 0, 0]
def k0_off49 (k0_t6 : Fin k0_t6_loop.trips) : Fin 5 → Nat :=
  let c1_65 : Index := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let v50 : Index := Scalar.indexCast v24
  let c1_66 : Index := 1#32
  let c0_67 : Index := 0#32
  let c0_68 : Index := 0#32
  ![1, v50.toNat, 1, 0, 0]
def k0_off50 (k0_t6 : Fin k0_t6_loop.trips) : Fin 5 → Nat :=
  let c1_69 : Index := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c1_i32_34 : BitVec 32 := 1#32
  let v25 : BitVec 32 := Scalar.addi v24 c1_i32_34
  let v55 : Index := Scalar.indexCast v25
  let c1_70 : Index := 1#32
  let c0_71 : Index := 0#32
  let c0_72 : Index := 0#32
  ![1, v55.toNat, 1, 0, 0]
@[reducible] def k0_t7_loop : Scf.Loop 32 :=
  let c0_i32_73 : BitVec 32 := 0#32
  let c4_i32_74 : BitVec 32 := 4#32
  let v60 : BitVec 32 := Scalar.addi c0_i32_73 c4_i32_74
  let c1_i32_75 : BitVec 32 := 1#32
  ⟨c0_i32_73, v60, c1_i32_75⟩
def k0_off51 (k0_t6 : Fin k0_t6_loop.trips) (k0_t7 : Fin k0_t7_loop.trips) : Fin 3 → Nat :=
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let v117 : Index := Scalar.indexCast v24
  let c0_i32_73 : BitVec 32 := 0#32
  let c1_i32_75 : BitVec 32 := 1#32
  let arg13 : BitVec 32 := Scf.iv c0_i32_73 c1_i32_75 k0_t7
  let c1024_i32 : BitVec 32 := 1024#32
  let v116 : BitVec 32 := Scalar.muli arg13 c1024_i32
  let v118 : Index := Scalar.indexCast v116
  let c0_133 : Index := 0#32
  ![v117.toNat, v118.toNat, 0]
def k0_off52 (k0_t6 : Fin k0_t6_loop.trips) (k0_t7 : Fin k0_t7_loop.trips) : Fin 3 → Nat :=
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c1_i32_34 : BitVec 32 := 1#32
  let v25 : BitVec 32 := Scalar.addi v24 c1_i32_34
  let v144 : Index := Scalar.indexCast v25
  let c0_i32_73 : BitVec 32 := 0#32
  let c1_i32_75 : BitVec 32 := 1#32
  let arg13 : BitVec 32 := Scf.iv c0_i32_73 c1_i32_75 k0_t7
  let c1024_i32_139 : BitVec 32 := 1024#32
  let v143 : BitVec 32 := Scalar.muli arg13 c1024_i32_139
  let v145 : Index := Scalar.indexCast v143
  let c0_140 : Index := 0#32
  ![v144.toNat, v145.toNat, 0]
def k0_off53 (k0_t6 : Fin k0_t6_loop.trips) : Fin 5 → Nat :=
  let c1_81 : Index := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let v67 : Index := Scalar.indexCast v24
  let c0_82 : Index := 0#32
  let c128 : Index := 128#32
  let c0_83 : Index := 0#32
  ![1, v67.toNat, 0, 128, 0]
def k0_off54 (k0_t6 : Fin k0_t6_loop.trips) : Fin 5 → Nat :=
  let c1_88 : Index := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c1_i32_34 : BitVec 32 := 1#32
  let v25 : BitVec 32 := Scalar.addi v24 c1_i32_34
  let v76 : Index := Scalar.indexCast v25
  let c0_89 : Index := 0#32
  let c128_90 : Index := 128#32
  let c0_91 : Index := 0#32
  ![1, v76.toNat, 0, 128, 0]
def k0_off55 (k0_t6 : Fin k0_t6_loop.trips) : Fin 5 → Nat :=
  let c1_118 : Index := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let v95 : Index := Scalar.indexCast v24
  let c0_119 : Index := 0#32
  let c129 : Index := 129#32
  let c0_120 : Index := 0#32
  ![1, v95.toNat, 0, 129, 0]
def k0_off56 (k0_t6 : Fin k0_t6_loop.trips) : Fin 3 → Nat :=
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let v100 : Index := Scalar.indexCast v24
  let c0_121 : Index := 0#32
  let c0_122 : Index := 0#32
  ![v100.toNat, 0, 0]
def k0_off57 (k0_t6 : Fin k0_t6_loop.trips) : Fin 5 → Nat :=
  let c1_127 : Index := 1#32
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c1_i32_34 : BitVec 32 := 1#32
  let v25 : BitVec 32 := Scalar.addi v24 c1_i32_34
  let v107 : Index := Scalar.indexCast v25
  let c0_128 : Index := 0#32
  let c129_129 : Index := 129#32
  let c0_130 : Index := 0#32
  ![1, v107.toNat, 0, 129, 0]
def k0_off58 (k0_t6 : Fin k0_t6_loop.trips) : Fin 3 → Nat :=
  let c2_i32_33 : BitVec 32 := 2#32
  let c0_i32_16 : BitVec 32 := 0#32
  let c1_i32_18 : BitVec 32 := 1#32
  let arg12 : BitVec 32 := Scf.iv c0_i32_16 c1_i32_18 k0_t6
  let v24 : BitVec 32 := Scalar.muli c2_i32_33 arg12
  let c1_i32_34 : BitVec 32 := 1#32
  let v25 : BitVec 32 := Scalar.addi v24 c1_i32_34
  let v112 : Index := Scalar.indexCast v25
  let c0_131 : Index := 0#32
  let c0_132 : Index := 0#32
  ![v112.toNat, 0, 0]
def k0_dev8 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_20 : BitVec 32 := 1#32
  let v16 : BitVec 32 := Scalar.muli v7 c1_i32_20
  let v17 : BitVec 32 := Scalar.addi c0_i32_21 v16
  v17.toNat
def k0_dev9 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_26 : BitVec 32 := 1#32
  let v20 : BitVec 32 := Scalar.muli v5 c1_i32_26
  let v21 : BitVec 32 := Scalar.addi c0_i32_27 v20
  v21.toNat
def k0_dev10 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v22 : BitVec 32 := Scalar.muli v7 c1_i32_29
  let v23 : BitVec 32 := Scalar.addi c0_i32_30 v22
  v23.toNat
abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x4096x1024 : Shape := ⟨3, ![1, 4096, 1024]⟩
abbrev S1024x1024 : Shape := ⟨2, ![1024, 1024]⟩
abbrev S1x65536x8x128 : Shape := ⟨4, ![1, 65536, 8, 128]⟩
abbrev S1x4096x8x128 : Shape := ⟨4, ![1, 4096, 8, 128]⟩
abbrev S1x8x4096x65536 : Shape := ⟨4, ![1, 8, 4096, 65536]⟩
abbrev S_ : Shape := ⟨0, ![]⟩
abbrev S1x8x4096 : Shape := ⟨3, ![1, 8, 4096]⟩
abbrev S1x8x4096x1 : Shape := ⟨4, ![1, 8, 4096, 1]⟩
abbrev S1x8x128x4096 : Shape := ⟨4, ![1, 8, 128, 4096]⟩
abbrev S1x4096x8x1 : Shape := ⟨4, ![1, 4096, 8, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1x65536x8x128, .f32⟩
  | .hbm, ⟨3, _⟩ => ⟨S1x65536x8x128, .f32⟩
  | .hbm, ⟨4, _⟩ => ⟨S1024x1024, .f32⟩
  | .hbm, ⟨5, _⟩ => ⟨S1x4096x1024, .f32⟩
  | .hbm, ⟨6, _⟩ => ⟨S1x4096x8x128, .f32⟩
  | .hbm, ⟨7, _⟩ => ⟨S1x8x4096x65536, .f32⟩
  | .hbm, ⟨8, _⟩ => ⟨S_, .f32⟩
  | .hbm, ⟨9, _⟩ => ⟨S1x8x4096x65536, .f32⟩
  | .hbm, ⟨10, _⟩ => ⟨S1x8x4096x65536, .f32⟩
  | .hbm, ⟨11, _⟩ => ⟨S_, .f32⟩
  | .hbm, ⟨12, _⟩ => ⟨S1x8x4096, .f32⟩
  | .hbm, ⟨13, _⟩ => ⟨S1x8x4096x1, .f32⟩
  | .hbm, ⟨14, _⟩ => ⟨S1x8x4096x65536, .f32⟩
  | .hbm, ⟨15, _⟩ => ⟨S1x8x4096x65536, .f32⟩
  | .hbm, ⟨16, _⟩ => ⟨S1x8x4096x65536, .f32⟩
  | .hbm, ⟨17, _⟩ => ⟨S_, .f32⟩
  | .hbm, ⟨18, _⟩ => ⟨S1x8x4096, .f32⟩
  | .hbm, ⟨19, _⟩ => ⟨S1x8x4096x1, .f32⟩
  | .hbm, ⟨20, _⟩ => ⟨S1x8x128x4096, .f32⟩
  | .hbm, ⟨21, _⟩ => ⟨S1x4096x8x128, .f32⟩
  | .hbm, ⟨22, _⟩ => ⟨S1x4096x8x1, .f32⟩
  | .hbm, ⟨23, _⟩ => ⟨S1x4096x8x128, .f32⟩
  | .hbm, ⟨24, _⟩ => ⟨S1x4096x8x128, .f32⟩
  | .hbm, ⟨25, _⟩ => ⟨S1x4096x1024, .f32⟩
  | .hbm, ⟨26, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Cells.lean ====
/-
  The ring the kernel runs on, its semaphores by name, and the slots of its block buffer.

  Sixteen devices stand in a ring. Every device keeps a block buffer of two slots by eight heads; a slot
  of a head is 2 × 136 × 256 numbers: the query block, the running maximum and the running sum in part 0
  (rows 0–127, 128 and 129), the running weighted sum in part 1 (rows 0–127).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Kit
public import Idealize.ShloMosaic.Lib.Pipeline.Regions
public import Idealize.ShloMosaic.Lib.Pipeline.RegionTalk
public import Idealize.ShloMosaic.Lib.Pipeline.Value
public import Idealize.ShloMosaic.Lib.Rounds
public import Idealize.ShloMosaic.Lib.Release
public import Idealize.ShloMosaic.Lib.StableHlo
public import Idealize.ShloMosaic.Lib.Tactic
public import Idealize.ShloMosaic.Lib.Pointwise.Reshape

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The ring -/

/-- The device before `c` on the ring. -/
def lft (c : Dev nD) : Dev nD := ⟨(c.val + 15) % 16, Nat.mod_lt _ (by decide)⟩
/-- The device after `c` on the ring. -/
def rgt (c : Dev nD) : Dev nD := ⟨(c.val + 1) % 16, Nat.mod_lt _ (by decide)⟩

theorem lft_rgt (c : Dev nD) : lft (rgt c) = c := by revert c; decide
theorem rgt_lft (c : Dev nD) : rgt (lft c) = c := by revert c; decide
theorem lft_ne_rgt (c : Dev nD) : lft c ≠ rgt c := by revert c; decide
/-- Going once round, as a rearrangement of the devices. -/
def ring : Dev nD ≃ Dev nD := ⟨rgt, lft, lft_rgt, rgt_lft⟩

theorem dev1 (c : Dev nD) (h : k0_dev1 c < nD) : (⟨k0_dev1 c, h⟩ : Dev nD) = lft c := Fin.ext (Gen.k0_dev1_eq c)
theorem dev2 (c : Dev nD) (h : k0_dev2 c < nD) : (⟨k0_dev2 c, h⟩ : Dev nD) = rgt c := Fin.ext (Gen.k0_dev2_eq c)
theorem dev3 (c : Dev nD) (h : k0_dev3 c < nD) : (⟨k0_dev3 c, h⟩ : Dev nD) = rgt c := Fin.ext (Gen.k0_dev3_eq c)
theorem dev4 (c : Dev nD) (h : k0_dev4 c < nD) : (⟨k0_dev4 c, h⟩ : Dev nD) = rgt c := Fin.ext (Gen.k0_dev4_eq c)
theorem dev5 (c : Dev nD) (h : k0_dev5 c < nD) : (⟨k0_dev5 c, h⟩ : Dev nD) = lft c := Fin.ext (Gen.k0_dev5_eq c)
theorem dev6 (c : Dev nD) (h : k0_dev6 c < nD) : (⟨k0_dev6 c, h⟩ : Dev nD) = rgt c := Fin.ext (Gen.k0_dev6_eq c)
theorem dev7 (c : Dev nD) (h : k0_dev7 c < nD) : (⟨k0_dev7 c, h⟩ : Dev nD) = rgt c := Fin.ext (Gen.k0_dev7_eq c)
theorem dev8 (c : Dev nD) (h : k0_dev8 c < nD) : (⟨k0_dev8 c, h⟩ : Dev nD) = rgt c := Fin.ext (Gen.k0_dev8_eq c)
theorem dev9 (c : Dev nD) (h : k0_dev9 c < nD) : (⟨k0_dev9 c, h⟩ : Dev nD) = lft c := Fin.ext (Gen.k0_dev9_eq c)
theorem dev10 (c : Dev nD) (h : k0_dev10 c < nD) : (⟨k0_dev10 c, h⟩ : Dev nD) = rgt c := Fin.ext (Gen.k0_dev10_eq c)

/-! ## The resource algebra -/

/-- A slot by device, slot number and head. -/
abbrev Key : Type := Dev nD × ℕ × ℕ

/-- The pipeline's rounds, the ring's rounds, and the slots' writers and readers. -/
abbrev UU : Type := UR sig nD τ × (Rounds.URounds (GSem nD τ sig) ℕ × Release.USlots Key)

/-! ## The semaphores -/

/-- The semaphore that tells the sender of slot `s` of head `h` that its source is free again. -/
def sS (s h : ℕ) : DmaSem sig := ⟨4 + 8 * (s % 2) + h % 8, by show _ < 38; omega⟩
/-- The semaphore that tells that slot `s` of head `h` has been filled. -/
def rS (s h : ℕ) : DmaSem sig := ⟨20 + 8 * (s % 2) + h % 8, by show _ < 38; omega⟩
/-- The two semaphores of the copy of the finished block. -/
abbrev fS : DmaSem sig := cc0_scratch4.sem
abbrev frS : DmaSem sig := cc0_scratch5.sem
/-- The credit and the exit semaphore. -/
abbrev crS : Sem sig := cc0_scratch6.sem
abbrev exS : Sem sig := cc0_scratch7.sem

theorem fS_val : fS.val = 36 := by decide
theorem frS_val : frS.val = 37 := by decide
theorem crS_eq : crS = (0 : Fin 3) := by decide
theorem exS_eq : exS = (1 : Fin 3) := by decide

theorem sem_inb : ∀ (s : Fin 2) (h : Fin 8), ∀ i, (![s.val, h.val] : Fin 2 → ℕ) i + S1x1.size i ≤ S2x8.size i := by decide

theorem send_sem_fin : ∀ (s : Fin 2) (h : Fin 8),
    ((cc0_scratch2.slice (Rect.unit (s := S2x8) ![s.val, h.val] S1x1.size (sem_inb s h))).squeeze S_ squeezes_S1x1_S_).sem = sS s h := by
  decide +kernel

theorem send_sem (off : Fin 2 → ℕ) (s h : ℕ) (hs : s < 2) (hh : h < 8) (e : off = ![s, h]) (inb : ∀ i, off i + S1x1.size i ≤ S2x8.size i) :
    ((cc0_scratch2.slice (Rect.unit (s := S2x8) off S1x1.size inb)).squeeze S_ squeezes_S1x1_S_).sem = sS s h := by
  subst e
  exact send_sem_fin ⟨s, hs⟩ ⟨h, hh⟩

theorem recv_sem_fin : ∀ (s : Fin 2) (h : Fin 8),
    ((cc0_scratch3.slice (Rect.unit (s := S2x8) ![s.val, h.val] S1x1.size (sem_inb s h))).squeeze S_ squeezes_S1x1_S_).sem = rS s h := by
  decide +kernel

theorem recv_sem (off : Fin 2 → ℕ) (s h : ℕ) (hs : s < 2) (hh : h < 8) (e : off = ![s, h]) (inb : ∀ i, off i + S1x1.size i ≤ S2x8.size i) :
    ((cc0_scratch3.slice (Rect.unit (s := S2x8) off S1x1.size inb)).squeeze S_ squeezes_S1x1_S_).sem = rS s h := by
  subst e
  exact recv_sem_fin ⟨s, hs⟩ ⟨h, hh⟩

/-! ## The slots -/

abbrev blk : Memref sig .tc .vmem S2x8x2x136x256 .f32 := Memref.whole cc0_scratch0
abbrev fin : Memref sig .tc .vmem S8x128x256 .f32 := Memref.whole cc0_scratch1
abbrev qM : Memref sig .tc .vmem S8x128x256 .f32 := Memref.whole cc0_stg0_0
abbrev kM : Memref sig .tc .vmem S8x4096x128 .f32 := Memref.whole cc0_stg1_0
abbrev vM : Memref sig .tc .vmem S8x4096x128 .f32 := Memref.whole cc0_stg2_0
abbrev oM : Memref sig .tc .vmem S8x128x256 .f32 := Memref.whole cc0_stg3_0

theorem slot_inb (s h : ℕ) : ∀ i, (![s % 2, h % 8, 0, 0, 0] : Fin 5 → ℕ) i + S1x1x2x136x256.size i ≤ S2x8x2x136x256.size i := by
  intro i
  fin_cases i
  · show s % 2 + 1 ≤ 2; omega
  · show h % 8 + 1 ≤ 8; omega
  · show 0 + 2 ≤ 2; omega
  · show 0 + 136 ≤ 136; omega
  · show 0 + 256 ≤ 256; omega

/-- Slot `s` of head `h` of the block buffer. -/
def slotM (s h : ℕ) : Memref sig .tc .vmem S2x136x256 .f32 :=
  (blk.slice (Rect.unit (s := S2x8x2x136x256) ![s % 2, h % 8, 0, 0, 0] S1x1x2x136x256.size (slot_inb s h)) (fun _ => rfl)).squeeze
    S2x136x256 squeezes_S1x1x2x136x256_S2x136x256

theorem slice_congr (off off' : Fin 5 → ℕ) (e : off = off') (inb : ∀ i, off i + S1x1x2x136x256.size i ≤ S2x8x2x136x256.size i)
    (inb' : ∀ i, off' i + S1x1x2x136x256.size i ≤ S2x8x2x136x256.size i) :
    (blk.slice (Rect.unit (s := S2x8x2x136x256) off S1x1x2x136x256.size inb) (fun _ => rfl) : Memref sig .tc .vmem S1x1x2x136x256 .f32)
      = blk.slice (Rect.unit (s := S2x8x2x136x256) off' S1x1x2x136x256.size inb') (fun _ => rfl) := by
  subst e; rfl

/-- A slice of the block buffer at the offsets of slot `s` of head `h` is that slot. -/
theorem slot_eq (off : Fin 5 → ℕ) (s h : ℕ) (hs : s < 2) (hh : h < 8) (e : off = ![s, h, 0, 0, 0])
    (inb : ∀ i, off i + S1x1x2x136x256.size i ≤ S2x8x2x136x256.size i) :
    (blk.slice (Rect.unit (s := S2x8x2x136x256) off S1x1x2x136x256.size inb) (fun _ => rfl)).squeeze S2x136x256 squeezes_S1x1x2x136x256_S2x136x256
      = slotM s h := by
  subst e
  unfold slotM
  have e2 : (![s % 2, h % 8, 0, 0, 0] : Fin 5 → ℕ) = ![s, h, 0, 0, 0] := by rw [Nat.mod_eq_of_lt hs, Nat.mod_eq_of_lt hh]
  exact congrArg (fun M : Memref sig .tc .vmem S1x1x2x136x256 .f32 => M.squeeze S2x136x256 squeezes_S1x1x2x136x256_S2x136x256) (slice_congr _ _ e2.symm _ _)

/-- The bytes one slot's copy is counted by, and the finished block's. -/
abbrev N : ℕ := (slotM 0 0).view.dmaCredit
abbrev NF : ℕ := oM.view.dmaCredit
theorem N_eq (s h : ℕ) : (slotM s h).view.dmaCredit = N := rfl
theorem N_pos : 0 < N := View.dmaCredit_pos _ (by decide)
theorem NF_pos : 0 < NF := View.dmaCredit_pos _ (by decide)

/-- The position in the block buffer of row `r`, column `x` of part `p` of slot `s` of head `h`. -/
abbrev at5 (s h : ℕ) (p : Fin 2) (r : Fin 136) (x : Fin 256) : S2x8x2x136x256.Idx :=
  ix5 (⟨s % 2, Nat.mod_lt _ (by decide)⟩ : Fin 2) (⟨h % 8, Nat.mod_lt _ (by decide)⟩ : Fin 8) p r x

theorem slot_emb (s h : ℕ) (j : S2x136x256.Idx) : (slotM s h).view.emb j = at5 s h (j 0) (j 1) (j 2) := by
  have e : Shape.reshapeEquiv (s := S1x1x2x136x256) (s' := S2x136x256) squeezes_S1x1x2x136x256_S2x136x256.numel_eq j = ix5 0 0 (j 0) (j 1) (j 2) := by
    simp only [pointwise]
  show (Rect.unit (s := S2x8x2x136x256) ![s % 2, h % 8, 0, 0, 0] S1x1x2x136x256.size (slot_inb s h)).emb (Shape.reshapeEquiv _ j) = _
  rw [e]
  funext a
  apply Fin.ext
  fin_cases a
  · exact Nat.add_zero _
  · exact Nat.add_zero _
  · exact (Nat.zero_add _).trans (Nat.one_mul _)
  · exact (Nat.zero_add _).trans (Nat.one_mul _)
  · exact (Nat.zero_add _).trans (Nat.one_mul _)

end Cert.KernelIdeal.Ring
-- ==== Proof.Steps.lean ====
/-
  One head's state on its way round the ring, and one chunk's step on it.

  A state is a query block (kept transposed: 128 features by 256 rows), the running maximum and the running
  sum of the exponentials, one per row, and the running weighted sum of the values. A device runs its 4096
  keys and values over a state in four chunks of 1024.
-/
module

public import proofs.«01_k».proof.Proof.Cells
public import Idealize.ShloMosaic.Lib.Pointwise.ShapeOps
public import Idealize.ShloMosaic.Lib.Pointwise.Elementwise

@[expose] public section

noncomputable section

namespace Cert.KernelIdeal.Ring

open Cert.KernelIdeal Cert.KernelIdeal.Facts₀
open Idealize.ShloMosaic Idealize.ShloMosaic.TcCoe

variable {F : FTy → Type} [FloatOps F]

/-- One head's state. -/
structure St (F : FTy → Type) where
  q : FVec F S128x256 .f32
  m : FVec F S1x256 .f32
  l : FVec F S1x256 .f32
  acc : FVec F S128x256 .f32

/-- The state after one chunk of keys `kc` and values `vc`. -/
def chunk (kc vc : Vec F S1x1024x128 .f32) (st : St F) : St F where
  q := st.q
  m := Gen.k0_pay2 st.q st.m kc
  l := Gen.k0_pay6 st.q st.m st.l kc
  acc := Gen.k0_pay5 st.q st.acc st.m kc vc

/-- Chunk `t` of head `h` of a device's keys, or values. -/
def chunkOf (k : S8x4096x128.Idx → Elt F .f32) (h t : ℕ) : Vec F S1x1024x128 .f32 :=
  fun j => k (ix3 (⟨h % 8, Nat.mod_lt _ (by decide)⟩ : Fin 8) (⟨(1024 * t + (j 1).val) % 4096, Nat.mod_lt _ (by decide)⟩ : Fin 4096) (j 2))

/-- The state after the first `t` chunks of head `h`. -/
def procTo (k v : S8x4096x128.Idx → Elt F .f32) (h : ℕ) (st : St F) : ℕ → St F
  | 0 => st
  | t + 1 => chunk (chunkOf k h t) (chunkOf v h t) (procTo k v h st t)

/-- The state after a device's keys and values. -/
abbrev proc (k v : S8x4096x128.Idx → Elt F .f32) (h : ℕ) (st : St F) : St F := procTo k v h st 4

/-- Head `h` of a query block. -/
def headOf (q : S8x128x256.Idx → Elt F .f32) (h : ℕ) : FVec F S128x256 .f32 :=
  fun j => q (ix3 (⟨h % 8, Nat.mod_lt _ (by decide)⟩ : Fin 8) (j 0) (j 1))

/-- The state a query block starts from. -/
def start (q : S8x128x256.Idx → Elt F .f32) (h : ℕ) : St F where
  q := headOf q h
  m := fun _ => Scalar.ofBits .f32 0xF149F2CA#32
  l := fun _ => Scalar.ofBits .f32 0x00000000#32
  acc := fun _ => Scalar.ofBits .f32 0x00000000#32

/-- The result of a state: the weighted sum over the sum. -/
def out (st : St F) : FVec F S128x256 .f32 := fun j => FloatOps.divf (st.acc j) (st.l (ix2 0 (j 1)))

/-! ## What the kernel's pure parts read, at a point -/

theorem pay22_apply (v : Vec F S1x1x1x136x256 .f32) (i : Fin 128) (x : Fin 256) :
    Gen.k0_pay22 v (ix2 i x) = v (ix5 0 0 0 (⟨i.val, by omega⟩ : Fin 136) x) := by
  unfold Gen.k0_pay22 Gen.k0_pay20
  simp only [pointwise]
  congr!
  all_goals exact Nat.zero_add _

theorem pay25_apply (v : Vec F S1x1x1x136x256 .f32) (x : Fin 256) :
    Gen.k0_pay25 (Gen.k0_pay20 v) (ix2 0 x) = v (ix5 0 0 0 (⟨128, by decide⟩ : Fin 136) x) := by
  unfold Gen.k0_pay25 Gen.k0_pay20
  simp only [pointwise]
  congr!
  all_goals exact Nat.zero_add _

theorem pay26_apply (v : Vec F S1x1x1x136x256 .f32) (x : Fin 256) :
    Gen.k0_pay26 (Gen.k0_pay20 v) (ix2 0 x) = v (ix5 0 0 0 (⟨129, by decide⟩ : Fin 136) x) := by
  unfold Gen.k0_pay26 Gen.k0_pay20
  simp only [pointwise]
  congr!
  all_goals exact Nat.zero_add _

theorem pay24_apply (v : Vec F S1x1x1x128x256 .f32) (i : Fin 128) (x : Fin 256) : Gen.k0_pay24 v (ix2 i x) = v (ix5 0 0 0 i x) := by
  unfold Gen.k0_pay24
  simp only [pointwise]

theorem pay32_apply (a : FVec F S128x256 .f32) (i : Fin 128) (x : Fin 256) : Gen.k0_pay32 a (ix5 0 0 0 i x) = a (ix2 i x) := by
  unfold Gen.k0_pay32
  simp only [pointwise]

theorem pay33_apply0 (m l : FVec F S1x256 .f32) (x : Fin 256) : Gen.k0_pay33 m l (ix5 0 0 0 0 x) = m (ix2 0 x) := by
  unfold Gen.k0_pay33
  simp only [pointwise]
  exact concatenate_pair_apply_left (t := S2x256) 0 m l _ (ix2 0 x) rfl (ix2 0 x) (fun b => by fin_cases b <;> rfl)

theorem pay33_apply1 (m l : FVec F S1x256 .f32) (x : Fin 256) : Gen.k0_pay33 m l (ix5 0 0 0 1 x) = l (ix2 0 x) := by
  unfold Gen.k0_pay33
  simp only [pointwise]
  exact concatenate_pair_apply_right (t := S2x256) 0 m l _ (ix2 1 x) rfl rfl (ix2 0 x) (fun b hb => by fin_cases b <;> first | rfl | exact absurd rfl hb) rfl

theorem pay15_apply (v : Vec F S1x128x256 .f32) (i : Fin 128) (x : Fin 256) : Gen.k0_pay15 v (ix2 i x) = v (ix3 0 i x) := by
  unfold Gen.k0_pay15
  simp only [pointwise]

theorem pay12_apply (x : Fin 256) : Gen.k0_pay12 (F := F) (ix5 0 0 0 0 x) = Scalar.ofBits .f32 0xF149F2CA#32 := by
  unfold Gen.k0_pay12
  simp only [pointwise]

theorem pay13_apply (x : Fin 256) : Gen.k0_pay13 (F := F) (ix5 0 0 0 0 x) = Scalar.ofBits .f32 0x00000000#32 := by
  unfold Gen.k0_pay13
  simp only [pointwise]

theorem pay14_apply (r : Fin 136) (x : Fin 256) : Gen.k0_pay14 (F := F) (ix5 0 0 0 r x) = Scalar.ofBits .f32 0x00000000#32 := by
  unfold Gen.k0_pay14
  simp only [pointwise]

theorem pay90_apply (v : Vec F S1x1x1x128x256 .f32) (w : Vec F S1x1x1x1x256 .f32) (i : Fin 128) (x : Fin 256) :
    Gen.k0_pay90 (Gen.k0_pay89 v w) (ix3 0 i x) = FloatOps.divf (v (ix5 0 0 0 i x)) (w (ix5 0 0 0 0 x)) := by
  unfold Gen.k0_pay89 Gen.k0_pay90
  simp only [pointwise]
  rfl

/-! ## The values the chunk loops carry

The same step is printed once per loop and per unrolled head; the copies are one function. -/

/-- What a chunk loop carries: the two heads' weighted sum, maximum and sum. -/
abbrev Carried (F : FTy → Type) : Type :=
  FVec F S128x256 .f32 × FVec F S1x256 .f32 × FVec F S1x256 .f32 × FVec F S128x256 .f32 × FVec F S1x256 .f32 × FVec F S1x256 .f32

def carry (a b : St F) : Carried F := (a.acc, a.m, a.l, b.acc, b.m, b.l)

theorem carry_t2 (a b : St F) (k0 v0 k1 v1 : Vec F S1x1024x128 .f32) :
    (Gen.k0_pay5 a.q a.acc a.m k0 v0, Gen.k0_pay2 a.q a.m k0, Gen.k0_pay6 a.q a.m a.l k0,
      Gen.k0_pay30 b.acc (Gen.k0_pay9 b.q b.m k1) (Gen.k0_pay10 b.q b.m k1) v1, Gen.k0_pay8 b.q b.m k1,
      Gen.k0_pay31 b.l (Gen.k0_pay9 b.q b.m k1) (Gen.k0_pay10 b.q b.m k1)) = carry (chunk k0 v0 a) (chunk k1 v1 b) := rfl

theorem carry_t5 (a b : St F) (k0 v0 k1 v1 : Vec F S1x1024x128 .f32) :
    (Gen.k0_pay40 a.q a.acc a.m k0 v0, Gen.k0_pay37 a.q a.m k0, Gen.k0_pay41 a.q a.m a.l k0,
      Gen.k0_pay56 b.acc (Gen.k0_pay44 b.q b.m k1) (Gen.k0_pay45 b.q b.m k1) v1, Gen.k0_pay43 b.q b.m k1,
      Gen.k0_pay57 b.l (Gen.k0_pay44 b.q b.m k1) (Gen.k0_pay45 b.q b.m k1)) = carry (chunk k0 v0 a) (chunk k1 v1 b) := rfl

theorem carry_t7 (a b : St F) (k0 v0 k1 v1 : Vec F S1x1024x128 .f32) :
    (Gen.k0_pay66 a.q a.acc a.m k0 v0, Gen.k0_pay63 a.q a.m k0, Gen.k0_pay67 a.q a.m a.l k0,
      Gen.k0_pay82 b.acc (Gen.k0_pay70 b.q b.m k1) (Gen.k0_pay71 b.q b.m k1) v1, Gen.k0_pay69 b.q b.m k1,
      Gen.k0_pay83 b.l (Gen.k0_pay70 b.q b.m k1) (Gen.k0_pay71 b.q b.m k1)) = carry (chunk k0 v0 a) (chunk k1 v1 b) := rfl

/-- The query block never changes. -/
theorem procTo_q (k v : S8x4096x128.Idx → Elt F .f32) (h : ℕ) (st : St F) : ∀ t, (procTo k v h st t).q = st.q
  | 0 => rfl
  | t + 1 => procTo_q k v h st t

end Cert.KernelIdeal.Ring
-- ==== Proof.Slot.lean ====
/-
  A slot of the block buffer and the state it holds: the rows a load reads, the rows a store writes, and
  what a copy between two slots carries over.
-/
module

public import proofs.«01_k».proof.Proof.Steps

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- `n` rows of one part of a slot, as the kernel loads and stores them. -/
abbrev rowsS (n : ℕ) : Shape := ⟨5, ![1, 1, 1, n, 256]⟩

/-- Such rows of the block buffer, from the offsets `off` on. -/
abbrev rows (n : ℕ) (off : Fin 5 → ℕ) (inb : ∀ i, off i + (rowsS n).size i ≤ S2x8x2x136x256.size i) : Rect S2x8x2x136x256 :=
  Rect.unit (s := S2x8x2x136x256) off (rowsS n).size inb

section Rows

variable {n : ℕ} {off : Fin 5 → ℕ} {s h r0 : ℕ} {p : Fin 2} {inb : ∀ i, off i + (rowsS n).size i ≤ S2x8x2x136x256.size i}

theorem rows_le (e : off = ![s, h, p.val, r0, 0]) (inb : ∀ i, off i + (rowsS n).size i ≤ S2x8x2x136x256.size i) : r0 + n ≤ 136 := by
  subst e; exact inb 3

theorem rows_emb (e : off = ![s, h, p.val, r0, 0]) (i : Fin n) (x : Fin 256) :
    (rows n off inb).emb (ix5 0 0 0 i x) = at5 s h p ⟨r0 + i.val, by have := rows_le e inb; omega⟩ x := by
  subst e
  have hs : s + 1 ≤ 2 := inb 0
  have hh : h + 1 ≤ 8 := inb 1
  funext a
  apply Fin.ext
  fin_cases a
  · show s + 1 * 0 = s % 2; omega
  · show h + 1 * 0 = h % 8; omega
  · exact Nat.add_zero _
  · show r0 + 1 * i.val = r0 + i.val; omega
  · show 0 + 1 * x.val = x.val; omega

theorem at5_mem (s h : ℕ) (p : Fin 2) (r : Fin 136) (x : Fin 256) : at5 s h p r x ∈ (slotM s h).view.set :=
  Finset.mem_map.mpr ⟨ix3 p r x, Finset.mem_univ _, slot_emb s h (ix3 p r x)⟩

theorem rows_sub (e : off = ![s, h, p.val, r0, 0]) : ((blk).access (rows n off inb)).set ⊆ (slotM s h).view.set := by
  intro y hy
  obtain ⟨j, -, rfl⟩ := Finset.mem_map.mp hy
  have : (blk.access (rows n off inb)).emb j = at5 s h p ⟨r0 + (j 3).val, by have := rows_le e inb; have := (j 3).isLt; simp at this; omega⟩ (j 4) := by
    refine Eq.trans ?_ (rows_emb (inb := inb) e (j 3) (j 4))
    show (rows n off inb).emb j = (rows n off inb).emb _
    congr 1
    funext a
    fin_cases a
    · exact Fin.ext (Nat.lt_one_iff.mp (j 0).isLt)
    · exact Fin.ext (Nat.lt_one_iff.mp (j 1).isLt)
    · exact Fin.ext (Nat.lt_one_iff.mp (j 2).isLt)
    · rfl
    · rfl
  rw [this]; exact at5_mem ..

/-- What a load of rows reads. -/
theorem rows_read (e : off = ![s, h, p.val, r0, 0]) (f : S2x8x2x136x256.Idx → Elt F .f32) (i : Fin n) (x : Fin 256) :
    (blk.access (rows n off inb)).read (Elt F) f (ix5 0 0 0 i x) = f (at5 s h p ⟨r0 + i.val, by have := rows_le e inb; omega⟩ x) := by
  rw [View.read_apply]
  exact congrArg f (rows_emb (inb := inb) e i x)

/-- What a store of rows leaves on its rows, -/
theorem rows_write_hit (e : off = ![s, h, p.val, r0, 0]) (f : S2x8x2x136x256.Idx → Elt F .f32) (w : (rowsS n).Idx → Elt F .f32) (i : Fin n) (x : Fin 256) :
    (blk.access (rows n off inb)).write (Elt F) f w Finset.univ (at5 s h p ⟨r0 + i.val, by have := rows_le e inb; omega⟩ x) = w (ix5 0 0 0 i x) := by
  have := View.write_emb_of_mem (v := blk.access (rows n off inb)) (Val := Elt F) f w (Finset.mem_univ (ix5 0 0 0 i x : (rowsS n).Idx))
  rwa [show (blk.access (rows n off inb)).emb (ix5 0 0 0 i x) = _ from rows_emb (inb := inb) e i x] at this

/-- and elsewhere. -/
theorem rows_write_miss (e : off = ![s, h, p.val, r0, 0]) (f : S2x8x2x136x256.Idx → Elt F .f32) (w : (rowsS n).Idx → Elt F .f32)
    (p' : Fin 2) (r : Fin 136) (x : Fin 256) (hm : p' ≠ p ∨ r.val < r0 ∨ r0 + n ≤ r.val) :
    (blk.access (rows n off inb)).write (Elt F) f w Finset.univ (at5 s h p' r x) = f (at5 s h p' r x) := by
  refine View.write_of_not_mem _ _ _ ?_
  rw [View.setOn_univ]
  intro hy
  obtain ⟨j, -, hj⟩ := Finset.mem_map.mp hy
  have h2 := congrArg (fun y : S2x8x2x136x256.Idx => (y 2).val) hj
  have h3 := congrArg (fun y : S2x8x2x136x256.Idx => (y 3).val) hj
  subst e
  have j2 : (j 2).val = 0 := Nat.lt_one_iff.mp (j 2).isLt
  have j3 : (j 3).val < n := (j 3).isLt
  have h2' : p.val + 1 * (j 2).val = p'.val := h2
  have h3' : r0 + 1 * (j 3).val = r.val := h3
  rcases hm with h | h | h
  · exact h (Fin.ext (by omega))
  · omega
  · omega

end Rows

/-! ## The state a slot holds -/

/-- The block buffer holds the state `st` in slot `s` of head `h`. -/
structure Rep (s h : ℕ) (f : S2x8x2x136x256.Idx → Elt F .f32) (st : St F) : Prop where
  q : ∀ (i : Fin 128) (x : Fin 256), f (at5 s h 0 ⟨i.val, by omega⟩ x) = st.q (ix2 i x)
  m : ∀ x : Fin 256, f (at5 s h 0 ⟨128, by omega⟩ x) = st.m (ix2 0 x)
  l : ∀ x : Fin 256, f (at5 s h 0 ⟨129, by omega⟩ x) = st.l (ix2 0 x)
  acc : ∀ (i : Fin 128) (x : Fin 256), f (at5 s h 1 ⟨i.val, by omega⟩ x) = st.acc (ix2 i x)

/-- It holds the state's queries and weighted sum; the maximum and the sum are still to be stored. -/
structure Half (s h : ℕ) (f : S2x8x2x136x256.Idx → Elt F .f32) (st : St F) : Prop where
  q : ∀ (i : Fin 128) (x : Fin 256), f (at5 s h 0 ⟨i.val, by omega⟩ x) = st.q (ix2 i x)
  acc : ∀ (i : Fin 128) (x : Fin 256), f (at5 s h 1 ⟨i.val, by omega⟩ x) = st.acc (ix2 i x)

/-- Slot `s` of head `h` on device `c`, with the block buffer's contents `f` there. -/
abbrev slotBuf (c : Dev nD) (s h : ℕ) (f : S2x8x2x136x256.Idx → Elt F .f32) : sProp 𝕄 :=
  (slotM s h).view.loc (c : Thread nD τ) ↦[(slotM s h).view.set]{fullShare} f

/-- Slot `s` of head `h` on device `c`, holding the state `st`. -/
def slotAt (c : Dev nD) (s h : ℕ) (st : St F) : sProp 𝕄 := iprop(∃ f, ⌜Rep s h f st⌝ ∗ slotBuf c s h f)

/-- Slot `s` of head `h` on device `c`, at any contents. -/
def slotAny (c : Dev nD) (s h : ℕ) : sProp 𝕄 := iprop(∃ f, slotBuf (F := F) c s h f)

def slotHalf (c : Dev nD) (s h : ℕ) (st : St F) : sProp 𝕄 := iprop(∃ f, ⌜Half s h f st⌝ ∗ slotBuf c s h f)

theorem slotAt_any (c : Dev nD) (s h : ℕ) (st : St F) : slotAt c s h st ⊢ slotAny (F := F) c s h := by
  unfold slotAt slotAny
  iintro ⟨%f, -, H⟩
  iexists f; iexact H

theorem eq_ix2 {m n : ℕ} {α : Type} {f g : (⟨2, ![m, n]⟩ : Shape).Idx → α} (h : ∀ i x, f (ix2 i x) = g (ix2 i x)) : f = g := by
  funext j
  have := h (j 0) (j 1)
  rwa [show (ix2 (j 0) (j 1) : (⟨2, ![m, n]⟩ : Shape).Idx) = j from ix2_eta j] at this

section Loads

variable {off : Fin 5 → ℕ} {s h : ℕ} {f : S2x8x2x136x256.Idx → Elt F .f32} {st : St F}

/-- The first 136 rows of part 0 are the queries, the maximum and the sum. -/
theorem Rep.read_head (R : Rep s h f st) (e : off = ![s, h, 0, 0, 0]) (inb : ∀ i, off i + (rowsS 136).size i ≤ S2x8x2x136x256.size i) :
    Gen.k0_pay22 ((blk.access (rows 136 off inb)).read (Elt F) f) = st.q
      ∧ Gen.k0_pay25 (Gen.k0_pay20 ((blk.access (rows 136 off inb)).read (Elt F) f)) = st.m
      ∧ Gen.k0_pay26 (Gen.k0_pay20 ((blk.access (rows 136 off inb)).read (Elt F) f)) = st.l := by
  refine ⟨eq_ix2 fun i x => ?_, eq_ix2 fun i x => ?_, eq_ix2 fun i x => ?_⟩
  · rw [pay22_apply, rows_read (p := 0) e]
    simpa only [Nat.zero_add] using R.q i x
  · obtain rfl : i = 0 := Subsingleton.elim _ _
    rw [pay25_apply, rows_read (p := 0) e]
    exact R.m x
  · obtain rfl : i = 0 := Subsingleton.elim _ _
    rw [pay26_apply, rows_read (p := 0) e]
    exact R.l x

/-- The first 128 rows of part 1 are the weighted sum. -/
theorem Rep.read_acc (R : Rep s h f st) (e : off = ![s, h, 1, 0, 0]) (inb : ∀ i, off i + (rowsS 128).size i ≤ S2x8x2x136x256.size i) :
    Gen.k0_pay24 ((blk.access (rows 128 off inb)).read (Elt F) f) = st.acc := by
  refine eq_ix2 fun i x => ?_
  rw [pay24_apply, rows_read (p := 1) e]
  simpa only [Nat.zero_add] using R.acc i x

/-- The result of a state, from the slot that holds it. -/
theorem Rep.read_out (R : Rep s h f st) {off' : Fin 5 → ℕ} (e : off = ![s, h, 1, 0, 0]) (e' : off' = ![s, h, 0, 129, 0])
    (inb : ∀ i, off i + (rowsS 128).size i ≤ S2x8x2x136x256.size i) (inb' : ∀ i, off' i + (rowsS 1).size i ≤ S2x8x2x136x256.size i)
    (i : Fin 128) (x : Fin 256) :
    Gen.k0_pay90 (Gen.k0_pay89 ((blk.access (rows 128 off inb)).read (Elt F) f) ((blk.access (rows 1 off' inb')).read (Elt F) f)) (ix3 0 i x)
      = out st (ix2 i x) := by
  rw [pay90_apply, rows_read (p := 1) e, rows_read (p := 0) e']
  have := R.acc i x
  simp only [Nat.zero_add] at this ⊢
  rw [this]
  exact congrArg (FloatOps.divf _) (R.l x)

/-- The store of the weighted sum leaves the queries as they were, -/
theorem Rep.write_acc (R : Rep s h f st) (e : off = ![s, h, 1, 0, 0]) (inb : ∀ i, off i + (rowsS 128).size i ≤ S2x8x2x136x256.size i)
    (st' : St F) (hq : st'.q = st.q) :
    Half s h ((blk.access (rows 128 off inb)).write (Elt F) f (Gen.k0_pay32 st'.acc) Finset.univ) st' where
  q i x := by
    rw [rows_write_miss (p := 1) e _ _ _ _ _ (.inl (by decide)), hq]
    exact R.q i x
  acc i x := by
    have := rows_write_hit (p := 1) (inb := inb) e f (Gen.k0_pay32 st'.acc) i x
    simp only [Nat.zero_add] at this
    rw [this, pay32_apply]

/-- and the store of the maximum and the sum completes the state. -/
theorem Half.write_ml (R : Half s h f st) (e : off = ![s, h, 0, 128, 0]) (inb : ∀ i, off i + (rowsS 2).size i ≤ S2x8x2x136x256.size i) :
    Rep s h ((blk.access (rows 2 off inb)).write (Elt F) f (Gen.k0_pay33 st.m st.l) Finset.univ) st where
  q i x := by
    rw [rows_write_miss (p := 0) e _ _ _ _ _ (.inr (.inl i.isLt))]
    exact R.q i x
  m x := by
    refine (rows_write_hit (p := 0) (inb := inb) e _ _ 0 x).trans ?_
    rw [pay33_apply0]
  l x := by
    refine (rows_write_hit (p := 0) (inb := inb) e _ _ 1 x).trans ?_
    rw [pay33_apply1]
  acc i x := by
    rw [rows_write_miss (p := 0) e _ _ _ _ _ (.inl (by decide))]
    exact R.acc i x

end Loads

/-- The five stores that start a slot. -/
theorem Rep.write_start {o1 o2 o3 o4 : Fin 5 → ℕ} {s h : ℕ} (f : S2x8x2x136x256.Idx → Elt F .f32) (q : S8x128x256.Idx → Elt F .f32)
    (e1 : o1 = ![s, h, 0, 0, 0]) (e2 : o2 = ![s, h, 0, 128, 0]) (e3 : o3 = ![s, h, 0, 129, 0]) (e4 : o4 = ![s, h, 1, 0, 0])
    (i1 : ∀ i, o1 i + (rowsS 128).size i ≤ S2x8x2x136x256.size i) (i2 : ∀ i, o2 i + (rowsS 1).size i ≤ S2x8x2x136x256.size i)
    (i3 : ∀ i, o3 i + (rowsS 1).size i ≤ S2x8x2x136x256.size i) (i4 : ∀ i, o4 i + (rowsS 136).size i ≤ S2x8x2x136x256.size i) :
    Rep s h ((blk.access (rows 136 o4 i4)).write (Elt F) ((blk.access (rows 1 o3 i3)).write (Elt F) ((blk.access (rows 1 o2 i2)).write (Elt F)
      ((blk.access (rows 128 o1 i1)).write (Elt F) f (Gen.k0_pay16 (headOf q h)) Finset.univ) Gen.k0_pay12 Finset.univ) Gen.k0_pay13 Finset.univ)
      Gen.k0_pay14 Finset.univ) (start q h) where
  q i x := by
    rw [rows_write_miss (p := 1) e4 _ _ _ _ _ (.inl (by decide)), rows_write_miss (p := 0) e3 _ _ _ _ _ (.inr (.inl (by have := i.isLt; show i.val < 129; omega))),
      rows_write_miss (p := 0) e2 _ _ _ _ _ (.inr (.inl i.isLt))]
    have := rows_write_hit (p := 0) (inb := i1) e1 f (Gen.k0_pay16 (headOf q h)) i x
    simp only [Nat.zero_add] at this
    rw [this]
    exact pay32_apply (headOf q h) i x
  m x := by
    rw [rows_write_miss (p := 1) e4 _ _ _ _ _ (.inl (by decide)), rows_write_miss (p := 0) e3 _ _ _ _ _ (.inr (.inl (by decide)))]
    exact (rows_write_hit (p := 0) (inb := i2) e2 _ _ 0 x).trans (pay12_apply x)
  l x := by
    rw [rows_write_miss (p := 1) e4 _ _ _ _ _ (.inl (by decide))]
    exact (rows_write_hit (p := 0) (inb := i3) e3 _ _ 0 x).trans (pay13_apply x)
  acc i x := by
    have := rows_write_hit (p := 1) (inb := i4) e4 ((blk.access (rows 1 o3 i3)).write (Elt F) ((blk.access (rows 1 o2 i2)).write (Elt F)
      ((blk.access (rows 128 o1 i1)).write (Elt F) f (Gen.k0_pay16 (headOf q h)) Finset.univ) Gen.k0_pay12 Finset.univ) Gen.k0_pay13 Finset.univ)
      Gen.k0_pay14 (⟨i.val, by omega⟩ : Fin 136) x
    simp only [Nat.zero_add] at this
    rw [this, pay14_apply]
    rfl

/-- A copy of one slot into another carries the state over. -/
theorem Rep.copy {s h s' : ℕ} {f : S2x8x2x136x256.Idx → Elt F .f32} {st : St F} (R : Rep s h f st) (fd : S2x8x2x136x256.Idx → Elt F .f32) :
    Rep s' h ((slotM s' h).view.write (Elt F) fd ((slotM s h).view.read (Elt F) f) Finset.univ) st := by
  have key : ∀ (p : Fin 2) (r : Fin 136) (x : Fin 256),
      (slotM s' h).view.write (Elt F) fd ((slotM s h).view.read (Elt F) f) Finset.univ (at5 s' h p r x) = f (at5 s h p r x) := by
    intro p r x
    have := View.write_emb_of_mem (v := (slotM s' h).view) (Val := Elt F) fd ((slotM s h).view.read (Elt F) f) (Finset.mem_univ (ix3 p r x : S2x136x256.Idx))
    rw [slot_emb s' h (ix3 p r x)] at this
    exact this.trans (congrArg f (slot_emb s h (ix3 p r x)))
  exact ⟨fun i x => (key ..).trans (R.q i x), fun x => (key ..).trans (R.m x), fun x => (key ..).trans (R.l x), fun i x => (key ..).trans (R.acc i x)⟩

end Cert.KernelIdeal.Ring
-- ==== Proof.Compute.lean ====
/-
  The chunk loops and the loads and stores around them, on slots held: a device runs its keys and values over
  the states of two heads.
-/
module

public import proofs.«01_k».proof.Proof.Slot

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

abbrev 𝒱₀ : Variants := Variants.none

/-- A device's keys, and its values, in their staging buffers. -/
abbrev kBuf (c : Dev nD) (k : S8x4096x128.Idx → Elt F .f32) : sProp 𝕄 := (kM.view.loc (c : Thread nD τ)) ↦{fullShare} k
abbrev vBuf (c : Dev nD) (v : S8x4096x128.Idx → Elt F .f32) : sProp 𝕄 := (vM.view.loc (c : Thread nD τ)) ↦{fullShare} v

theorem chunk_emb {off : Fin 3 → ℕ} {h t : ℕ} (e : off = ![h, 1024 * t, 0]) (inb : ∀ i, off i + S1x1024x128.size i ≤ S8x4096x128.size i)
    (j : S1x1024x128.Idx) :
    (Rect.unit (s := S8x4096x128) off S1x1024x128.size inb).emb j
      = ix3 (⟨h % 8, Nat.mod_lt _ (by decide)⟩ : Fin 8) (⟨(1024 * t + (j 1).val) % 4096, Nat.mod_lt _ (by decide)⟩ : Fin 4096) (j 2) := by
  subst e
  have h0 : h + 1 ≤ 8 := inb 0
  have h1 : 1024 * t + 1024 ≤ 4096 := inb 1
  have j0 : (j 0).val < 1 := (j 0).isLt
  have j1 : (j 1).val < 1024 := (j 1).isLt
  funext a
  apply Fin.ext
  fin_cases a
  · show h + 1 * (j 0).val = h % 8; omega
  · show 1024 * t + 1 * (j 1).val = (1024 * t + (j 1).val) % 4096; omega
  · show 0 + 1 * (j 2).val = (j 2).val; omega

theorem k_read {off : Fin 3 → ℕ} {h t : ℕ} (e : off = ![h, 1024 * t, 0]) (inb : ∀ i, off i + S1x1024x128.size i ≤ S8x4096x128.size i)
    (k : S8x4096x128.Idx → Elt F .f32) :
    (kM.access (Rect.unit (s := S8x4096x128) off S1x1024x128.size inb)).read (Elt F) k = chunkOf k h t := by
  funext j
  rw [View.read_apply]
  exact congrArg k (chunk_emb e inb j)

theorem v_read {off : Fin 3 → ℕ} {h t : ℕ} (e : off = ![h, 1024 * t, 0]) (inb : ∀ i, off i + S1x1024x128.size i ≤ S8x4096x128.size i)
    (v : S8x4096x128.Idx → Elt F .f32) :
    (vM.access (Rect.unit (s := S8x4096x128) off S1x1024x128.size inb)).read (Elt F) v = chunkOf v h t := by
  funext j
  rw [View.read_apply]
  exact congrArg v (chunk_emb e inb j)

section Rules

variable {c : Dev nD} {α : Type}

theorem wp_load_k {off : Fin 3 → ℕ} {h t : ℕ} (e : off = ![h, 1024 * t, 0]) {inb : ∀ i, off i + S1x1024x128.size i ≤ S8x4096x128.size i}
    {hl : kM.view.LoadsAt (Rect.unit (s := S8x4096x128) off S1x1024x128.size inb).toLoadRect} {K : Vec F S1x1024x128 .f32 → Prog (TpuEff nD τ sig (Elt F) Λ₀ .tc) α} {Q : α → sProp 𝕄}
    {k : S8x4096x128.Idx → Elt F .f32} :
    kBuf c k ⊢ iprop((kBuf c k -∗ wp frame (wpE (defs₀ (F := F)) 𝒱₀ c none) Set.univ (K (chunkOf k h t)) Q)
      -∗ wp frame (wpE (defs₀ (F := F)) 𝒱₀ c none) Set.univ (.op (.load kM (Rect.unit (s := S8x4096x128) off S1x1024x128.size inb).toLoadRect hl) K) Q) := by
  rw [← k_read e inb k]
  exact wp_load_rect 𝒱₀ (c : Thread nD τ) none Set.univ (m := kM) (r := Rect.unit (s := S8x4096x128) off S1x1024x128.size inb) (k := K) (Finset.subset_univ _)

theorem wp_load_v {off : Fin 3 → ℕ} {h t : ℕ} (e : off = ![h, 1024 * t, 0]) {inb : ∀ i, off i + S1x1024x128.size i ≤ S8x4096x128.size i}
    {hl : vM.view.LoadsAt (Rect.unit (s := S8x4096x128) off S1x1024x128.size inb).toLoadRect} {K : Vec F S1x1024x128 .f32 → Prog (TpuEff nD τ sig (Elt F) Λ₀ .tc) α} {Q : α → sProp 𝕄}
    {v : S8x4096x128.Idx → Elt F .f32} :
    vBuf c v ⊢ iprop((vBuf c v -∗ wp frame (wpE (defs₀ (F := F)) 𝒱₀ c none) Set.univ (K (chunkOf v h t)) Q)
      -∗ wp frame (wpE (defs₀ (F := F)) 𝒱₀ c none) Set.univ (.op (.load vM (Rect.unit (s := S8x4096x128) off S1x1024x128.size inb).toLoadRect hl) K) Q) := by
  rw [← v_read e inb v]
  exact wp_load_rect 𝒱₀ (c : Thread nD τ) none Set.univ (m := vM) (r := Rect.unit (s := S8x4096x128) off S1x1024x128.size inb) (k := K) (Finset.subset_univ _)

/-- A device's query block in its staging buffer. -/
abbrev qBuf (c : Dev nD) (q : S8x128x256.Idx → Elt F .f32) : sProp 𝕄 := (qM.view.loc (c : Thread nD τ)) ↦{fullShare} q

theorem head_emb {off : Fin 3 → ℕ} {h : ℕ} (e : off = ![h, 0, 0]) (inb : ∀ i, off i + S1x128x256.size i ≤ S8x128x256.size i)
    (i : Fin 128) (x : Fin 256) :
    (Rect.unit (s := S8x128x256) off S1x128x256.size inb).emb (ix3 0 i x) = ix3 (⟨h % 8, Nat.mod_lt _ (by decide)⟩ : Fin 8) i x := by
  subst e
  have h0 : h + 1 ≤ 8 := inb 0
  funext a
  apply Fin.ext
  fin_cases a
  · show h + 1 * 0 = h % 8; omega
  · show 0 + 1 * i.val = i.val; omega
  · show 0 + 1 * x.val = x.val; omega

theorem q_read {off : Fin 3 → ℕ} {h : ℕ} (e : off = ![h, 0, 0]) (inb : ∀ i, off i + S1x128x256.size i ≤ S8x128x256.size i)
    (q : S8x128x256.Idx → Elt F .f32) :
    Gen.k0_pay15 ((qM.access (Rect.unit (s := S8x128x256) off S1x128x256.size inb)).read (Elt F) q) = headOf q h := by
  refine eq_ix2 fun i x => ?_
  rw [pay15_apply, View.read_apply]
  exact congrArg q (head_emb e inb i x)

theorem wp_load_q {off : Fin 3 → ℕ} {inb : ∀ i, off i + S1x128x256.size i ≤ S8x128x256.size i}
    {hl : qM.view.LoadsAt (Rect.unit (s := S8x128x256) off S1x128x256.size inb).toLoadRect} {K : Vec F S1x128x256 .f32 → Prog (TpuEff nD τ sig (Elt F) Λ₀ .tc) α} {Q : α → sProp 𝕄}
    {q : S8x128x256.Idx → Elt F .f32} :
    qBuf c q ⊢ iprop((qBuf c q -∗ wp frame (wpE (defs₀ (F := F)) 𝒱₀ c none) Set.univ
        (K ((qM.access (Rect.unit (s := S8x128x256) off S1x128x256.size inb)).read (Elt F) q)) Q)
      -∗ wp frame (wpE (defs₀ (F := F)) 𝒱₀ c none) Set.univ (.op (.load qM (Rect.unit (s := S8x128x256) off S1x128x256.size inb).toLoadRect hl) K) Q) :=
  wp_load_rect 𝒱₀ (c : Thread nD τ) none Set.univ (m := qM) (r := Rect.unit (s := S8x128x256) off S1x128x256.size inb) (k := K) (Finset.subset_univ _)

/-- A load of rows of a slot held. -/
theorem wp_load_rows {n : ℕ} {off : Fin 5 → ℕ} {s h r0 : ℕ} (p : Fin 2) (e : off = ![s, h, p.val, r0, 0])
    {inb : ∀ i, off i + (rowsS n).size i ≤ S2x8x2x136x256.size i} {hl : blk.view.LoadsAt (rows n off inb).toLoadRect}
    {K : Vec F (rowsS n) .f32 → Prog (TpuEff nD τ sig (Elt F) Λ₀ .tc) α} {Q : α → sProp 𝕄} {f : S2x8x2x136x256.Idx → Elt F .f32} :
    slotBuf c s h f ⊢ iprop((slotBuf c s h f -∗ wp frame (wpE (defs₀ (F := F)) 𝒱₀ c none) Set.univ (K ((blk.access (rows n off inb)).read (Elt F) f)) Q)
      -∗ wp frame (wpE (defs₀ (F := F)) 𝒱₀ c none) Set.univ (.op (.load blk (rows n off inb).toLoadRect hl) K) Q) :=
  wp_load_rect 𝒱₀ (c : Thread nD τ) none Set.univ (m := blk) (r := rows n off inb) (k := K) (rows_sub e)

/-- A store of rows of a slot held. -/
theorem wp_store_rows {n : ℕ} {off : Fin 5 → ℕ} {s h r0 : ℕ} (p : Fin 2) (e : off = ![s, h, p.val, r0, 0])
    {inb : ∀ i, off i + (rowsS n).size i ≤ S2x8x2x136x256.size i} {w : (rowsS n).Idx → Elt F .f32} {hx : (blk.access (rows n off inb)).Stores Finset.univ}
    {hm : (Finset.univ : Finset (rowsS n).Idx) = Finset.univ ∨ ∀ a, (rows n off inb).stride a = 1}
    {K : PUnit → Prog (TpuEff nD τ sig (Elt F) Λ₀ .tc) α} {Q : α → sProp 𝕄} {f : S2x8x2x136x256.Idx → Elt F .f32} :
    slotBuf c s h f ⊢ iprop((slotBuf c s h ((blk.access (rows n off inb)).write (Elt F) f w Finset.univ)
        -∗ wp frame (wpE (defs₀ (F := F)) 𝒱₀ c none) Set.univ (K ⟨⟩) Q)
      -∗ wp frame (wpE (defs₀ (F := F)) 𝒱₀ c none) Set.univ (.op (.store blk (rows n off inb) w Finset.univ hx hm) K) Q) :=
  wp_store 𝒱₀ (c : Thread nD τ) none Set.univ (m := blk) (r := rows n off inb) (k := K) (by rw [View.setOn_univ]; exact rows_sub e)

end Rules

variable (c : Dev nD) (h0 : qM.IsWhole) (h1 : kM.IsWhole) (h2 : vM.IsWhole) (h3 : oM.IsWhole) (h4 : blk.IsWhole) (h5 : fin.IsWhole)

/-- The chunk loop of the first step: what it carries is the two heads' states after each chunk. -/
theorem t2_body (k v : S8x4096x128.Idx → Elt F .f32) (a b : St F) (t : Fin k0_t1_loop.trips) (v24 v25 : BitVec 32) (v72 v75 : FVec F S136x256 .f32)
    (u : Fin k0_t2_loop.trips) (x : Carried F) :
    iprop(⌜x = carry (procTo k v (2 * t.val) a u.val) (procTo k v (2 * t.val + 1) b u.val)⌝ ∗ kBuf c k ∗ vBuf c v)
      ⊢ wp frame (wpE (defs₀ (F := F)) 𝒱₀ c none) Set.univ
          (Gen.k0_t2_body qM h0 kM h1 vM h2 oM h3 blk h4 fin h5 cc0_scratch2 cc0_scratch3 cc0_scratch4 cc0_scratch5 cc0_scratch6 cc0_scratch7
            t v24 v25 v72 v75 a.q b.q u x)
          (fun x => iprop(⌜x = carry (procTo k v (2 * t.val) a (u.val + 1)) (procTo k v (2 * t.val + 1) b (u.val + 1))⌝ ∗ kBuf c k ∗ vBuf c v)) := by
  unfold Gen.k0_t2_body
  simp only [Gen.k0_part1_eq_skeleton]; unfold Gen.k0_part1_skel
  iintro ⟨%hx, Hk, Hv⟩
  subst hx
  simp only [carry, Prog.lift, Prog.bind_op, Prog.bind_ret, Prog.pure_eq_ret, Prog.bind_assoc]
  iapply (wp_load_k (Gen.k0_off15_eq t u)) $$ Hk; iintro Hk
  iapply (wp_load_v (Gen.k0_off15_eq t u)) $$ Hv; iintro Hv
  iapply (wp_load_k (Gen.k0_off16_eq t u)) $$ Hk; iintro Hk
  iapply (wp_load_v (Gen.k0_off16_eq t u)) $$ Hv; iintro Hv
  rw [wp_ret]; imodintro
  isplitr
  · ipureintro
    have := carry_t2 (procTo k v (2 * t.val) a u.val) (procTo k v (2 * t.val + 1) b u.val) (chunkOf k (2 * t.val) u.val) (chunkOf v (2 * t.val) u.val)
      (chunkOf k (2 * t.val + 1) u.val) (chunkOf v (2 * t.val + 1) u.val)
    rw [procTo_q, procTo_q] at this
    exact this
  isplitl [Hk]; · iexact Hk
  iexact Hv

/-- What the 136 rows a step loads say of a state: its maximum and its sum. -/
structure Loaded (v : FVec F S136x256 .f32) (st : St F) : Prop where
  m : Gen.k0_pay25 v = st.m
  l : Gen.k0_pay26 v = st.l

/-- The first step's query block of the first head is stored, and the second head's read. -/
theorem part2 (q : S8x128x256.Idx → Elt F .f32) (t : Fin k0_t1_loop.trips) (w0 w1 : BitVec 32) :
    iprop(qBuf c q ∗ slotAny (F := F) c 0 (2 * t.val))
      ⊢ wp frame (wpE (defs₀ (F := F)) 𝒱₀ c none) Set.univ
          (k0_part2 qM h0 kM h1 vM h2 oM h3 blk h4 fin h5 cc0_scratch2 cc0_scratch3 cc0_scratch4 cc0_scratch5 cc0_scratch6 cc0_scratch7 w0 w1 t)
          (fun r => iprop(⌜r.2.2 = headOf q (2 * t.val + 1)⌝ ∗ qBuf c q ∗ slotAt c 0 (2 * t.val) (start q (2 * t.val)))) := by
  simp only [Gen.k0_part2_eq_skeleton]; unfold Gen.k0_part2_skel slotAny slotAt
  simp only [Prog.lift, Prog.bind_op, Prog.bind_ret, Prog.pure_eq_ret, Prog.bind_assoc]
  iintro ⟨Hq, ⟨%f, Hs⟩⟩
  iapply (wp_load_q (off := k0_off1 t)) $$ Hq; iintro Hq
  iapply (wp_load_rows 0 (Gen.k0_off2_eq t)) $$ Hs; iintro Hs
  iapply (wp_store_rows 0 (Gen.k0_off2_eq t)) $$ Hs; iintro Hs
  iapply (wp_load_rows 0 (Gen.k0_off3_eq t)) $$ Hs; iintro Hs
  iapply (wp_store_rows 0 (Gen.k0_off3_eq t)) $$ Hs; iintro Hs
  iapply (wp_load_rows 0 (Gen.k0_off4_eq t)) $$ Hs; iintro Hs
  iapply (wp_store_rows 0 (Gen.k0_off4_eq t)) $$ Hs; iintro Hs
  iapply (wp_load_rows 1 (Gen.k0_off5_eq t)) $$ Hs; iintro Hs
  iapply (wp_store_rows 1 (Gen.k0_off5_eq t)) $$ Hs; iintro Hs
  iapply (wp_load_q (off := k0_off6 t)) $$ Hq; iintro Hq
  rw [wp_ret]; imodintro
  isplitr
  · ipureintro
    dsimp only
    exact q_read (Gen.k0_off6_eq t) _ q
  isplitl [Hq]; · iexact Hq
  iexists _; isplitr [Hs]; rotate_left
  · iexact Hs
  ipureintro
  have := Rep.write_start f q (Gen.k0_off2_eq t) (Gen.k0_off3_eq t) (Gen.k0_off4_eq t) (Gen.k0_off5_eq t) (k0_off2_inb t) (k0_off3_inb t) (k0_off4_inb t) (k0_off5_inb t)
  rw [← q_read (Gen.k0_off1_eq t) (k0_off1_inb t) q] at this
  exact this

/-- The second head's query block is stored, and the two heads' rows are read back. -/
theorem part3 (q : S8x128x256.Idx → Elt F .f32) (a : St F) (t : Fin k0_t1_loop.trips) (v24 v25 : BitVec 32) :
    iprop(slotAt c 0 (2 * t.val) a ∗ slotAny (F := F) c 0 (2 * t.val + 1))
      ⊢ wp frame (wpE (defs₀ (F := F)) 𝒱₀ c none) Set.univ
          (k0_part3 qM h0 kM h1 vM h2 oM h3 blk h4 fin h5 cc0_scratch2 cc0_scratch3 cc0_scratch4 cc0_scratch5 cc0_scratch6 cc0_scratch7 t v24 v25
            (headOf q (2 * t.val + 1)))
          (fun r => iprop(⌜Loaded r.1 a ∧ Loaded r.2.1 (start q (2 * t.val + 1)) ∧ r.2.2.1 = a.q ∧ r.2.2.2 = (start q (2 * t.val + 1)).q⌝
            ∗ slotAt c 0 (2 * t.val) a ∗ slotAt c 0 (2 * t.val + 1) (start q (2 * t.val + 1)))) := by
  simp only [Gen.k0_part3_eq_skeleton]; unfold Gen.k0_part3_skel slotAny slotAt
  simp only [Prog.lift, Prog.bind_op, Prog.bind_ret, Prog.pure_eq_ret, Prog.bind_assoc]
  iintro ⟨⟨%g, %R, Ha⟩, ⟨%f, Hs⟩⟩
  iapply (wp_load_rows 0 (Gen.k0_off7_eq t)) $$ Hs; iintro Hs
  iapply (wp_store_rows 0 (Gen.k0_off7_eq t)) $$ Hs; iintro Hs
  iapply (wp_load_rows 0 (Gen.k0_off8_eq t)) $$ Hs; iintro Hs
  iapply (wp_store_rows 0 (Gen.k0_off8_eq t)) $$ Hs; iintro Hs
  iapply (wp_load_rows 0 (Gen.k0_off9_eq t)) $$ Hs; iintro Hs
  iapply (wp_store_rows 0 (Gen.k0_off9_eq t)) $$ Hs; iintro Hs
  iapply (wp_load_rows 1 (Gen.k0_off10_eq t)) $$ Hs; iintro Hs
  iapply (wp_store_rows 1 (Gen.k0_off10_eq t)) $$ Hs; iintro Hs
  have R' := Rep.write_start f q (Gen.k0_off7_eq t) (Gen.k0_off8_eq t) (Gen.k0_off9_eq t) (Gen.k0_off10_eq t) (k0_off7_inb t) (k0_off8_inb t) (k0_off9_inb t) (k0_off10_inb t)
  iapply (wp_load_rows 0 (Gen.k0_off11_eq t)) $$ Ha; iintro Ha
  iapply (wp_load_rows 0 (Gen.k0_off12_eq t)) $$ Hs; iintro Hs
  rw [wp_ret]; imodintro
  isplitr
  · ipureintro
    dsimp only
    obtain ⟨a1, a2, a3⟩ := R.read_head (Gen.k0_off11_eq t) (k0_off11_inb t)
    obtain ⟨b1, b2, b3⟩ := R'.read_head (Gen.k0_off12_eq t) (k0_off12_inb t)
    refine ⟨⟨?_, ?_⟩, ⟨?_, ?_⟩, a1, b1⟩
    · exact a2
    · exact a3
    · exact b2
    · exact b3
  isplitl [Ha]
  · iexists _; isplitr [Ha]; rotate_left
    · iexact Ha
    ipureintro; exact R
  iexists _; isplitr [Hs]; rotate_left
  · iexact Hs
  ipureintro; exact R'

/-- The first step's computation on a pair of heads. -/
theorem part4 (k v : S8x4096x128.Idx → Elt F .f32) (a b : St F) (t : Fin k0_t1_loop.trips) (v24 v25 : BitVec 32) (v72 v75 : FVec F S136x256 .f32)
    (la : Loaded v72 a) (lb : Loaded v75 b) :
    iprop(slotAt c 0 (2 * t.val) a ∗ slotAt c 0 (2 * t.val + 1) b ∗ kBuf c k ∗ vBuf c v)
      ⊢ wp frame (wpE (defs₀ (F := F)) 𝒱₀ c none) Set.univ
          (k0_part4 qM h0 kM h1 vM h2 oM h3 blk h4 fin h5 cc0_scratch2 cc0_scratch3 cc0_scratch4 cc0_scratch5 cc0_scratch6 cc0_scratch7 t v24 v25
            v72 v75 a.q b.q)
          (fun _ => iprop(slotAt c 0 (2 * t.val) (proc k v (2 * t.val) a) ∗ slotAt c 0 (2 * t.val + 1) (proc k v (2 * t.val + 1) b) ∗ kBuf c k ∗ vBuf c v)) := by
  simp only [Gen.k0_part4_eq_skeleton]; unfold Gen.k0_part4_skel slotAt
  simp only [Prog.lift, Prog.bind_op, Prog.bind_ret, Prog.pure_eq_ret, Prog.bind_assoc]
  iintro ⟨⟨%f, %R, Ha⟩, ⟨%g, %R', Hb⟩, Hk, Hv⟩
  iapply (wp_load_rows 1 (Gen.k0_off13_eq t)) $$ Ha; iintro Ha
  iapply (wp_load_rows 1 (Gen.k0_off14_eq t)) $$ Hb; iintro Hb
  iapply (Scf.wp_for_bind frame (wpE (defs₀ (F := F)) 𝒱₀ c none) Set.univ k0_t2_loop.lb k0_t2_loop.ub k0_t2_loop.st k0_t2_ok _ _
    (fun u x => iprop(⌜x = carry (procTo k v (2 * t.val) a u) (procTo k v (2 * t.val + 1) b u)⌝ ∗ kBuf c k ∗ vBuf c v))
    (fun u x => t2_body c h0 h1 h2 h3 h4 h5 k v a b t v24 v25 v72 v75 u x)) $$ [Hk Hv]
  · isplitr
    · ipureintro
      rw [R.read_acc (Gen.k0_off13_eq t), la.m, la.l]
      have e1 : Gen.k0_pay27 ((blk.access (rows 128 (k0_off14 t) (k0_off14_inb t))).read (Elt F) g) = b.acc := R'.read_acc (Gen.k0_off14_eq t) _
      rw [e1, show Gen.k0_pay28 v75 = b.m from lb.m, show Gen.k0_pay29 v75 = b.l from lb.l]
      rfl
    isplitl [Hk]; · iexact Hk
    iexact Hv
  iintro %x ⟨%hx, Hk, Hv⟩
  subst hx
  have ht : Scf.trips k0_t2_loop.lb k0_t2_loop.ub k0_t2_loop.st = 4 := by decide
  rw [ht]
  simp only [carry]
  iapply (wp_load_rows 1 (Gen.k0_off13_eq t)) $$ Ha; iintro Ha
  iapply (wp_store_rows 1 (Gen.k0_off13_eq t)) $$ Ha; iintro Ha
  iapply (wp_load_rows 0 (Gen.k0_off17_eq t)) $$ Ha; iintro Ha
  iapply (wp_store_rows 0 (Gen.k0_off17_eq t)) $$ Ha; iintro Ha
  iapply (wp_load_rows 1 (Gen.k0_off14_eq t)) $$ Hb; iintro Hb
  iapply (wp_store_rows 1 (Gen.k0_off14_eq t)) $$ Hb; iintro Hb
  iapply (wp_load_rows 0 (Gen.k0_off18_eq t)) $$ Hb; iintro Hb
  iapply (wp_store_rows 0 (Gen.k0_off18_eq t)) $$ Hb; iintro Hb
  rw [wp_ret]; imodintro
  isplitl [Ha]
  · iexists _; isplitr [Ha]; rotate_left
    · iexact Ha
    ipureintro
    exact (R.write_acc (Gen.k0_off13_eq t) (k0_off13_inb t) (proc k v (2 * t.val) a) (procTo_q ..)).write_ml (Gen.k0_off17_eq t) (k0_off17_inb t)
  isplitl [Hb]
  · iexists _; isplitr [Hb]; rotate_left
    · iexact Hb
    ipureintro
    exact (R'.write_acc (Gen.k0_off14_eq t) (k0_off14_inb t) (proc k v (2 * t.val + 1) b) (procTo_q ..)).write_ml (Gen.k0_off18_eq t) (k0_off18_inb t)
  isplitl [Hk]; · iexact Hk
  iexact Hv

/-- The same of the chunk loop of a middle step, -/
theorem t5_body (k v : S8x4096x128.Idx → Elt F .f32) (a b : St F) (i : Fin k0_t3_loop.trips) (w : BitVec 32) (t : Fin k0_t4_loop.trips) (v24 v25 : BitVec 32) (v72 v75 : FVec F S136x256 .f32)
    (u : Fin k0_t5_loop.trips) (x : Carried F) :
    iprop(⌜x = carry (procTo k v (2 * t.val) a u.val) (procTo k v (2 * t.val + 1) b u.val)⌝ ∗ kBuf c k ∗ vBuf c v)
      ⊢ wp frame (wpE (defs₀ (F := F)) 𝒱₀ c none) Set.univ
          (Gen.k0_t5_body qM h0 kM h1 vM h2 oM h3 blk h4 fin h5 cc0_scratch2 cc0_scratch3 cc0_scratch4 cc0_scratch5 cc0_scratch6 cc0_scratch7
            i w t v24 v25 v72 v75 a.q b.q u x)
          (fun x => iprop(⌜x = carry (procTo k v (2 * t.val) a (u.val + 1)) (procTo k v (2 * t.val + 1) b (u.val + 1))⌝ ∗ kBuf c k ∗ vBuf c v)) := by
  unfold Gen.k0_t5_body
  simp only [Gen.k0_part5_eq_skeleton]; unfold Gen.k0_part5_skel
  iintro ⟨%hx, Hk, Hv⟩
  subst hx
  simp only [carry, Prog.lift, Prog.bind_op, Prog.bind_ret, Prog.pure_eq_ret, Prog.bind_assoc]
  iapply (wp_load_k (Gen.k0_off35_eq t u)) $$ Hk; iintro Hk
  iapply (wp_load_v (Gen.k0_off35_eq t u)) $$ Hv; iintro Hv
  iapply (wp_load_k (Gen.k0_off36_eq t u)) $$ Hk; iintro Hk
  iapply (wp_load_v (Gen.k0_off36_eq t u)) $$ Hv; iintro Hv
  rw [wp_ret]; imodintro
  isplitr
  · ipureintro
    have := carry_t5 (procTo k v (2 * t.val) a u.val) (procTo k v (2 * t.val + 1) b u.val) (chunkOf k (2 * t.val) u.val) (chunkOf v (2 * t.val) u.val)
      (chunkOf k (2 * t.val + 1) u.val) (chunkOf v (2 * t.val + 1) u.val)
    rw [procTo_q, procTo_q] at this
    exact this
  isplitl [Hk]; · iexact Hk
  iexact Hv

/-- and of the last step's. -/
theorem t7_body (k v : S8x4096x128.Idx → Elt F .f32) (a b : St F) (t : Fin k0_t6_loop.trips) (v24 v25 : BitVec 32) (v72 : FVec F S136x256 .f32) (v75 : Vec F S1x1x1x136x256 .f32)
    (ha : Gen.k0_pay74 v72 = a.q) (hb : Gen.k0_pay75 v75 = b.q) (u : Fin k0_t7_loop.trips) (x : Carried F) :
    iprop(⌜x = carry (procTo k v (2 * t.val) a u.val) (procTo k v (2 * t.val + 1) b u.val)⌝ ∗ kBuf c k ∗ vBuf c v)
      ⊢ wp frame (wpE (defs₀ (F := F)) 𝒱₀ c none) Set.univ
          (Gen.k0_t7_body qM h0 kM h1 vM h2 oM h3 blk h4 fin h5 cc0_scratch2 cc0_scratch3 cc0_scratch4 cc0_scratch5 cc0_scratch6 cc0_scratch7
            t v24 v25 v72 v75 u x)
          (fun x => iprop(⌜x = carry (procTo k v (2 * t.val) a (u.val + 1)) (procTo k v (2 * t.val + 1) b (u.val + 1))⌝ ∗ kBuf c k ∗ vBuf c v)) := by
  unfold Gen.k0_t7_body
  simp only [Gen.k0_part9_eq_skeleton]; unfold Gen.k0_part9_skel
  iintro ⟨%hx, Hk, Hv⟩
  subst hx
  simp only [carry, Prog.lift, Prog.bind_op, Prog.bind_ret, Prog.pure_eq_ret, Prog.bind_assoc]
  iapply (wp_load_k (Gen.k0_off51_eq t u)) $$ Hk; iintro Hk
  iapply (wp_load_v (Gen.k0_off51_eq t u)) $$ Hv; iintro Hv
  iapply (wp_load_k (Gen.k0_off52_eq t u)) $$ Hk; iintro Hk
  iapply (wp_load_v (Gen.k0_off52_eq t u)) $$ Hv; iintro Hv
  rw [wp_ret]; imodintro
  isplitr
  · ipureintro
    have := carry_t7 (procTo k v (2 * t.val) a u.val) (procTo k v (2 * t.val + 1) b u.val) (chunkOf k (2 * t.val) u.val) (chunkOf v (2 * t.val) u.val)
      (chunkOf k (2 * t.val + 1) u.val) (chunkOf v (2 * t.val + 1) u.val)
    rw [procTo_q, procTo_q, ← ha, ← hb] at this
    exact this
  isplitl [Hk]; · iexact Hk
  iexact Hv

/-- A middle step's computation on a pair of heads, up to the last store, -/
theorem part7 (k v : S8x4096x128.Idx → Elt F .f32) (a b : St F) (i : Fin k0_t3_loop.trips) (w : BitVec 32) (t : Fin k0_t4_loop.trips) (v24 v25 : BitVec 32) (v72 v75 : FVec F S136x256 .f32)
    (la : Loaded v72 a) (lb : Loaded v75 b) :
    iprop(slotAt c ((i.val + 1) % 2) (2 * t.val) a ∗ slotAt c ((i.val + 1) % 2) (2 * t.val + 1) b ∗ kBuf c k ∗ vBuf c v)
      ⊢ wp frame (wpE (defs₀ (F := F)) 𝒱₀ c none) Set.univ
          (k0_part7 qM h0 kM h1 vM h2 oM h3 blk h4 fin h5 cc0_scratch2 cc0_scratch3 cc0_scratch4 cc0_scratch5 cc0_scratch6 cc0_scratch7 i w t v24 v25 v72 v75 a.q b.q)
          (fun r => iprop(⌜r = Gen.k0_pay33 (proc k v (2 * t.val + 1) b).m (proc k v (2 * t.val + 1) b).l⌝ ∗ slotAt c ((i.val + 1) % 2) (2 * t.val) (proc k v (2 * t.val) a) ∗ slotHalf c ((i.val + 1) % 2) (2 * t.val + 1) (proc k v (2 * t.val + 1) b) ∗ kBuf c k ∗ vBuf c v)) := by
  simp only [Gen.k0_part7_eq_skeleton]; unfold Gen.k0_part7_skel slotAt slotHalf
  simp only [Prog.lift, Prog.bind_op, Prog.bind_ret, Prog.pure_eq_ret, Prog.bind_assoc]
  iintro ⟨⟨%f, %R, Ha⟩, ⟨%g, %R', Hb⟩, Hk, Hv⟩
  iapply (wp_load_rows 1 (Gen.k0_off33_eq i t)) $$ Ha; iintro Ha
  iapply (wp_load_rows 1 (Gen.k0_off34_eq i t)) $$ Hb; iintro Hb
  iapply (Scf.wp_for_bind frame (wpE (defs₀ (F := F)) 𝒱₀ c none) Set.univ k0_t5_loop.lb k0_t5_loop.ub k0_t5_loop.st k0_t5_ok _ _
    (fun u x => iprop(⌜x = carry (procTo k v (2 * t.val) a u) (procTo k v (2 * t.val + 1) b u)⌝ ∗ kBuf c k ∗ vBuf c v))
    (fun u x => t5_body c h0 h1 h2 h3 h4 h5 k v a b i w t v24 v25 v72 v75 u x)) $$ [Hk Hv]
  · isplitr
    · ipureintro
      have e0 : Gen.k0_pay24 _ = a.acc := R.read_acc (Gen.k0_off33_eq i t) (k0_off33_inb i t)
      have e1 : Gen.k0_pay24 _ = b.acc := R'.read_acc (Gen.k0_off34_eq i t) (k0_off34_inb i t)
      rw [show carry (procTo k v (2 * t.val) a 0) (procTo k v (2 * t.val + 1) b 0) = (a.acc, a.m, a.l, b.acc, b.m, b.l) from rfl,
        ← e0, ← e1, ← la.m, ← la.l, ← lb.m, ← lb.l]
      rfl
    isplitl [Hk]; · iexact Hk
    iexact Hv
  iintro %x ⟨%hx, Hk, Hv⟩
  subst hx
  have ht : Scf.trips k0_t5_loop.lb k0_t5_loop.ub k0_t5_loop.st = 4 := by decide
  rw [ht]
  simp only [carry]
  iapply (wp_load_rows 1 (Gen.k0_off33_eq i t)) $$ Ha; iintro Ha
  iapply (wp_store_rows 1 (Gen.k0_off33_eq i t)) $$ Ha; iintro Ha
  iapply (wp_load_rows 0 (Gen.k0_off37_eq i t)) $$ Ha; iintro Ha
  iapply (wp_store_rows 0 (Gen.k0_off37_eq i t)) $$ Ha; iintro Ha
  iapply (wp_load_rows 1 (Gen.k0_off34_eq i t)) $$ Hb; iintro Hb
  iapply (wp_store_rows 1 (Gen.k0_off34_eq i t)) $$ Hb; iintro Hb
  iapply (wp_load_rows 0 (Gen.k0_off38_eq i t)) $$ Hb; iintro Hb
  rw [wp_ret]; imodintro
  isplitr
  · ipureintro; rfl
  isplitl [Ha]
  · iexists _; isplitr [Ha]; rotate_left
    · iexact Ha
    ipureintro
    exact (R.write_acc (Gen.k0_off33_eq i t) _ (proc k v (2 * t.val) a) (procTo_q ..)).write_ml (Gen.k0_off37_eq i t) _
  isplitl [Hb]
  · iexists _; isplitr [Hb]; rotate_left
    · iexact Hb
    ipureintro
    exact R'.write_acc (Gen.k0_off34_eq i t) _ (proc k v (2 * t.val + 1) b) (procTo_q ..)
  isplitl [Hk]; · iexact Hk
  iexact Hv

/-- and the last step's. -/
theorem part11 (k v : S8x4096x128.Idx → Elt F .f32) (a b : St F) (t : Fin k0_t6_loop.trips) (v24 v25 : BitVec 32) (v72 : FVec F S136x256 .f32) (v75 : Vec F S1x1x1x136x256 .f32)
    (la : Loaded v72 a) (lb : Loaded (Gen.k0_pay20 v75) b)
    (ha : Gen.k0_pay74 v72 = a.q) (hb : Gen.k0_pay75 v75 = b.q) :
    iprop(slotAt c 1 (2 * t.val) a ∗ slotAt c 1 (2 * t.val + 1) b ∗ kBuf c k ∗ vBuf c v)
      ⊢ wp frame (wpE (defs₀ (F := F)) 𝒱₀ c none) Set.univ
          (k0_part11 qM h0 kM h1 vM h2 oM h3 blk h4 fin h5 cc0_scratch2 cc0_scratch3 cc0_scratch4 cc0_scratch5 cc0_scratch6 cc0_scratch7 t v24 v25 v72 v75)
          (fun r => iprop(⌜Gen.k0_pay88 r = Gen.k0_pay33 (proc k v (2 * t.val + 1) b).m (proc k v (2 * t.val + 1) b).l⌝ ∗ slotAt c 1 (2 * t.val) (proc k v (2 * t.val) a) ∗ slotHalf c 1 (2 * t.val + 1) (proc k v (2 * t.val + 1) b) ∗ kBuf c k ∗ vBuf c v)) := by
  simp only [Gen.k0_part11_eq_skeleton]; unfold Gen.k0_part11_skel slotAt slotHalf
  simp only [Prog.lift, Prog.bind_op, Prog.bind_ret, Prog.pure_eq_ret, Prog.bind_assoc]
  iintro ⟨⟨%f, %R, Ha⟩, ⟨%g, %R', Hb⟩, Hk, Hv⟩
  iapply (wp_load_rows 1 (Gen.k0_off49_eq t)) $$ Ha; iintro Ha
  iapply (wp_load_rows 1 (Gen.k0_off50_eq t)) $$ Hb; iintro Hb
  iapply (Scf.wp_for_bind frame (wpE (defs₀ (F := F)) 𝒱₀ c none) Set.univ k0_t7_loop.lb k0_t7_loop.ub k0_t7_loop.st k0_t7_ok _ _
    (fun u x => iprop(⌜x = carry (procTo k v (2 * t.val) a u) (procTo k v (2 * t.val + 1) b u)⌝ ∗ kBuf c k ∗ vBuf c v))
    (fun u x => t7_body c h0 h1 h2 h3 h4 h5 k v a b t v24 v25 v72 v75 ha hb u x)) $$ [Hk Hv]
  · isplitr
    · ipureintro
      have e0 : Gen.k0_pay24 _ = a.acc := R.read_acc (Gen.k0_off49_eq t) (k0_off49_inb t)
      have e1 : Gen.k0_pay24 _ = b.acc := R'.read_acc (Gen.k0_off50_eq t) (k0_off50_inb t)
      rw [show carry (procTo k v (2 * t.val) a 0) (procTo k v (2 * t.val + 1) b 0) = (a.acc, a.m, a.l, b.acc, b.m, b.l) from rfl,
        ← e0, ← e1, ← la.m, ← la.l, ← lb.m, ← lb.l]
      rfl
    isplitl [Hk]; · iexact Hk
    iexact Hv
  iintro %x ⟨%hx, Hk, Hv⟩
  subst hx
  have ht : Scf.trips k0_t7_loop.lb k0_t7_loop.ub k0_t7_loop.st = 4 := by decide
  rw [ht]
  simp only [carry]
  iapply (wp_load_rows 1 (Gen.k0_off49_eq t)) $$ Ha; iintro Ha
  iapply (wp_store_rows 1 (Gen.k0_off49_eq t)) $$ Ha; iintro Ha
  iapply (wp_load_rows 0 (Gen.k0_off53_eq t)) $$ Ha; iintro Ha
  iapply (wp_store_rows 0 (Gen.k0_off53_eq t)) $$ Ha; iintro Ha
  iapply (wp_load_rows 1 (Gen.k0_off50_eq t)) $$ Hb; iintro Hb
  iapply (wp_store_rows 1 (Gen.k0_off50_eq t)) $$ Hb; iintro Hb
  rw [wp_ret]; imodintro
  isplitr
  · ipureintro; rfl
  isplitl [Ha]
  · iexists _; isplitr [Ha]; rotate_left
    · iexact Ha
    ipureintro
    exact (R.write_acc (Gen.k0_off49_eq t) _ (proc k v (2 * t.val) a) (procTo_q ..)).write_ml (Gen.k0_off53_eq t) _
  isplitl [Hb]
  · iexists _; isplitr [Hb]; rotate_left
    · iexact Hb
    ipureintro
    exact R'.write_acc (Gen.k0_off50_eq t) _ (proc k v (2 * t.val + 1) b) (procTo_q ..)
  isplitl [Hk]; · iexact Hk
  iexact Hv

/-! ## The loads and stores between the computations -/

section Between
variable {α : Type}

/-- The load of the 136 rows of a slot that holds a state. -/
theorem wp_load_head {off : Fin 5 → ℕ} {s h : ℕ} (e : off = ![s, h, 0, 0, 0]) {st : St F}
    {inb : ∀ i, off i + (rowsS 136).size i ≤ S2x8x2x136x256.size i} {hl : blk.view.LoadsAt (rows 136 off inb).toLoadRect}
    {K : Vec F (rowsS 136) .f32 → Prog (TpuEff nD τ sig (Elt F) Λ₀ .tc) α} {Q : α → sProp 𝕄} :
    slotAt c s h st ⊢ iprop((∀ v, ⌜Loaded (Gen.k0_pay20 v) st ∧ Gen.k0_pay22 v = st.q⌝ -∗ slotAt c s h st
        -∗ wp frame (wpE (defs₀ (F := F)) 𝒱₀ c none) Set.univ (K v) Q)
      -∗ wp frame (wpE (defs₀ (F := F)) 𝒱₀ c none) Set.univ (.op (.load blk (rows 136 off inb).toLoadRect hl) K) Q) := by
  unfold slotAt
  iintro ⟨%f, %R, H⟩ HK
  iapply (wp_load_rows 0 e) $$ H; iintro H
  iapply HK
  · ipureintro; exact ⟨⟨(R.read_head e inb).2.1, (R.read_head e inb).2.2⟩, (R.read_head e inb).1⟩
  iexists f; isplitr [H]
  · ipureintro; exact R
  iexact H

/-- A load from a slot whose half is stored, of rows nobody reads. -/
theorem wp_load_half {n : ℕ} {off : Fin 5 → ℕ} {s h r0 : ℕ} (p : Fin 2) (e : off = ![s, h, p.val, r0, 0]) {st : St F}
    {inb : ∀ i, off i + (rowsS n).size i ≤ S2x8x2x136x256.size i} {hl : blk.view.LoadsAt (rows n off inb).toLoadRect}
    {K : Vec F (rowsS n) .f32 → Prog (TpuEff nD τ sig (Elt F) Λ₀ .tc) α} {Q : α → sProp 𝕄} :
    slotHalf c s h st ⊢ iprop((∀ v, slotHalf c s h st -∗ wp frame (wpE (defs₀ (F := F)) 𝒱₀ c none) Set.univ (K v) Q)
      -∗ wp frame (wpE (defs₀ (F := F)) 𝒱₀ c none) Set.univ (.op (.load blk (rows n off inb).toLoadRect hl) K) Q) := by
  unfold slotHalf
  iintro ⟨%f, %R, H⟩ HK
  iapply (wp_load_rows p e) $$ H; iintro H
  iapply HK
  iexists f; isplitr [H]
  · ipureintro; exact R
  iexact H

/-- The store of the maximum and the sum that completes a slot. -/
theorem wp_store_ml {off : Fin 5 → ℕ} {s h : ℕ} (e : off = ![s, h, 0, 128, 0]) {st : St F}
    {inb : ∀ i, off i + (rowsS 2).size i ≤ S2x8x2x136x256.size i} {w : (rowsS 2).Idx → Elt F .f32} (hw : w = Gen.k0_pay33 st.m st.l)
    {hx : (blk.access (rows 2 off inb)).Stores Finset.univ}
    {hm : (Finset.univ : Finset (rowsS 2).Idx) = Finset.univ ∨ ∀ a, (rows 2 off inb).stride a = 1}
    {K : PUnit → Prog (TpuEff nD τ sig (Elt F) Λ₀ .tc) α} {Q : α → sProp 𝕄} :
    slotHalf c s h st ⊢ iprop((slotAt c s h st -∗ wp frame (wpE (defs₀ (F := F)) 𝒱₀ c none) Set.univ (K ⟨⟩) Q)
      -∗ wp frame (wpE (defs₀ (F := F)) 𝒱₀ c none) Set.univ (.op (.store blk (rows 2 off inb) w Finset.univ hx hm) K) Q) := by
  subst hw
  unfold slotHalf slotAt
  iintro ⟨%f, %R, H⟩ HK
  iapply (wp_store_rows 0 e) $$ H; iintro H
  iapply HK
  iexists _; isplitr [H]; rotate_left
  · iexact H
  ipureintro; exact R.write_ml e inb

/-- The two loads that give a head's result. -/
theorem wp_load_out {off off' : Fin 5 → ℕ} {s h : ℕ} (e : off = ![s, h, 1, 0, 0]) (e' : off' = ![s, h, 0, 129, 0]) {st : St F}
    {inb : ∀ i, off i + (rowsS 128).size i ≤ S2x8x2x136x256.size i} {hl : blk.view.LoadsAt (rows 128 off inb).toLoadRect}
    {inb' : ∀ i, off' i + (rowsS 1).size i ≤ S2x8x2x136x256.size i} {hl' : blk.view.LoadsAt (rows 1 off' inb').toLoadRect}
    {K : Vec F (rowsS 128) .f32 → Vec F (rowsS 1) .f32 → Prog (TpuEff nD τ sig (Elt F) Λ₀ .tc) α} {Q : α → sProp 𝕄} :
    slotAt c s h st ⊢ iprop((∀ v w, ⌜∀ (i : Fin 128) (x : Fin 256), Gen.k0_pay90 (Gen.k0_pay89 v w) (ix3 0 i x) = out st (ix2 i x)⌝ -∗ slotAt c s h st
        -∗ wp frame (wpE (defs₀ (F := F)) 𝒱₀ c none) Set.univ (K v w) Q)
      -∗ wp frame (wpE (defs₀ (F := F)) 𝒱₀ c none) Set.univ
          (.op (.load blk (rows 128 off inb).toLoadRect hl) fun v => .op (.load blk (rows 1 off' inb').toLoadRect hl') fun w => K v w) Q) := by
  unfold slotAt
  iintro ⟨%f, %R, H⟩ HK
  iapply (wp_load_rows 1 e) $$ H; iintro H
  iapply (wp_load_rows 0 e') $$ H; iintro H
  iapply HK
  · ipureintro; exact R.read_out e e' inb inb'
  iexists f; isplitr [H]
  · ipureintro; exact R
  iexact H

/-- The buffer of results with its first `n` heads those of `o`. -/
def finAt (c : Dev nD) (n : ℕ) (o : ℕ → FVec F S128x256 .f32) : sProp 𝕄 :=
  iprop(∃ f : S8x128x256.Idx → Elt F .f32,
    ⌜∀ (h : Fin 8) (i : Fin 128) (x : Fin 256), h.val < n → f (ix3 h i x) = o h.val (ix2 i x)⌝ ∗ ((fin.view.loc (c : Thread nD τ)) ↦{fullShare} f))

/-- A head's result loaded from its place, by nobody read, and then stored there. -/
theorem wp_store_fin {off : Fin 3 → ℕ} {h : ℕ} (e : off = ![h, 0, 0]) {o : ℕ → FVec F S128x256 .f32}
    {inb : ∀ i, off i + S1x128x256.size i ≤ S8x128x256.size i} {w : FVec F S1x128x256 .f32}
    (hw : ∀ (i : Fin 128) (x : Fin 256), w (ix3 0 i x) = o h (ix2 i x))
    {hx : (fin.access (Rect.unit (s := S8x128x256) off S1x128x256.size inb)).Stores Finset.univ}
    {hm : (Finset.univ : Finset S1x128x256.Idx) = Finset.univ ∨ ∀ a, (Rect.unit (s := S8x128x256) off S1x128x256.size inb).stride a = 1}
    {K : PUnit → Prog (TpuEff nD τ sig (Elt F) Λ₀ .tc) α} {Q : α → sProp 𝕄} :
    finAt c h o ⊢ iprop((finAt c (h + 1) o -∗ wp frame (wpE (defs₀ (F := F)) 𝒱₀ c none) Set.univ (K ⟨⟩) Q)
      -∗ wp frame (wpE (defs₀ (F := F)) 𝒱₀ c none) Set.univ
          (.op (.store fin (Rect.unit (s := S8x128x256) off S1x128x256.size inb) w Finset.univ hx hm) K) Q) := by
  unfold finAt
  iintro ⟨%f, %hf, H⟩ HK
  iapply (wp_store 𝒱₀ (c : Thread nD τ) none Set.univ (m := fin) (r := Rect.unit (s := S8x128x256) off S1x128x256.size inb) (k := K) (Finset.subset_univ _)) $$ H
  iintro H
  iapply HK
  iexists _; isplitr [H]; rotate_left
  · iexact H
  ipureintro
  intro g i x hg
  by_cases hgh : g.val = h
  · have : ix3 g i x = (fin.access (Rect.unit (s := S8x128x256) off S1x128x256.size inb)).emb (ix3 0 i x) := by
      refine Eq.trans ?_ (head_emb e inb i x).symm
      congr 1
      apply Fin.ext
      show g.val = h % 8
      omega
    rw [this, View.write_emb_of_mem _ _ (Finset.mem_univ _), hgh]
    exact hw i x
  · refine (View.write_of_not_mem _ _ _ ?_).trans (hf g i x (by omega))
    rw [View.setOn_univ]
    intro hm
    obtain ⟨y, -, hy⟩ := Finset.mem_map.1 hm
    have := congrFun hy 0
    subst e
    have h1 : h + 1 * (y 0).val = g.val := congrArg Fin.val this
    have h2 : (y 0).val < 1 := (y 0).isLt
    omega

theorem wp_load_fin {off : Fin 3 → ℕ} {inb : ∀ i, off i + S1x128x256.size i ≤ S8x128x256.size i} {n : ℕ} {o : ℕ → FVec F S128x256 .f32}
    {hl : fin.view.LoadsAt (Rect.unit (s := S8x128x256) off S1x128x256.size inb).toLoadRect}
    {K : Vec F S1x128x256 .f32 → Prog (TpuEff nD τ sig (Elt F) Λ₀ .tc) α} {Q : α → sProp 𝕄} :
    finAt c n o ⊢ iprop((∀ v, finAt c n o -∗ wp frame (wpE (defs₀ (F := F)) 𝒱₀ c none) Set.univ (K v) Q)
      -∗ wp frame (wpE (defs₀ (F := F)) 𝒱₀ c none) Set.univ (.op (.load fin (Rect.unit (s := S8x128x256) off S1x128x256.size inb).toLoadRect hl) K) Q) := by
  unfold finAt
  iintro ⟨%f, %hf, H⟩ HK
  iapply (wp_load_rect 𝒱₀ (c : Thread nD τ) none Set.univ (m := fin) (r := Rect.unit (s := S8x128x256) off S1x128x256.size inb) (k := K) (Finset.subset_univ _)) $$ H
  iintro H
  iapply HK
  iexists f; isplitr [H]
  · ipureintro; exact hf
  iexact H

end Between

end Cert.KernelIdeal.Ring
-- ==== Proof.Proto.lean ====
/-
  The protocol of the ring, written down: for each semaphore who pays it, how much, in which order, and what
  each payment hands over; what each device owes the others; and the order in which waits may depend on each other.

  A device works in steps 0 … 15 of four pairs of heads each; pair `p` of step `i` is time `4 i + p`. At step `i` it
  processes slot `i % 2` of the pair and sends it into slot `(i + 1) % 2` of the next device.
-/
module

public import proofs.«01_k».proof.Proof.Compute

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The three parts of the resource algebra -/

abbrev EP : Emb (UR sig nD τ) (MT nD τ sig ℕ (Elt F) ℕ UU ℕ) := embL
/-- The ring's rounds, -/
def ER : Emb (Rounds.URounds (GSem nD τ sig) ℕ) (MT nD τ sig ℕ (Elt F) ℕ UU ℕ) :=
  (Emb.inl : Emb (Rounds.URounds (GSem nD τ sig) ℕ) (Rounds.URounds (GSem nD τ sig) ℕ × Release.USlots Key)).trans embR
/-- and the slots' writers and readers. -/
def ES : Emb (Release.USlots Key) (MT nD τ sig ℕ (Elt F) ℕ UU ℕ) :=
  (Emb.inr : Emb (Release.USlots Key) (Rounds.URounds (GSem nD τ sig) ℕ × Release.USlots Key)).trans embR

instance : (ER (F := F)).LandsIn (upEmb : UEmb _ 𝕄) := by unfold ER; infer_instance
instance : (ES (F := F)).LandsIn (upEmb : UEmb _ 𝕄) := by unfold ES; infer_instance

/-! ## The cells -/

abbrev barS : Sem sig := ⟨2, by decide⟩
theorem bar_sem : (SemArray.scalar (sig.barrier 0 rfl) : Sems sig S_).sem = barS := by decide +kernel
abbrev barC (c : Dev nD) : GSem nD τ sig := ((c : Thread nD τ), .reg barS)
abbrev crC (c : Dev nD) : GSem nD τ sig := ((c : Thread nD τ), .reg crS)
abbrev exC (c : Dev nD) : GSem nD τ sig := ((c : Thread nD τ), .reg exS)
abbrev sC (c : Dev nD) (s h : ℕ) : GSem nD τ sig := ((c : Thread nD τ), .dma (sS s h))
abbrev rC (c : Dev nD) (s h : ℕ) : GSem nD τ sig := ((c : Thread nD τ), .dma (rS s h))
abbrev fC (c : Dev nD) : GSem nD τ sig := ((c : Thread nD τ), .dma fS)
abbrev frC (c : Dev nD) : GSem nD τ sig := ((c : Thread nD τ), .dma frS)

theorem bar_ne_cr : (barS : Sem sig) ≠ crS := by decide +kernel
theorem bar_ne_ex : (barS : Sem sig) ≠ exS := by decide +kernel
theorem ex_ne_cr : (exS : Sem sig) ≠ crS := by decide +kernel

/-! ## The contents -/

/-- Every device's query block and its share of the keys and of the values. -/
structure Data (F : FTy → Type) [FloatOps F] where
  q : Dev nD → S8x128x256.Idx → Elt F .f32
  k : Dev nD → S8x4096x128.Idx → Elt F .f32
  v : Dev nD → S8x4096x128.Idx → Elt F .f32

variable (D : Data F)

/-- The state of head `h` that device `c` processes at step `i`: it started on the device `i` places back. -/
def stIn : ℕ → Dev nD → ℕ → St F
  | 0, c, h => start (D.q c) h
  | i + 1, c, h => proc (D.k (lft c)) (D.v (lft c)) h (stIn i (lft c) h)

theorem stIn_succ (i : ℕ) (c : Dev nD) (h : ℕ) : stIn D (i + 1) (rgt c) h = proc (D.k c) (D.v c) h (stIn D i c h) := by
  show proc (D.k (lft (rgt c))) (D.v (lft (rgt c))) h (stIn D i (lft (rgt c)) h) = _
  rw [lft_rgt]

/-- The results device `c` makes at the last step: those of the query block that has then seen every share. -/
def outOf (c : Dev nD) (h : ℕ) : FVec F S128x256 .f32 := out (proc (D.k c) (D.v c) h (stIn D 15 c h))
/-- The finished block, which device `c` sends on. -/
def finished (c : Dev nD) : S8x128x256.Idx → Elt F .f32 := fun j => outOf D c (j 0).val (ix2 (j 1) (j 2))

/-! ## What the payments hand over -/

abbrev oBuf (c : Dev nD) (f : S8x128x256.Idx → Elt F .f32) : sProp 𝕄 := (oM.view.loc (c : Thread nD τ)) ↦{fullShare} f
abbrev finBuf (c : Dev nD) (f : S8x128x256.Idx → Elt F .f32) : sProp 𝕄 := (fin.view.loc (c : Thread nD τ)) ↦{fullShare} f

/-- Device `b` lets the slot of head `h` be written that its neighbour sends into at step `i`. -/
def relHead (b : Dev nD) (i h : ℕ) : sProp 𝕄 :=
  iprop(released ES (b, (i + 1) % 2, h) (i / 2 + 1) ∗ reached ER (rC b ((i + 1) % 2) h) (i / 2))
/-- The two heads the credit number `u` lets go. -/
def rel (b : Dev nD) (u : ℕ) : sProp 𝕄 :=
  iprop(relHead b (u / 4 + 1) (2 * (u % 4)) ∗ relHead b (u / 4 + 1) (2 * (u % 4) + 1))
/-- A unit of credit says that everything up to its own number has been let go. -/
def crPay (c : Dev nD) (d : ℕ) : sProp 𝕄 := bigSep (Finset.range (d / 2 + 1)) (fun u => rel (rgt c) u)
/-- What the device before gives at the barrier: its credit and its exit semaphore are there, -/
def barL (c : Dev nD) : sProp 𝕄 := iprop(reached ER (crC (lft c)) 0 ∗ reached ER (exC (lft c)) 0)
/-- and what the device after gives: slot 1 of every head, its result buffer, and its semaphores. -/
def barR (c : Dev nD) : sProp 𝕄 :=
  iprop(bigSep (Finset.range 8) (fun h => relHead (rgt c) 0 h) ∗ (∃ f, oBuf (rgt c) f) ∗ reached ER (frC (rgt c)) 0 ∗ reached ER (exC (rgt c)) 0)

instance rel_persistent (b : Dev nD) (u : ℕ) : BI.Persistent (rel (F := F) b u) := by unfold rel relHead; infer_instance
instance relHead_persistent (b : Dev nD) (i h : ℕ) : BI.Persistent (relHead (F := F) b i h) := by unfold relHead; infer_instance
instance crPay_persistent (c : Dev nD) (d : ℕ) : BI.Persistent (crPay (F := F) c d) := by unfold crPay; infer_instance

/-! ## The schedule -/

/-- The duties of a semaphore in round `r`. -/
def dutiesAt (s : SemLoc sig) (r : ℕ) : Finset ℕ :=
  match s with
  | .reg x => if r = 0 then (if x = crS then Finset.range 112 else {0, 1}) else ∅
  | .dma x => if x.val < 4 then ∅ else if x.val < 36 then (if r < 7 + (x.val - 4) / 8 % 2 then {0} else ∅) else if r = 0 then {0} else ∅

/-- The amount of each of them. -/
def amountAt (s : SemLoc sig) : ℕ :=
  match s with
  | .reg _ => 1
  | .dma x => if x.val < 36 then N else NF

/-- What a payment to a semaphore of device `c` hands over. -/
def payAt (c : Dev nD) (s : SemLoc sig) (r d : ℕ) : sProp 𝕄 :=
  match s with
  | .reg x => if x = crS then crPay c d else if x = exS then iprop(emp) else if d = 0 then barL c else barR c
  | .dma x =>
    if x.val < 20 then slotAny (F := F) c (((x.val - 4) / 8 + 1) % 2) ((x.val - 4) % 8)
    else if x.val < 36 then slotAt c ((x.val - 20) / 8) ((x.val - 20) % 8) (stIn D (2 * r + 2 - (x.val - 20) / 8) c ((x.val - 20) % 8))
    else if x.val = 36 then iprop(∃ f, finBuf c f)
    else oBuf c (finished D (lft c))

def Rd : Rounds.Schedule (GSem nD τ sig) ℕ 𝕄 where
  duties g r := if g.1.2 = .tc then dutiesAt g.2 r else ∅
  unitless _ := False
  amount g _ _ := amountAt g.2
  payload g r d := payAt D g.1.1 g.2 r d
  amount_pos g _ _ _ := by
    unfold amountAt
    split
    · exact Nat.one_pos
    · split
      · exact N_pos
      · exact NF_pos

theorem on_storable (ℓ : Loc nD τ sig) (I : Finset (Idx ℓ)) (P : Buf (Elt F) ℓ → Prop) :
    BI.Storable (upEmb : UEmb _ 𝕄) (iprop(∃ f, ⌜P f⌝ ∗ ℓ ↦[I]{fullShare} f) : sProp 𝕄) := inferInstance

instance slotAny_storable (c : Dev nD) (s h : ℕ) : BI.Storable (upEmb : UEmb _ 𝕄) (slotAny (F := F) c s h) :=
  slot_storable (Ix := ℕ) (U := UU) (Lvl := ℕ) (Name := ℕ) (Val := Elt F) ((slotM s h).view.loc (c : Thread nD τ)) (slotM s h).view.set
instance slotAt_storable (c : Dev nD) (s h : ℕ) (st : St F) : BI.Storable (upEmb : UEmb _ 𝕄) (slotAt c s h st) :=
  on_storable ((slotM s h).view.loc (c : Thread nD τ)) (slotM s h).view.set (fun f => Rep s h f st)

instance Rd_storable (g : GSem nD τ sig) (r d : ℕ) : BI.Storable (upEmb : UEmb _ 𝕄) ((Rd D).payload g r d) := by
  show BI.Storable (upEmb : UEmb _ 𝕄) (payAt D g.1.1 g.2 r d)
  unfold payAt
  split
  · unfold crPay barL barR rel relHead
    (repeat' split) <;> infer_instance
  · (repeat' split) <;> infer_instance

section Sched

variable (c : Dev nD)

theorem sS_val {s h : ℕ} (hs : s < 2) (hh : h < 8) : (sS s h).val = 4 + 8 * s + h := by
  show 4 + 8 * (s % 2) + h % 8 = _
  rw [Nat.mod_eq_of_lt hs, Nat.mod_eq_of_lt hh]
theorem rS_val {s h : ℕ} (hs : s < 2) (hh : h < 8) : (rS s h).val = 20 + 8 * s + h := by
  show 20 + 8 * (s % 2) + h % 8 = _
  rw [Nat.mod_eq_of_lt hs, Nat.mod_eq_of_lt hh]

theorem duties_tc (s : SemLoc sig) (r : ℕ) : (Rd D).duties ((c : Thread nD τ), s) r = dutiesAt s r := by
  show (if (c : Thread nD τ).2 = .tc then dutiesAt s r else ∅) = _
  exact if_pos rfl

theorem duties_bar : (Rd D).duties (barC c) 0 = {0, 1} := by
  rw [duties_tc]; show dutiesAt (.reg barS) 0 = _; unfold dutiesAt; dsimp only; rw [if_pos rfl, if_neg bar_ne_cr]
theorem duties_ex : (Rd D).duties (exC c) 0 = {0, 1} := by
  rw [duties_tc]; show dutiesAt (.reg exS) 0 = _; unfold dutiesAt; dsimp only; rw [if_pos rfl, if_neg ex_ne_cr]
theorem duties_cr : (Rd D).duties (crC c) 0 = Finset.range 112 := by
  rw [duties_tc]; show dutiesAt (.reg crS) 0 = _; unfold dutiesAt; dsimp only; rw [if_pos rfl, if_pos rfl]
theorem duties_f : (Rd D).duties (fC c) 0 = {0} := by
  rw [duties_tc]; unfold dutiesAt; simp only [fS_val]; rfl
theorem duties_fr : (Rd D).duties (frC c) 0 = {0} := by
  rw [duties_tc]; unfold dutiesAt; simp only [frS_val]; rfl

theorem duties_s {s h r : ℕ} (hs : s < 2) (hh : h < 8) : (Rd D).duties (sC c s h) r = if r < 7 + s then {0} else ∅ := by
  rw [duties_tc]
  unfold dutiesAt
  simp only [sS_val hs hh]
  rw [if_neg (by omega), if_pos (by omega), show (4 + 8 * s + h - 4) / 8 % 2 = s by omega]
theorem duties_r {s h r : ℕ} (hs : s < 2) (hh : h < 8) : (Rd D).duties (rC c s h) r = if r < 7 + s then {0} else ∅ := by
  rw [duties_tc]
  unfold dutiesAt
  simp only [rS_val hs hh]
  rw [if_neg (by omega), if_pos (by omega), show (20 + 8 * s + h - 4) / 8 % 2 = s by omega]

theorem amount_s {s h r d : ℕ} (hs : s < 2) (hh : h < 8) : (Rd D).amount (sC c s h) r d = N := by
  show amountAt (.dma (sS s h)) = _
  unfold amountAt
  simp only [sS_val hs hh]
  exact if_pos (by omega)
theorem amount_r {s h r d : ℕ} (hs : s < 2) (hh : h < 8) : (Rd D).amount (rC c s h) r d = N := by
  show amountAt (.dma (rS s h)) = _
  unfold amountAt
  simp only [rS_val hs hh]
  exact if_pos (by omega)
theorem amount_f {r d : ℕ} : (Rd D).amount (fC c) r d = NF := by
  show amountAt (.dma fS) = _
  unfold amountAt; simp only [fS_val]; rfl
theorem amount_fr {r d : ℕ} : (Rd D).amount (frC c) r d = NF := by
  show amountAt (.dma frS) = _
  unfold amountAt; simp only [frS_val]; rfl
theorem amount_reg (s : Sem sig) {r d : ℕ} : (Rd D).amount ((c : Thread nD τ), .reg s) r d = 1 := rfl

theorem expect_bar : (Rd D).expect (barC c) 0 = 2 := by
  unfold Schedule.expect Schedule.amountOf; rw [duties_bar]; rfl
theorem expect_ex : (Rd D).expect (exC c) 0 = 2 := by
  unfold Schedule.expect Schedule.amountOf; rw [duties_ex]; rfl
theorem expect_cr : (Rd D).expect (crC c) 0 = 112 := by
  unfold Schedule.expect Schedule.amountOf; rw [duties_cr]
  simp only [amount_reg, Finset.sum_const, Finset.card_range, smul_eq_mul, Nat.mul_one]
theorem expect_s {s h r : ℕ} (hs : s < 2) (hh : h < 8) (hr : r < 7 + s) : (Rd D).expect (sC c s h) r = N := by
  unfold Schedule.expect Schedule.amountOf; rw [duties_s D c hs hh, if_pos hr, Finset.sum_singleton, amount_s D c hs hh]
theorem expect_r {s h r : ℕ} (hs : s < 2) (hh : h < 8) (hr : r < 7 + s) : (Rd D).expect (rC c s h) r = N := by
  unfold Schedule.expect Schedule.amountOf; rw [duties_r D c hs hh, if_pos hr, Finset.sum_singleton, amount_r D c hs hh]
theorem expect_f : (Rd D).expect (fC c) 0 = NF := by
  unfold Schedule.expect Schedule.amountOf; rw [duties_f, Finset.sum_singleton, amount_f]
theorem expect_fr : (Rd D).expect (frC c) 0 = NF := by
  unfold Schedule.expect Schedule.amountOf; rw [duties_fr, Finset.sum_singleton, amount_fr]

theorem payload_cr (r d : ℕ) : (Rd D).payload (crC c) r d = crPay c d := by
  show payAt D c (.reg crS) r d = _
  unfold payAt; dsimp only; rw [if_pos rfl]
theorem payload_ex (r d : ℕ) : (Rd D).payload (exC c) r d = iprop(emp) := by
  show payAt D c (.reg exS) r d = _
  unfold payAt; dsimp only; rw [if_neg ex_ne_cr, if_pos rfl]
theorem payload_bar0 (r : ℕ) : (Rd D).payload (barC c) r 0 = barL c := by
  show payAt D c (.reg barS) r 0 = _
  unfold payAt; dsimp only; rw [if_neg bar_ne_cr, if_neg bar_ne_ex, if_pos rfl]
theorem payload_bar1 (r : ℕ) : (Rd D).payload (barC c) r 1 = barR c := by
  show payAt D c (.reg barS) r 1 = _
  unfold payAt; dsimp only; rw [if_neg bar_ne_cr, if_neg bar_ne_ex, if_neg (by decide)]
theorem payload_s {s h : ℕ} (r d : ℕ) (hs : s < 2) (hh : h < 8) : (Rd D).payload (sC c s h) r d = slotAny (F := F) c ((s + 1) % 2) h := by
  show payAt D c (.dma (sS s h)) r d = _
  unfold payAt
  simp only [sS_val hs hh]
  rw [if_pos (by omega), show (4 + 8 * s + h - 4) / 8 = s by omega, show (4 + 8 * s + h - 4) % 8 = h by omega]
theorem payload_r {s h : ℕ} (r d : ℕ) (hs : s < 2) (hh : h < 8) : (Rd D).payload (rC c s h) r d = slotAt c s h (stIn D (2 * r + 2 - s) c h) := by
  show payAt D c (.dma (rS s h)) r d = _
  unfold payAt
  simp only [rS_val hs hh]
  rw [if_neg (by omega), if_pos (by omega), show (20 + 8 * s + h - 20) / 8 = s by omega, show (20 + 8 * s + h - 20) % 8 = h by omega]
theorem payload_f (r d : ℕ) : (Rd D).payload (fC c) r d = iprop(∃ f, finBuf c f) := by
  show payAt D c (.dma (fS)) r d = _
  unfold payAt
  simp only [fS_val]
  rw [if_neg (by decide), if_neg (by decide), if_pos trivial]
theorem payload_fr (r d : ℕ) : (Rd D).payload (frC c) r d = oBuf c (finished D (lft c)) := by
  show payAt D c (.dma (frS)) r d = _
  unfold payAt
  simp only [frS_val]
  rw [if_neg (by decide), if_neg (by decide), if_neg (by decide)]

end Sched

/-! ## What a device owes the others, and the order of the waits -/

/-- What the device pays at time `t`: the credit to the device before, from the second step on, and the two copies to the
    device after, which waits for them four times later. -/
def oTick (c : Dev nD) (t : ℕ) : CellTallies nD τ sig ℕ :=
  (if 4 ≤ t then tallyAt (crC (lft c)) t 2 else 0)
    + (tallyAt (rC (rgt c) ((t / 4 + 1) % 2) (2 * (t % 4))) (t + 4) N + tallyAt (rC (rgt c) ((t / 4 + 1) % 2) (2 * (t % 4) + 1)) (t + 4) N)
/-- What it pays at the end. -/
def Oexit (c : Dev nD) : CellTallies nD τ sig ℕ := tallyAt (exC (rgt c)) 0 1 + tallyAt (exC (lft c)) 0 1
def Ofin (c : Dev nD) : CellTallies nD τ sig ℕ := Oexit c + tallyAt (frC (rgt c)) 0 NF
/-- What is left to pay from time `t` on. -/
def Orem (c : Dev nD) (t : ℕ) : CellTallies nD τ sig ℕ := (∑ u ∈ Finset.Ico t 60, oTick c u) + Ofin c
/-- What it owes at the start. -/
def O₀ (c : Dev nD) : CellTallies nD τ sig ℕ := Orem c 0 + tallyAt (barC (rgt c)) 0 1 + tallyAt (barC (lft c)) 0 1

theorem Orem_step (c : Dev nD) {t : ℕ} (ht : t < 60) : Orem c t = Orem c (t + 1) + oTick c t := by
  unfold Orem
  rw [Finset.sum_eq_sum_Ico_succ_bot ht]
  abel
theorem Orem_last (c : Dev nD) {t : ℕ} (ht : 60 ≤ t) : Orem c t = Ofin c := by
  unfold Orem
  rw [Finset.Ico_eq_empty (by omega), Finset.sum_empty, zero_add]

def L (g : GSem nD τ sig) : Finset ℕ := if g.1.2 = .tc then Finset.range 100 else ∅
def lv (g : GSem nD τ sig) (t : ℕ) : ℕ :=
  match g.2 with
  | .reg x => if x = crS then 2 * t + 3 else if x = exS then 1001 else 1
  | .dma x => if x.val < 20 then 0 else if x.val < 36 then 2 * t + 2 else if x.val = 36 then 0 else 1000

theorem L_of_ne (g : GSem nD τ sig) (h : g.1.2 ≠ .tc) : L g = ∅ := if_neg h
theorem L_tc (c : Dev nD) (s : SemLoc sig) : L ((c : Thread nD τ), s) = Finset.range 100 := if_pos rfl

theorem lv_cr (c : Dev nD) (t : ℕ) : lv (crC c) t = 2 * t + 3 := by unfold lv; dsimp only; rw [if_pos rfl]
theorem lv_ex (c : Dev nD) (t : ℕ) : lv (exC c) t = 1001 := by unfold lv; dsimp only; rw [if_neg ex_ne_cr, if_pos rfl]
theorem lv_bar (c : Dev nD) (t : ℕ) : lv (barC c) t = 1 := by unfold lv; dsimp only; rw [if_neg bar_ne_cr, if_neg bar_ne_ex]
theorem lv_s (c : Dev nD) {s h : ℕ} (t : ℕ) (hs : s < 2) (hh : h < 8) : lv (sC c s h) t = 0 := by
  unfold lv; simp only [sS_val hs hh]; exact if_pos (by omega)
theorem lv_r (c : Dev nD) {s h : ℕ} (t : ℕ) (hs : s < 2) (hh : h < 8) : lv (rC c s h) t = 2 * t + 2 := by
  unfold lv; simp only [rS_val hs hh]; rw [if_neg (by omega), if_pos (by omega)]
theorem lv_f (c : Dev nD) (t : ℕ) : lv (fC c) t = 0 := by
  unfold lv; simp only [fS_val]; rfl
theorem lv_fr (c : Dev nD) (t : ℕ) : lv (frC c) t = 1000 := by
  unfold lv; simp only [frS_val]; rfl

/-- All that is owed lies at levels above `b`. -/
def Above (b : ℕ) (O : CellTallies nD τ sig ℕ) : Prop := ∀ g u, 0 < O g u → u ∈ L g ∧ b < lv g u

theorem Above.zero (b : ℕ) : Above b 0 := fun _ _ h => absurd h (Nat.lt_irrefl 0)
theorem Above.add {b : ℕ} {O O' : CellTallies nD τ sig ℕ} (h : Above b O) (h' : Above b O') : Above b (O + O') := fun g u hp => by
  rw [Pi.add_apply, Finsupp.add_apply] at hp
  rcases Nat.add_pos_iff_pos_or_pos.mp hp with hp | hp
  · exact h g u hp
  · exact h' g u hp
theorem Above.at {b : ℕ} (g : GSem nD τ sig) (t n : ℕ) (hL : t ∈ L g) (h : b < lv g t) : Above b (tallyAt g t n) := fun g' u hp => by
  rw [tallyAt_apply] at hp
  by_cases e : g' = g ∧ u = t
  · rw [e.1, e.2]; exact ⟨hL, h⟩
  · rw [if_neg e] at hp; exact absurd hp (Nat.lt_irrefl 0)
theorem Above.sum {b : ℕ} (S : Finset ℕ) (O : ℕ → CellTallies nD τ sig ℕ) (h : ∀ u ∈ S, Above b (O u)) : Above b (∑ u ∈ S, O u) := by
  induction S using Finset.induction_on with
  | empty => rw [Finset.sum_empty]; exact Above.zero b
  | insert a S ha ih =>
    rw [Finset.sum_insert ha]
    exact (h a (Finset.mem_insert_self a S)).add (ih fun u hu => h u (Finset.mem_insert_of_mem hu))

theorem mem_L (c : Dev nD) (s : SemLoc sig) {t : ℕ} (ht : t < 100) : t ∈ L ((c : Thread nD τ), s) := by rw [L_tc]; exact Finset.mem_range.mpr ht

/-- The two copies of time `t` are waited for later than anything up to the credit of time `t`. -/
theorem above_sends (c : Dev nD) {b t : ℕ} (ht : t < 60) (hb : b < 2 * t + 10) :
    Above b (tallyAt (rC (rgt c) ((t / 4 + 1) % 2) (2 * (t % 4))) (t + 4) N + tallyAt (rC (rgt c) ((t / 4 + 1) % 2) (2 * (t % 4) + 1)) (t + 4) N) :=
  (Above.at _ _ _ (mem_L _ _ (by omega)) (by rw [lv_r _ _ (by omega) (by omega)]; omega)).add
    (Above.at _ _ _ (mem_L _ _ (by omega)) (by rw [lv_r _ _ (by omega) (by omega)]; omega))

theorem above_exit (c : Dev nD) {b : ℕ} (hb : b ≤ 1000) : Above b (Oexit c) :=
  (Above.at _ _ _ (mem_L _ _ (by decide)) (by rw [lv_ex]; omega)).add (Above.at _ _ _ (mem_L _ _ (by decide)) (by rw [lv_ex]; omega))
theorem above_fin (c : Dev nD) {b : ℕ} (hb : b < 1000) : Above b (Ofin c) :=
  (above_exit c hb.le).add (Above.at _ _ _ (mem_L _ _ (by decide)) (by rw [lv_fr]; omega))
theorem above_rem (c : Dev nD) {b t : ℕ} (hb : b < 2 * t + 3) (ht : t ≤ 60) (hb' : 4 ≤ t ∨ b < 10) : Above b (Orem c t) := by
  refine (Above.sum _ _ fun u hu => ?_).add (above_fin c (by omega))
  rw [Finset.mem_Ico] at hu
  refine Above.add ?_ (above_sends c hu.2 (by omega))
  split
  · exact Above.at _ _ _ (mem_L _ _ (by omega)) (by rw [lv_cr]; omega)
  · exact Above.zero b

/-- The levels, as every device knows them. -/
def levs : sProp 𝕄 := levAts L lv
instance levs_persistent : BI.Persistent (levs (F := F)) := by unfold levs; infer_instance

/-- A wait below everything owed is allowed. -/
theorem mayWait (c : Dev nD) (s : SemLoc sig) {t b : ℕ} {O : CellTallies nD τ sig ℕ} (ht : t < 100) (hb : lv ((c : Thread nD τ), s) t ≤ b)
    (h : Above b O) : (levs : sProp 𝕄) ⊢ MayWait (c : Thread nD τ) s t O :=
  MayOwe.of_cut (L := L) (lev := lv) b (fun p hp => by rw [Finset.mem_singleton.mp hp]; exact mem_L c s ht) (fun g u hg => (h g u hg).1)
    (fun p hp => by rw [Finset.mem_singleton.mp hp]; exact hb) (fun g u hg => (h g u hg).2)

end Cert.KernelIdeal.Ring
-- ==== Proof.Rules.lean ====
/-
  What one device does at a semaphore, one rule for each kind of step: waiting for a slot to be filled, waiting for a
  source to be free, giving and taking credit, sending a slot on, and letting a slot go.
-/
module

public import proofs.«01_k».proof.Proof.Proto

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (D : Data F)

/-! ## The invariants -/

/-- The semaphores a device has only while the kernel runs. -/
def osem (k : Fin 36) : SemLoc sig :=
  if k.val < 34 then .dma (⟨(4 + k.val) % 38, Nat.mod_lt _ (by decide)⟩ : Fin 38) else if k.val = 34 then .reg crS else .reg exS

theorem osem_inj : Function.Injective osem := by decide +kernel

def barEmb : Dev nD ↪ GSem nD τ sig := ⟨fun c => barC c, fun _ _ h => congrArg (fun g : GSem nD τ sig => g.1.1) h⟩
def scEmb : Dev nD × Fin 36 ↪ GSem nD τ sig :=
  ⟨fun p => ((p.1 : Thread nD τ), osem p.2), fun p p' h =>
    Prod.ext (congrArg (fun g : GSem nD τ sig => g.1.1) h) (osem_inj (congrArg (fun g : GSem nD τ sig => g.2) h))⟩
def barCells : Finset (GSem nD τ sig) := Finset.univ.map barEmb
def scCells : Finset (GSem nD τ sig) := Finset.univ.map scEmb
def keys : Finset Key := Finset.univ ×ˢ (Finset.range 2 ×ˢ Finset.range 8)

theorem bar_mem (c : Dev nD) : barC c ∈ barCells ∪ scCells := Finset.mem_union_left _ (Finset.mem_map.mpr ⟨c, Finset.mem_univ _, rfl⟩)
theorem sc_mem (c : Dev nD) (s : SemLoc sig) (k : Fin 36) (e : osem k = s) : ((c : Thread nD τ), s) ∈ barCells ∪ scCells :=
  Finset.mem_union_right _ (Finset.mem_map.mpr ⟨(c, k), Finset.mem_univ _, by rw [← e]; rfl⟩)

theorem osem_s (s h : ℕ) (hs : s < 2) (hh : h < 8) : osem ⟨8 * s + h, by omega⟩ = .dma (sS s h) := by
  unfold osem
  rw [if_pos (by show 8 * s + h < 34; omega)]
  exact congrArg SemLoc.dma (Fin.ext (by show (4 + (8 * s + h)) % 38 = _; rw [sS_val hs hh]; omega))
theorem osem_r (s h : ℕ) (hs : s < 2) (hh : h < 8) : osem ⟨16 + 8 * s + h, by omega⟩ = .dma (rS s h) := by
  unfold osem
  rw [if_pos (by show 16 + 8 * s + h < 34; omega)]
  exact congrArg SemLoc.dma (Fin.ext (by show (4 + (16 + 8 * s + h)) % 38 = _; rw [rS_val hs hh]; omega))
theorem osem_f : osem 32 = .dma fS := by decide +kernel
theorem osem_fr : osem 33 = .dma frS := by decide +kernel
theorem osem_cr : osem 34 = .reg crS := by decide +kernel
theorem osem_ex : osem 35 = .reg exS := by decide +kernel

theorem s_mem (c : Dev nD) {s h : ℕ} (hs : s < 2) (hh : h < 8) : sC c s h ∈ barCells ∪ scCells := sc_mem c _ _ (osem_s s h hs hh)
theorem r_mem (c : Dev nD) {s h : ℕ} (hs : s < 2) (hh : h < 8) : rC c s h ∈ barCells ∪ scCells := sc_mem c _ _ (osem_r s h hs hh)
theorem f_mem (c : Dev nD) : fC c ∈ barCells ∪ scCells := sc_mem c _ _ osem_f
theorem fr_mem (c : Dev nD) : frC c ∈ barCells ∪ scCells := sc_mem c _ _ osem_fr
theorem cr_mem (c : Dev nD) : crC c ∈ barCells ∪ scCells := sc_mem c _ _ osem_cr
theorem ex_mem (c : Dev nD) : exC c ∈ barCells ∪ scCells := sc_mem c _ _ osem_ex
theorem key_mem (c : Dev nD) {s h : ℕ} (hs : s < 2) (hh : h < 8) : (c, s, h) ∈ keys :=
  Finset.mem_product.mpr ⟨Finset.mem_univ _, Finset.mem_product.mpr ⟨Finset.mem_range.mpr hs, Finset.mem_range.mpr hh⟩⟩

/-- What a slot is to the one who writes it. -/
abbrev slotOf (k : Key) : sProp 𝕄 := slotAny (F := F) k.1 k.2.1 k.2.2

/-- The names of the invariants. -/
structure Names where
  cell : GSem nD τ sig → ℕ
  slot : Key → ℕ

/-- All invariants of the ring. -/
def inv (K : Names) : sProp 𝕄 :=
  iprop(bigSep (barCells ∪ scCells) (fun g => cellInv ER (Rd D) (K.cell g) g) ∗ bigSep keys (fun k => slotInv ES (K.slot k) k (slotOf k)))

instance inv_persistent (K : Names) : BI.Persistent (inv D K) := by unfold inv; infer_instance

/-- What every device knows throughout: the invariants, and the levels. -/
def ctx (K : Names) : sProp 𝕄 := iprop(inv D K ∗ levs)

instance ctx_persistent (K : Names) : BI.Persistent (ctx D K) := by unfold ctx; infer_instance

variable (K : Names)

theorem inv_cell {g : GSem nD τ sig} (hg : g ∈ barCells ∪ scCells) : inv D K ⊢ cellInv ER (Rd D) (K.cell g) g := by
  have he : bigSep (barCells ∪ scCells) (fun g => cellInv ER (Rd D) (K.cell g) g)
      ⊢ iprop(cellInv ER (Rd D) (K.cell g) g ∗ bigSep ((barCells ∪ scCells).erase g) (fun g => cellInv ER (Rd D) (K.cell g) g)) :=
    Entails.of_eq (bigSep_erase (Φ := fun g => cellInv ER (Rd D) (K.cell g) g) hg)
  unfold inv
  iintro ⟨H, -⟩
  ihave H := he $$ H
  icases H with ⟨H, -⟩
  iexact H
theorem inv_slot {k : Key} (hk : k ∈ keys) : inv D K ⊢ slotInv ES (K.slot k) k (slotOf k) := by
  have he : bigSep keys (fun k => slotInv ES (K.slot k) k (slotOf k))
      ⊢ iprop(slotInv ES (K.slot k) k (slotOf (F := F) k) ∗ bigSep (keys.erase k) (fun k => slotInv ES (K.slot k) k (slotOf k))) :=
    Entails.of_eq (bigSep_erase (Φ := fun k => slotInv ES (K.slot k) k (slotOf (F := F) k)) hk)
  unfold inv
  iintro ⟨-, H⟩
  ihave H := he $$ H
  icases H with ⟨H, -⟩
  iexact H
theorem ctx_cell {g : GSem nD τ sig} (hg : g ∈ barCells ∪ scCells) : ctx D K ⊢ cellInv ER (Rd D) (K.cell g) g := by
  unfold ctx
  iintro ⟨H, -⟩
  iapply (inv_cell D K hg); iexact H
theorem ctx_slot {k : Key} (hk : k ∈ keys) : ctx D K ⊢ slotInv ES (K.slot k) k (slotOf k) := by
  unfold ctx
  iintro ⟨H, -⟩
  iapply (inv_slot D K hk); iexact H
theorem ctx_lev : ctx D K ⊢ levs := by
  unfold ctx
  iintro ⟨-, H⟩
  iexact H

/-- What the device owes, whatever it has waited for. -/
def owe (c : Dev nD) (O : CellTallies nD τ sig ℕ) : sProp 𝕄 := iprop(∃ W, owes (c : Thread nD τ) O W)

section Rules

variable {α : Type}

/-- A wait for the whole of a round. -/
theorem wait_round (c : Dev nD) {s : SemLoc sig} (hg : ((c : Thread nD τ), s) ∈ barCells ∪ scCells) {w : TpuEff nD τ sig (Elt F) Λ₀ .tc PUnit} {n : ℕ}
    (hw : ∀ Kt : PUnit → sProp 𝕄, wpE (defs₀ (F := F)) 𝒱₀ (c : Thread nD τ) none Set.univ w Kt = waitSpec (c : Thread nD τ) Set.univ s n Kt)
    {r ι b : ℕ} {O : CellTallies nD τ sig ℕ} (hn : n = (Rd D).expect ((c : Thread nD τ), s) r) (hι : ι < 100) (hb : lv ((c : Thread nD τ), s) ι ≤ b) (hO : Above b O)
    {k : PUnit.{1} → Prog (TpuEff nD τ sig (Elt F) Λ₀ .tc) α} {Q : α → sProp 𝕄} :
    iprop(ctx D K ∗ cred (tallyAt ((c : Thread nD τ), s) ι n) ∗ owe c O ∗ atPos ER ((c : Thread nD τ), s) r ∅ 0)
      ⊢ iprop(((owe c O ∗ atPos ER ((c : Thread nD τ), s) (r + 1) ∅ 0 ∗ reached ER ((c : Thread nD τ), s) (r + 1)
            ∗ bigSep ((Rd D).duties ((c : Thread nD τ), s) r) (fun d => (Rd D).payload ((c : Thread nD τ), s) r d))
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  have hm : ctx D K ⊢ (MayWait (c : Thread nD τ) s ι O : sProp 𝕄) := (@ctx_lev F _ D K).trans (mayWait c s hι hb hO)
  unfold owe
  iintro ⟨#Hctx, Hc, ⟨%W, HO⟩, Hat⟩ Hk
  iapply (Rounds.wp_wait_rest_token 𝒱₀ ER (Rd D) (c : Thread nD τ) none (κ := K.cell ((c : Thread nD τ), s)) hw (Set.mem_univ _) ι
      (O := O) (W := W) (R := r) (m := 0) (T := ∅) ((Nat.zero_add n).trans hn)) $$ [Hc HO Hat]
  · isplitr; · iapply (ctx_cell D K hg); iexact Hctx
    isplitl [Hc]; · iexact Hc
    isplitl [HO]; · iexact HO
    isplitr
    · iapply hm; iexact Hctx
    iexact Hat
  iintro ⟨HO, Hat, Hr, Hpay⟩
  iapply Hk
  isplitl [HO]; · iexists (insert (s, ι) W); iexact HO
  isplitl [Hat]; · iexact Hat
  isplitl [Hr]; · iexact Hr
  rw [Finset.sdiff_empty]
  iexact Hpay

/-- Waiting for slot `s` of head `h` to be filled: it is handed over with the state it carries. -/
theorem wait_recv (c : Dev nD) {s h r j ι : ℕ} (hs : s < 2) (hh : h < 8) (hr : r < 7 + s) (hj : 2 * r + 2 - s = j) (hι : ι < 100) {O : CellTallies nD τ sig ℕ} (hO : Above (2 * ι + 2) O)
    {x : DmaSem sig} (ex : x = rS s h) {src dst : Memref sig .tc .vmem S2x136x256 .f32} {s' h' : ℕ} (ed : dst = slotM s' h')
    {w₁ : src.view.WordExact} {w₂ : dst.view.WordExact} {k : PUnit.{1} → Prog (TpuEff nD τ sig (Elt F) Λ₀ .tc) α} {Q : α → sProp 𝕄} :
    iprop(ctx D K ∗ cred (tallyAt (rC c s h) ι N) ∗ owe c O ∗ atPos ER (rC c s h) r ∅ 0)
      ⊢ iprop(((owe c O ∗ atPos ER (rC c s h) (r + 1) ∅ 0 ∗ reached ER (rC c s h) (r + 1) ∗ slotAt c s h (stIn D j c h))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 x src dst w₁ w₂) k) Q) := by
  subst ex ed hj
  have := wait_round D K c (r_mem c hs hh) (n := N) (wpE_waitDma2_eq (src := src) (dst := slotM s' h') (hsrc := w₁) (hdst := w₂) 𝒱₀ (c : Thread nD τ) none Set.univ) (expect_r D c hs hh hr).symm hι
    (lv_r c ι hs hh).le hO (k := k) (Q := Q)
  rw [duties_r D c hs hh, if_pos hr, bigSep_singleton, payload_r D c r 0 hs hh] at this
  exact this

/-- Waiting for the source of slot `s`, the other slot of the head, to be free again: it comes back. -/
theorem wait_sent (c : Dev nD) {s h r : ℕ} (hs : s < 2) (hh : h < 8) (hr : r < 7 + s) {O : CellTallies nD τ sig ℕ} (hO : Above 0 O)
    {x : DmaSem sig} (ex : x = sS s h) {src dst : Memref sig .tc .vmem S2x136x256 .f32} {s' h' : ℕ} (ed : dst = slotM s' h')
    {w₁ : src.view.WordExact} {w₂ : dst.view.WordExact} {k : PUnit.{1} → Prog (TpuEff nD τ sig (Elt F) Λ₀ .tc) α} {Q : α → sProp 𝕄} :
    iprop(ctx D K ∗ cred (tallyAt (sC c s h) 0 N) ∗ owe c O ∗ atPos ER (sC c s h) r ∅ 0)
      ⊢ iprop(((owe c O ∗ atPos ER (sC c s h) (r + 1) ∅ 0 ∗ reached ER (sC c s h) (r + 1) ∗ slotAny c ((s + 1) % 2) h)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 x src dst w₁ w₂) k) Q) := by
  subst ex ed
  have := wait_round D K c (s_mem c hs hh) (n := N) (wpE_waitDma2_eq (src := src) (dst := slotM s' h') (hsrc := w₁) (hdst := w₂) 𝒱₀ (c : Thread nD τ) none Set.univ) (expect_s D c hs hh hr).symm (by decide : 0 < 100)
    (lv_s c 0 hs hh).le hO (k := k) (Q := Q)
  rw [duties_s D c hs hh, if_pos hr, bigSep_singleton, payload_s D c r 0 hs hh] at this
  exact this

/-- What is needed at step `j` to send head `h` on, and the token of the copy that comes in meanwhile. -/
def sendTok (c : Dev nD) (h j : ℕ) : sProp 𝕄 :=
  iprop(dutyTok ER (sC c ((j + 1) % 2) h) (j / 2) 0 ∗ dutyTok ER (rC (rgt c) ((j + 1) % 2) h) (j / 2) 0 ∗ writeTok ES (rgt c, (j + 1) % 2, h) (j / 2 + 1))

/-- Sending the processed state of head `h` on at step `j`, into a slot the device after has let go. -/
theorem send (c : Dev nD) {h j : ℕ} (hh : h < 8) (hj : j < 15) {O : CellTallies nD τ sig ℕ} {ι : ℕ} {d : Dev nD} (hd : d = rgt c)
    {x y : DmaSem sig} (ex : x = sS ((j + 1) % 2) h) (ey : y = rS ((j + 1) % 2) h) {src dst : Memref sig .tc .vmem S2x136x256 .f32} (es : src = slotM (j % 2) h)
    (ed : dst = slotM ((j + 1) % 2) h) {hsc : dst.view.ref.isScScratch = false} {w₁ : src.view.WordExact} {w₂ : dst.view.WordExact}
    {ht : DmaTarget.Typed .vmem (.dma y) (.remote (d : Thread nD τ) dst (.dma x) hsc)}
    {k : PUnit.{1} → Prog (TpuEff nD τ sig (Elt F) Λ₀ .tc) α} {Q : α → sProp 𝕄} :
    iprop(ctx D K ∗ slotAt c (j % 2) h (proc (D.k c) (D.v c) h (stIn D j c h)) ∗ relHead (rgt c) j h ∗ sendTok c h j
        ∗ reached ER (sC c ((j + 1) % 2) h) (j / 2) ∗ owe c (O + tallyAt (rC (rgt c) ((j + 1) % 2) h) ι N))
      ⊢ iprop(((owe c O ∗ cred (tallyAt (sC c ((j + 1) % 2) h) 0 N))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (d : Thread nD τ) dst (.dma x) hsc) (.dma y) w₁ w₂ ht) k) Q) := by
  subst hd ex ey es ed
  have hs : (j + 1) % 2 < 2 := Nat.mod_lt _ (by decide)
  have hr : j / 2 < 7 + (j + 1) % 2 := by omega
  have hp1 (f : S2x8x2x136x256.Idx → Elt F .f32) : slotBuf c (j % 2) h f ⊢ (Rd D).payload (sC c ((j + 1) % 2) h) (j / 2) 0 := by
    rw [payload_s D c (j / 2) 0 hs hh, show ((j + 1) % 2 + 1) % 2 = j % 2 by omega]
    unfold slotAny
    iintro H
    iexists f; iexact H
  have hp2 (f fd : S2x8x2x136x256.Idx → Elt F .f32) (R : Rep (j % 2) h f (proc (D.k c) (D.v c) h (stIn D j c h))) :
      slotBuf (rgt c) ((j + 1) % 2) h ((slotM ((j + 1) % 2) h).view.write (Elt F) fd ((slotM (j % 2) h).view.read (Elt F) f) Finset.univ)
        ⊢ (Rd D).payload (rC (rgt c) ((j + 1) % 2) h) (j / 2) 0 := by
    rw [payload_r D (rgt c) (j / 2) 0 hs hh, show 2 * (j / 2) + 2 - (j + 1) % 2 = j + 1 by omega, stIn_succ]
    unfold slotAt
    iintro H
    iexists _
    isplitr
    rotate_left
    · iexact H
    · ipureintro; exact R.copy fd
  unfold slotAt relHead sendTok owe
  iintro ⟨#Hctx, ⟨%f, %hR, Hsrc⟩, ⟨Hrel, #Hrr⟩, ⟨Ht1, Ht2, Hw⟩, Hr1, ⟨%W, HO⟩⟩ Hk
  imod (slot_take ES (S := slotOf (rgt c, (j + 1) % 2, h)) (ι := K.slot (rgt c, (j + 1) % 2, h)) (Set.mem_univ _) (j / 2 + 1)) $$ [Hrel Hw] with Hd
  · isplitr; · iapply (ctx_slot D K (key_mem (rgt c) hs hh)); iexact Hctx
    isplitl [Hrel]; · iexact Hrel
    iexact Hw
  unfold slotOf slotAny
  icases Hd with ⟨%fd, Hdst⟩
  iapply (Rounds.wp_send_pointsTo 𝒱₀ ER (Rd D) (c : Thread nD τ) none (c' := (rgt c : Thread nD τ)) (src := slotM (j % 2) h) (dst := slotM ((j + 1) % 2) h)
      (sS := .dma (sS ((j + 1) % 2) h)) (sem := .dma (rS ((j + 1) % 2) h)) (q := fullShare) (fs := f) (κ₁ := K.cell (sC c ((j + 1) % 2) h)) (κ₂ := K.cell (rC (rgt c) ((j + 1) % 2) h))
      (r₁ := j / 2) (r₂ := j / 2) (d₁ := 0) (d₂ := 0) (fd := fd)
      (by rw [duties_s D c hs hh, if_pos hr]; exact Finset.mem_singleton_self _) (by rw [duties_r D (rgt c) hs hh, if_pos hr]; exact Finset.mem_singleton_self _)
      ι 0 N rfl (amount_s D c hs hh) (amount_r D (rgt c) hs hh) O rfl (W := W) (hp1 f) (hp2 f fd hR)) $$ [Hsrc Hdst HO Ht1 Hr1 Ht2]
  · isplitr; · iapply (ctx_cell D K (s_mem c hs hh)); iexact Hctx
    isplitr; · iapply (ctx_cell D K (r_mem (rgt c) hs hh)); iexact Hctx
    isplitl [Hsrc]; · iexact Hsrc
    isplitl [Hdst]; · iexact Hdst
    isplitl [HO]; · iexact HO
    isplitl [Ht1]; · iexact Ht1
    isplitl [Hr1]; · iexact Hr1
    isplitl [Ht2]; · iexact Ht2
    iexact Hrr
  iintro ⟨Hc, HO⟩
  iapply Hk
  isplitl [HO]; · iexists W; iexact HO
  iexact Hc

/-- Letting slot `(i + 1) % 2` of head `h` go for the `i`-th step's copy. -/
theorem release (c : Dev nD) {h i : ℕ} (hh : h < 8) :
    iprop(ctx D K ∗ readerAt ES (c, (i + 1) % 2, h) (i / 2) ∗ slotAny c ((i + 1) % 2) h ∗ reached ER (rC c ((i + 1) % 2) h) (i / 2))
      ⊢ (|={Set.univ}=> (readerAt ES (c, (i + 1) % 2, h) (i / 2 + 1) ∗ relHead c i h) : sProp 𝕄) := by
  have hex : iprop(slotOf (F := F) (c, (i + 1) % 2, h) ∗ slotOf (c, (i + 1) % 2, h)) ⊢ (False : sProp 𝕄) :=
    slot_slot_false (Ix := ℕ) (U := UU) (Lvl := ℕ) (Name := ℕ) (Val := Elt F) (ℓ := (slotM ((i + 1) % 2) h).view.loc (c : Thread nD τ)) (I := (slotM ((i + 1) % 2) h).view.set)
      ⟨_, View.emb_mem_set _ (ix3 0 0 0)⟩
  unfold relHead
  iintro ⟨#Hctx, Hr, Hs, Hrr⟩
  imod (slot_release ES (S := slotOf (c, (i + 1) % 2, h)) (ι := K.slot (c, (i + 1) % 2, h)) (Set.mem_univ _) hex (i / 2)) $$ [Hr Hs] with ⟨Hr, Hrel⟩
  · isplitr; · iapply (ctx_slot D K (key_mem c (Nat.mod_lt _ (by decide)) hh)); iexact Hctx
    isplitl [Hr]; · iexact Hr
    iexact Hs
  imodintro
  isplitl [Hr]; · iexact Hr
  isplitl [Hrel]; · iexact Hrel
  iexact Hrr

/-! ## Signals and regular semaphores -/

omit [FloatOps F] in
theorem bigSep_pick {ι : Type} [DecidableEq ι] {S : Finset ι} {Φ : ι → sProp 𝕄} {a : ι} (h : a ∈ S) : bigSep S Φ ⊢ Φ a := by
  have he : bigSep S Φ ⊢ iprop(Φ a ∗ bigSep (S.erase a) Φ) := Entails.of_eq (bigSep_erase (Φ := Φ) h)
  iintro H
  ihave H := he $$ H
  icases H with ⟨H, -⟩
  iexact H

/-- A signal of one unit, which pays one duty. -/
theorem signal_one (c d : Dev nD) {s : Sem sig} {n : ℤ} (hn : n = (1 : ℕ)) (hg : ((d : Thread nD τ), SemLoc.reg s) ∈ barCells ∪ scCells) {e r ι : ℕ}
    (he : e ∈ (Rd D).duties ((d : Thread nD τ), .reg s) r) {O : CellTallies nD τ sig ℕ}
    {k : PUnit.{1} → Prog (TpuEff nD τ sig (Elt F) Λ₀ .tc) α} {Q : α → sProp 𝕄} :
    iprop(ctx D K ∗ owe c (O + tallyAt ((d : Thread nD τ), .reg s) ι 1) ∗ dutyTok ER ((d : Thread nD τ), .reg s) r e
        ∗ (Rd D).payload ((d : Thread nD τ), .reg s) r e ∗ reached ER ((d : Thread nD τ), .reg s) r)
      ⊢ iprop((owe c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) s n) k) Q) := by
  subst hn
  unfold owe
  iintro ⟨#Hctx, ⟨%W, HO⟩, Ht, Hp, Hr⟩ Hk
  iapply (Rounds.wp_signal 𝒱₀ ER (Rd D) (c : Thread nD τ) none (dst := (d : Thread nD τ)) (sem := s) (r := r) (d := e) (k' := 1)
      (κ := K.cell ((d : Thread nD τ), .reg s)) he rfl ι O rfl (W := W)) $$ [HO Ht Hp Hr]
  · isplitr; · iapply (ctx_cell D K hg); iexact Hctx
    isplitl [HO]; · iexact HO
    isplitl [Ht]; · iexact Ht
    isplitl [Hp]; · iexact Hp
    iexact Hr
  iintro HO
  iapply Hk
  iexists W; iexact HO

/-- A wait for both units of a semaphore that is signalled twice. -/
theorem wait_two (c : Dev nD) {s : Sem sig} {n : ℤ} (hn : n = (2 : ℕ)) (hg : ((c : Thread nD τ), SemLoc.reg s) ∈ barCells ∪ scCells)
    (he : (Rd D).duties ((c : Thread nD τ), .reg s) 0 = {0, 1}) {ι b : ℕ} {O : CellTallies nD τ sig ℕ} (hι : ι < 100) (hb : lv ((c : Thread nD τ), .reg s) ι ≤ b)
    (hO : Above b O) {k : PUnit.{1} → Prog (TpuEff nD τ sig (Elt F) Λ₀ .tc) α} {Q : α → sProp 𝕄} :
    iprop(ctx D K ∗ cred (tallyAt ((c : Thread nD τ), .reg s) ι 2) ∗ owe c O ∗ atPos ER ((c : Thread nD τ), .reg s) 0 ∅ 0)
      ⊢ iprop(((owe c O ∗ atPos ER ((c : Thread nD τ), .reg s) 1 ∅ 0
            ∗ (Rd D).payload ((c : Thread nD τ), .reg s) 0 0 ∗ (Rd D).payload ((c : Thread nD τ), .reg s) 0 1)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s n) k) Q) := by
  subst hn
  have hx : (Rd D).expect ((c : Thread nD τ), .reg s) 0 = 2 := by
    unfold Schedule.expect Schedule.amountOf; rw [he]; rfl
  have hp : bigSep ({0, 1} : Finset ℕ) (fun d => (Rd D).payload ((c : Thread nD τ), .reg s) 0 d)
      ⊢ iprop((Rd D).payload ((c : Thread nD τ), .reg s) 0 0 ∗ (Rd D).payload ((c : Thread nD τ), .reg s) 0 1) := by
    rw [bigSep_insert (by decide), bigSep_singleton]; exact BI.Entails.refl _
  iintro H Hk
  iapply (wait_round D K c hg (n := 2) (wpE_semWait_eq 𝒱₀ (c : Thread nD τ) none Set.univ) hx.symm hι hb hO) $$ H
  rw [he]
  iintro ⟨HO, Hat, -, Hp⟩
  iapply Hk
  isplitl [HO]; · iexact HO
  isplitl [Hat]; · iexact Hat
  iapply hp; iexact Hp

/-- Where a device is on its credit semaphore after `k` waits: it has taken `2 k` units, and knows what they say. -/
def crState (c : Dev nD) (k : ℕ) : sProp 𝕄 :=
  iprop(∃ T : Finset ℕ, ⌜T ⊆ Finset.range 112 ∧ 2 * k ≤ T.card⌝ ∗ atPos ER (crC c) 0 T (2 * k) ∗ bigSep T (fun d => crPay c d))

/-- So after `k` waits everything up to number `k` has been let go by the device after. -/
theorem crState_rel (c : Dev nD) {k u : ℕ} (hu : u < k) : crState c k ⊢ iprop(crState c k ∗ rel (F := F) (rgt c) u) := by
  unfold crState
  iintro ⟨%T, %hT, Hat, #Hp⟩
  obtain ⟨d, hd, hdk⟩ : ∃ d ∈ T, 2 * k - 1 ≤ d := by
    by_contra hc
    push Not at hc
    have := Finset.card_le_card (show T ⊆ Finset.range (2 * k - 1) from fun d hd => Finset.mem_range.mpr (hc d hd))
    rw [Finset.card_range] at this
    omega
  isplitl [Hat]
  · iexists T
    isplitr; · ipureintro; exact hT
    isplitl [Hat]; · iexact Hat
    iexact Hp
  · have h1 : bigSep T (fun d => crPay (F := F) c d) ⊢ crPay c d := bigSep_pick hd
    have h2 : crPay (F := F) c d ⊢ rel (rgt c) u := by
      unfold crPay; exact bigSep_pick (Finset.mem_range.mpr (by omega))
    iapply h2; iapply h1; iexact Hp

/-- Taking two units of credit. -/
theorem wait_credit (c : Dev nD) {n : ℤ} (hn : n = (2 : ℕ)) {x : Sem sig} (ex : x = crS) {k₀ t : ℕ} {O : CellTallies nD τ sig ℕ} (ht : t < 100) (hO : Above (2 * t + 3) O)
    {k : PUnit.{1} → Prog (TpuEff nD τ sig (Elt F) Λ₀ .tc) α} {Q : α → sProp 𝕄} :
    iprop(ctx D K ∗ cred (tallyAt (crC c) t 2) ∗ owe c O ∗ crState c k₀)
      ⊢ iprop(((owe c O ∗ crState c (k₀ + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait x n) k) Q) := by
  subst hn ex
  have hm : ctx D K ⊢ (MayWait (c : Thread nD τ) (.reg crS) t O : sProp 𝕄) := (@ctx_lev F _ D K).trans (mayWait c _ ht (lv_cr c t).le hO)
  unfold owe crState
  iintro ⟨#Hctx, Hc, ⟨%W, HO⟩, ⟨%T, %hT, Hat, #Hp⟩⟩ Hk
  iapply (Rounds.wp_wait 𝒱₀ ER (Rd D) (c : Thread nD τ) none (k' := 2) (κ := K.cell (crC c)) (wpE_semWait_eq 𝒱₀ (c : Thread nD τ) none Set.univ) (Set.mem_univ _)
      (cr := Finsupp.single t 2) (O := O) (W := W) {((SemLoc.reg crS : SemLoc sig), t)} (R := 0) (m := 2 * k₀) (T := T) (Util.total_single t 2) (image_single_subset _ t 2)) $$ [Hc HO Hat]
  · isplitr; · iapply (ctx_cell D K (cr_mem c)); iexact Hctx
    isplitl [Hc]; · iexact Hc
    isplitl [HO]; · iexact HO
    isplitr; · iapply hm; iexact Hctx
    iexact Hat
  iintro %S ⟨%hS, HO, Hat, Hq⟩
  rw [duties_cr, expect_cr] at hS
  obtain ⟨h1, h2, h3⟩ := hS
  have hcard : 2 * (k₀ + 1) ≤ S.card := by
    have := Finset.card_sdiff_add_card_eq_card h2
    rw [Finset.card_range] at this
    omega
  have hpay : iprop(bigSep (S \ T) (fun d => (Rd D).payload (crC c) 0 d) ∗ bigSep T (fun d => crPay c d)) ⊢ bigSep S (fun d => crPay (F := F) c d) := by
    have e : bigSep (S \ T) (fun d => (Rd D).payload (crC c) 0 d) = bigSep (S \ T) (fun d => crPay c d) :=
      congrArg (bigSep (S \ T)) (funext fun d => payload_cr D c 0 d)
    rw [e]
    exact Entails.of_eq ((bigSep_union Finset.sdiff_disjoint).symm.trans (by rw [Finset.sdiff_union_of_subset h1]))
  iapply Hk
  isplitl [HO]
  · iexists (W ∪ {((SemLoc.reg crS : SemLoc sig), t)}); iexact HO
  · iexists S
    isplitr; · ipureintro; exact ⟨h2, hcard⟩
    isplitl [Hat]; · iexact Hat
    iapply hpay
    isplitl [Hq]; · iexact Hq
    iexact Hp

/-- Giving two units of credit, the `u`-th time, to the device before: everything up to number `u` has been let go. -/
theorem signal_credit (c : Dev nD) {d : Dev nD} (hd : d = lft c) {n : ℤ} (hn : n = (2 : ℕ)) {x : Sem sig} (ex : x = crS) {u t : ℕ} (hu : u < 56) {O : CellTallies nD τ sig ℕ}
    {k : PUnit.{1} → Prog (TpuEff nD τ sig (Elt F) Λ₀ .tc) α} {Q : α → sProp 𝕄} :
    iprop(ctx D K ∗ owe c (O + tallyAt (crC (lft c)) t 2) ∗ dutyTok ER (crC (lft c)) 0 (2 * u) ∗ dutyTok ER (crC (lft c)) 0 (2 * u + 1)
        ∗ bigSep (Finset.range (u + 1)) (fun u => rel c u) ∗ reached ER (crC (lft c)) 0)
      ⊢ iprop((owe c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) x n) k) Q) := by
  subst hn ex hd
  have hm (e : ℕ) (he : e < 112) : e ∈ (Rd D).duties (crC (lft c)) 0 := by rw [duties_cr]; exact Finset.mem_range.mpr he
  have hp (e : ℕ) (he : e / 2 = u) : bigSep (Finset.range (u + 1)) (fun u => rel c u) ⊢ (Rd D).payload (crC (lft c)) 0 e := by
    rw [payload_cr]; unfold crPay; rw [rgt_lft, he]
  have hland : iprop(cellInv ER (Rd D) (K.cell (crC (lft c))) (crC (lft c)) ∗ (dutyTok ER (crC (lft c)) 0 (2 * u) ∗ dutyTok ER (crC (lft c)) 0 (2 * u + 1)
        ∗ bigSep (Finset.range (u + 1)) (fun u => rel c u) ∗ reached ER (crC (lft c)) 0))
      ⊢ (landingUpdate (crC (lft c)) 2 iprop(emp) : sProp 𝕄) := by
    rw [landingUpdate_def]
    iintro H -
    iapply (raise_roundState ER (Rd D) (g := crC (lft c)) (κ := K.cell (crC (lft c))) (k := 2) (Y := iprop(emp))
      (X := iprop(dutyTok ER (crC (lft c)) 0 (2 * u) ∗ dutyTok ER (crC (lft c)) 0 (2 * u + 1)
        ∗ bigSep (Finset.range (u + 1)) (fun u => rel c u) ∗ reached ER (crC (lft c)) 0)) ?_ ?_ ?_) $$ H
    · iintro ⟨Hcl, Ht, -, -, Hr⟩
      iapply (closed_dutyTok_false ER (Rd D) (hm (2 * u) (by omega)))
      isplitl [Hcl]; · iexact Hcl
      isplitl [Ht]; · iexact Ht
      iexact Hr
    · iintro ⟨Hdm, -, -, -, Hr⟩
      iapply (dormant_reached_false ER (Rd D))
      isplitl [Hdm]; · iexact Hdm
      iexact Hr
    · intro v
      iintro ⟨Hst, Ht1, Ht2, #Hrel, #Hr⟩
      imod (roundState_land ER (Rd D) (hm (2 * u) (by omega))) $$ [Hst Ht1] with Hst
      · isplitl [Hst]; · iexact Hst
        isplitl [Ht1]; · iexact Ht1
        isplitr; · iapply (hp (2 * u) (by omega)); iexact Hrel
        iexact Hr
      imod (roundState_land ER (Rd D) (hm (2 * u + 1) (by omega))) $$ [Hst Ht2] with Hst
      · isplitl [Hst]; · iexact Hst
        isplitl [Ht2]; · iexact Ht2
        isplitr; · iapply (hp (2 * u + 1) (by omega)); iexact Hrel
        iexact Hr
      imodintro
      isplitl [Hst]; · iexact Hst
      iempintro
  unfold owe
  iintro ⟨#Hctx, ⟨%W, HO⟩, Ht1, Ht2, Hrel, Hr⟩ Hk
  iapply (wp_semSignal 𝒱₀ (c : Thread nD τ) none Set.univ (dst := ((lft c : Dev nD) : Thread nD τ)) (sem := crS) (k' := 2) t O rfl (W := W)) $$ HO [Ht1 Ht2 Hrel Hr]
  · iapply hland
    isplitr; · iapply (ctx_cell D K (cr_mem (lft c))); iexact Hctx
    isplitl [Ht1]; · iexact Ht1
    isplitl [Ht2]; · iexact Ht2
    isplitl [Hrel]; · iexact Hrel
    iexact Hr
  iintro HO
  iapply Hk
  iexists W; iexact HO

end Rules

end Cert.KernelIdeal.Ring
-- ==== Proof.Middle.lean ====
/-
  The middle steps: from the first to the fourteenth, a pair of heads is received, run against the device's own keys and
  values, and sent on.
-/
module

public import proofs.«01_k».proof.Proof.Rules

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (D : Data F) (K : Names)

/-! ## What a device holds for a pair of heads -/

/-- The device's place on a slot of a head: `n` copies have come into it and `n` have been sent from the other slot, and it
    has been let go `m` times. -/
def slotPos (c : Dev nD) (h s n m : ℕ) : sProp 𝕄 :=
  iprop(atPos ER (rC c s h) n ∅ 0 ∗ reached ER (rC c s h) n ∗ atPos ER (sC c s h) n ∅ 0 ∗ reached ER (sC c s h) n ∗ readerAt ES (c, s, h) m)

/-- The tokens of step `j`: those of the copy to be sent, and the credit of the one that comes in. -/
def stepTok (c : Dev nD) (h j : ℕ) : sProp 𝕄 :=
  iprop(sendTok c h j ∗ cred (tallyAt (rC c ((j + 1) % 2) h) (4 * (j + 1) + h / 2) N))

/-- The two copies under way for step `i`: the one coming in and the one going out. -/
def pend (c : Dev nD) (h i : ℕ) : sProp 𝕄 :=
  iprop(cred (tallyAt (rC c (i % 2) h) (4 * i + h / 2) N) ∗ cred (tallyAt (sC c (i % 2) h) 0 N))

/-- What a device holds of head `h` before step `i`, from the first step on. -/
def headRes (c : Dev nD) (h i : ℕ) : sProp 𝕄 :=
  iprop(slotPos c h (i % 2) ((i - 1) / 2) ((i + 1) / 2) ∗ slotPos c h ((i + 1) % 2) (i / 2) (i / 2) ∗ pend c h i
    ∗ bigSep (Finset.Ico i 15) (fun j => stepTok c h j))

/-- The tokens of the credit a pair gives and takes at step `j + 1`. -/
def crTok (c : Dev nD) (p j : ℕ) : sProp 𝕄 :=
  iprop(dutyTok ER (crC (lft c)) 0 (2 * (4 * j + p)) ∗ dutyTok ER (crC (lft c)) 0 (2 * (4 * j + p) + 1) ∗ cred (tallyAt (crC c) (4 * j + p + 4) 2))

/-- What it holds of a pair of heads before step `i`. -/
def pairRes (c : Dev nD) (p i : ℕ) : sProp 𝕄 :=
  iprop(headRes c (2 * p) i ∗ headRes c (2 * p + 1) i ∗ bigSep (Finset.Ico (i - 1) 14) (fun j => crTok c p j))

/-- What it holds besides, after `u` credits: what it owes, its place on the credit semaphore, and what it has let go. -/
def flow (c : Dev nD) (u : ℕ) : sProp 𝕄 :=
  iprop(owe c (Orem c (u + 4)) ∗ crState c u ∗ bigSep (Finset.range u) (fun u => rel c u))

/-- A sum over the steps from `i` on begins with step `i`. -/
theorem Ico_first (Φ : ℕ → sProp 𝕄) {i n : ℕ} (h : i < n) : bigSep (Finset.Ico i n) Φ ⊢ iprop(Φ i ∗ bigSep (Finset.Ico (i + 1) n) Φ) := by
  have e : Finset.Ico i n = insert i (Finset.Ico (i + 1) n) := by
    ext x; simp only [Finset.mem_Ico, Finset.mem_insert]; omega
  rw [e, bigSep_insert (by simp only [Finset.mem_Ico]; omega)]
  exact BI.Entails.refl _
theorem range_last (Φ : ℕ → sProp 𝕄) (n : ℕ) : iprop(Φ n ∗ bigSep (Finset.range n) Φ) ⊢ bigSep (Finset.range (n + 1)) Φ := by
  rw [Finset.range_add_one, bigSep_insert Finset.notMem_range_self]
  exact BI.Entails.refl _

/-- The pairs one after the other: those before pair `t` are a step further on than the rest. -/
theorem pairs_step (Ψ : ℕ → ℕ → sProp 𝕄) {t j : ℕ} (ht : t < 4) :
    bigSep (Finset.range 4) (fun p => Ψ p (if p < t then j + 1 else j))
      ⊢ iprop(Ψ t j ∗ (Ψ t (j + 1) -∗ bigSep (Finset.range 4) (fun p => Ψ p (if p < t + 1 then j + 1 else j)))) := by
  have e : bigSep (Finset.range 4) (fun p => Ψ p (if p < t then j + 1 else j))
      ⊢ iprop(Ψ t j ∗ bigSep ((Finset.range 4).erase t) (fun p => Ψ p (if p < t then j + 1 else j))) := by
    refine Entails.of_eq ((bigSep_erase (Φ := fun p => Ψ p (if p < t then j + 1 else j)) (Finset.mem_range.mpr ht)).trans ?_)
    rw [if_neg (Nat.lt_irrefl t)]
    rfl
  have e' : iprop(Ψ t (j + 1) ∗ bigSep ((Finset.range 4).erase t) (fun p => Ψ p (if p < t then j + 1 else j)))
      ⊢ bigSep (Finset.range 4) (fun p => Ψ p (if p < t + 1 then j + 1 else j)) := by
    refine Entails.of_eq (Eq.trans ?_ (bigSep_erase (Φ := fun p => Ψ p (if p < t + 1 then j + 1 else j)) (Finset.mem_range.mpr ht)).symm)
    rw [if_pos (Nat.lt_succ_self t)]
    congr 1
    refine bigSep_congr fun p hp => ?_
    rw [Finset.mem_erase] at hp
    congr 1
    split <;> split <;> omega
  iintro H
  ihave H := e $$ H
  icases H with ⟨H, Hr⟩
  isplitl [H]; · iexact H
  iintro H
  iapply e'
  isplitl [H]; · iexact H
  iexact Hr

/-- Before the first pair every pair is at the same step, and after the last one again. -/
theorem pairs_begin (Ψ : ℕ → ℕ → sProp 𝕄) (j : ℕ) : bigSep (Finset.range 4) (fun p => Ψ p j) ⊢ bigSep (Finset.range 4) (fun p => Ψ p (if p < 0 then j + 1 else j)) :=
  Entails.of_eq (bigSep_congr fun p _ => by rw [if_neg (Nat.not_lt_zero p)])
theorem pairs_end (Ψ : ℕ → ℕ → sProp 𝕄) (j : ℕ) : bigSep (Finset.range 4) (fun p => Ψ p (if p < 4 then j + 1 else j)) ⊢ bigSep (Finset.range 4) (fun p => Ψ p (j + 1)) :=
  Entails.of_eq (bigSep_congr fun p hp => by rw [if_pos (Finset.mem_range.mp hp)])

/-- A part of a program is run by what is known of it, and the rest from what it leaves. -/
theorem wp_then {c : Dev nD} {α β : Type} {p : Prog (TpuEff nD τ sig (Elt F) Λ₀ .tc) α} {k : α → Prog (TpuEff nD τ sig (Elt F) Λ₀ .tc) β} {P : sProp 𝕄} {R : α → sProp 𝕄}
    {Q : β → sProp 𝕄} (h : P ⊢ wp frame (wpE (defs₀ (F := F)) 𝒱₀ (c : Thread nD τ) none) Set.univ p R) :
    P ⊢ iprop((∀ a, R a -∗ wp frame (wpE (defs₀ (F := F)) 𝒱₀ (c : Thread nD τ) none) Set.univ (k a) Q)
      -∗ wp frame (wpE (defs₀ (F := F)) 𝒱₀ (c : Thread nD τ) none) Set.univ (p >>= k) Q) := by
  iintro HP Hk
  rw [wp_bind]
  iapply (wp_wand_r frame (wpE (defs₀ (F := F)) 𝒱₀ (c : Thread nD τ) none) Set.univ (Q := R))
  isplitl [HP]
  · iapply h $$ HP
  · iexact Hk

section Parts

variable (c : Dev nD) (h0 : qM.IsWhole) (h1 : kM.IsWhole) (h2 : vM.IsWhole) (h3 : oM.IsWhole) (h4 : blk.IsWhole) (h5 : fin.IsWhole)

/-- Both heads are waited for and read. -/
theorem part6 (v5 : BitVec 32) (i : Fin k0_t3_loop.trips) (w w0 w1 : BitVec 32) (t : Fin k0_t4_loop.trips) {O : CellTallies nD τ sig ℕ}
    (hO : Above (2 * (4 * (i.val + 1) + t.val) + 2) O) :
    iprop(ctx D K ∗ owe c O
        ∗ (cred (tallyAt (rC c ((i.val + 1) % 2) (2 * t.val)) (4 * (i.val + 1) + t.val) N) ∗ atPos ER (rC c ((i.val + 1) % 2) (2 * t.val)) (i.val / 2) ∅ 0)
        ∗ (cred (tallyAt (rC c ((i.val + 1) % 2) (2 * t.val + 1)) (4 * (i.val + 1) + t.val) N) ∗ atPos ER (rC c ((i.val + 1) % 2) (2 * t.val + 1)) (i.val / 2) ∅ 0))
      ⊢ wp frame (wpE (defs₀ (F := F)) 𝒱₀ c none) Set.univ
          (k0_part6 qM h0 kM h1 vM h2 oM h3 blk h4 fin h5 cc0_scratch2 cc0_scratch3 cc0_scratch4 cc0_scratch5 cc0_scratch6 cc0_scratch7 v5 i w w0 w1 t)
          (fun r => iprop(⌜Loaded r.2.2.1 (stIn D (i.val + 1) c (2 * t.val)) ∧ Loaded r.2.2.2.1 (stIn D (i.val + 1) c (2 * t.val + 1))
              ∧ r.2.2.2.2.1 = (stIn D (i.val + 1) c (2 * t.val)).q ∧ r.2.2.2.2.2 = (stIn D (i.val + 1) c (2 * t.val + 1)).q⌝
            ∗ owe c O
            ∗ (slotAt c ((i.val + 1) % 2) (2 * t.val) (stIn D (i.val + 1) c (2 * t.val)) ∗ slotAt c ((i.val + 1) % 2) (2 * t.val + 1) (stIn D (i.val + 1) c (2 * t.val + 1)))
            ∗ (atPos ER (rC c ((i.val + 1) % 2) (2 * t.val)) (i.val / 2 + 1) ∅ 0 ∗ reached ER (rC c ((i.val + 1) % 2) (2 * t.val)) (i.val / 2 + 1))
            ∗ (atPos ER (rC c ((i.val + 1) % 2) (2 * t.val + 1)) (i.val / 2 + 1) ∅ 0 ∗ reached ER (rC c ((i.val + 1) % 2) (2 * t.val + 1)) (i.val / 2 + 1)))) := by
  have hi : i.val < 14 := i.isLt
  have ht : t.val < 4 := t.isLt
  have hs : (i.val + 1) % 2 < 2 := Nat.mod_lt _ (by decide)
  have hr : i.val / 2 < 7 + (i.val + 1) % 2 := by omega
  have ej : 2 * (i.val / 2) + 2 - (i.val + 1) % 2 = i.val + 1 := by omega
  simp only [Gen.k0_part6_eq_skeleton]; unfold Gen.k0_part6_skel
  simp only [Prog.lift, Prog.bind_op, Prog.bind_ret, Prog.pure_eq_ret, Prog.bind_assoc]
  iintro ⟨#Hctx, HO, ⟨Hc0, Ha0⟩, ⟨Hc1, Ha1⟩⟩
  iapply (wait_recv D K c (h := 2 * t.val) hs (by omega) hr ej (ι := 4 * (i.val + 1) + t.val) (by omega) hO
    (recv_sem _ _ _ hs (by omega) (Gen.k0_off25_eq i t) (k0_off25_inb i t)) (slot_eq _ _ _ hs (by omega) (Gen.k0_off26_eq i t) (k0_off26_inb i t))) $$ [HO Hc0 Ha0]
  · isplitr; · iexact Hctx
    isplitl [Hc0]; · iexact Hc0
    isplitl [HO]; · iexact HO
    iexact Ha0
  iintro ⟨HO, Ha0, #Hr0, Hs0⟩
  iapply (wait_recv D K c (h := 2 * t.val + 1) hs (by omega) hr ej (ι := 4 * (i.val + 1) + t.val) (by omega) hO
    (recv_sem _ _ _ hs (by omega) (Gen.k0_off28_eq i t) (k0_off28_inb i t)) (slot_eq _ _ _ hs (by omega) (Gen.k0_off29_eq i t) (k0_off29_inb i t))) $$ [HO Hc1 Ha1]
  · isplitr; · iexact Hctx
    isplitl [Hc1]; · iexact Hc1
    isplitl [HO]; · iexact HO
    iexact Ha1
  iintro ⟨HO, Ha1, #Hr1, Hs1⟩
  iapply (wp_load_head c (Gen.k0_off31_eq i t)) $$ Hs0
  iintro %v %hv Hs0
  iapply (wp_load_head c (Gen.k0_off32_eq i t)) $$ Hs1
  iintro %v' %hv' Hs1
  rw [wp_ret]; imodintro
  isplitr
  · ipureintro
    dsimp only
    exact ⟨hv.1, hv'.1, hv.2, hv'.2⟩
  isplitl [HO]; · iexact HO
  isplitl [Hs0 Hs1]
  · isplitl [Hs0]; · iexact Hs0
    iexact Hs1
  isplitl [Ha0]
  · isplitl [Ha0]; · iexact Ha0
    iexact Hr0
  · isplitl [Ha1]; · iexact Ha1
    iexact Hr1

/-- The second head is stored; the two sources come back and are let go, and credit is given and taken. -/
theorem part8 (v5 v7 : BitVec 32) (i : Fin k0_t3_loop.trips) (w : BitVec 32) (t : Fin k0_t4_loop.trips) (b : St F) (v92 : FVec F S1x1x1x2x256 .f32)
    (hb : v92 = Gen.k0_pay33 b.m b.l) :
    iprop(ctx D K ∗ reached ER (crC (lft c)) 0 ∗ flow c (4 * i.val + t.val) ∗ slotHalf c ((i.val + 1) % 2) (2 * t.val + 1) b
        ∗ (cred (tallyAt (sC c ((i.val + 1) % 2) (2 * t.val)) 0 N) ∗ atPos ER (sC c ((i.val + 1) % 2) (2 * t.val)) (i.val / 2) ∅ 0
          ∗ readerAt ES (c, (i.val + 1 + 1) % 2, 2 * t.val) ((i.val + 1) / 2) ∗ reached ER (rC c ((i.val + 1 + 1) % 2) (2 * t.val)) ((i.val + 1) / 2))
        ∗ (cred (tallyAt (sC c ((i.val + 1) % 2) (2 * t.val + 1)) 0 N) ∗ atPos ER (sC c ((i.val + 1) % 2) (2 * t.val + 1)) (i.val / 2) ∅ 0
          ∗ readerAt ES (c, (i.val + 1 + 1) % 2, 2 * t.val + 1) ((i.val + 1) / 2) ∗ reached ER (rC c ((i.val + 1 + 1) % 2) (2 * t.val + 1)) ((i.val + 1) / 2))
        ∗ crTok c t.val i.val)
      ⊢ wp frame (wpE (defs₀ (F := F)) 𝒱₀ c none) Set.univ
          (k0_part8 qM h0 kM h1 vM h2 oM h3 blk h4 fin h5 cc0_scratch2 cc0_scratch3 cc0_scratch4 cc0_scratch5 cc0_scratch6 cc0_scratch7 c v5 v7 i w t v92)
          (fun _ => iprop((owe c (Orem c (4 * i.val + t.val + 1 + 4)
                + (tallyAt (rC (rgt c) ((i.val + 1 + 1) % 2) (2 * t.val)) (4 * i.val + t.val + 4 + 4) N + tallyAt (rC (rgt c) ((i.val + 1 + 1) % 2) (2 * t.val + 1)) (4 * i.val + t.val + 4 + 4) N))
              ∗ crState c (4 * i.val + t.val + 1) ∗ bigSep (Finset.range (4 * i.val + t.val + 1)) (fun u => rel c u))
            ∗ slotAt c ((i.val + 1) % 2) (2 * t.val + 1) b
            ∗ (atPos ER (sC c ((i.val + 1) % 2) (2 * t.val)) (i.val / 2 + 1) ∅ 0 ∗ reached ER (sC c ((i.val + 1) % 2) (2 * t.val)) (i.val / 2 + 1)
              ∗ readerAt ES (c, (i.val + 1 + 1) % 2, 2 * t.val) ((i.val + 1) / 2 + 1))
            ∗ (atPos ER (sC c ((i.val + 1) % 2) (2 * t.val + 1)) (i.val / 2 + 1) ∅ 0 ∗ reached ER (sC c ((i.val + 1) % 2) (2 * t.val + 1)) (i.val / 2 + 1)
              ∗ readerAt ES (c, (i.val + 1 + 1) % 2, 2 * t.val + 1) ((i.val + 1) / 2 + 1)))) := by
  have hi : i.val < 14 := i.isLt
  have ht : t.val < 4 := t.isLt
  have hs : (i.val + 1) % 2 < 2 := Nat.mod_lt _ (by decide)
  have hr : i.val / 2 < 7 + (i.val + 1) % 2 := by omega
  have hO : Orem c (4 * i.val + t.val + 4) = Orem c (4 * i.val + t.val + 1 + 4)
      + (tallyAt (rC (rgt c) ((i.val + 1 + 1) % 2) (2 * t.val)) (4 * i.val + t.val + 4 + 4) N + tallyAt (rC (rgt c) ((i.val + 1 + 1) % 2) (2 * t.val + 1)) (4 * i.val + t.val + 4 + 4) N)
      + tallyAt (crC (lft c)) (4 * i.val + t.val + 4) 2 := by
    rw [Orem_step c (by omega)]
    unfold oTick
    rw [if_pos (by omega), show (4 * i.val + t.val + 4) / 4 = i.val + 1 by omega, show (4 * i.val + t.val + 4) % 4 = t.val by omega,
      show 4 * i.val + t.val + 4 + 1 = 4 * i.val + t.val + 1 + 4 by omega]
    abel
  have hA : Above (2 * (4 * i.val + t.val + 4) + 3) (Orem c (4 * i.val + t.val + 1 + 4)
      + (tallyAt (rC (rgt c) ((i.val + 1 + 1) % 2) (2 * t.val)) (4 * i.val + t.val + 4 + 4) N + tallyAt (rC (rgt c) ((i.val + 1 + 1) % 2) (2 * t.val + 1)) (4 * i.val + t.val + 4 + 4) N)) := by
    refine (above_rem c (by omega) (by omega) (Or.inl (by omega))).add ?_
    have := above_sends c (b := 2 * (4 * i.val + t.val + 4) + 3) (t := 4 * i.val + t.val + 4) (by omega) (by omega)
    rwa [show (4 * i.val + t.val + 4) / 4 = i.val + 1 by omega, show (4 * i.val + t.val + 4) % 4 = t.val by omega] at this
  have hrel : iprop(relHead (F := F) c (i.val + 1) (2 * t.val) ∗ relHead c (i.val + 1) (2 * t.val + 1)) ⊢ rel c (4 * i.val + t.val) := by
    unfold rel
    rw [show (4 * i.val + t.val) / 4 + 1 = i.val + 1 by omega, show (4 * i.val + t.val) % 4 = t.val by omega]
  simp only [Gen.k0_part8_eq_skeleton]; unfold Gen.k0_part8_skel flow crTok
  simp only [semSignalWord, semWaitWord, Prog.lift, Prog.bind_op, Prog.bind_ret, Prog.pure_eq_ret, Prog.bind_assoc]
  iintro ⟨#Hctx, #Hcl, ⟨HO, Hcr, #Hrel⟩, Hb, ⟨Hc0, Ha0, Hd0, #Hr0⟩, ⟨Hc1, Ha1, Hd1, #Hr1⟩, ⟨Ht0, Ht1, Hcc⟩⟩
  iapply (wp_store_ml c (Gen.k0_off38_eq i t) hb) $$ Hb
  iintro Hb
  iapply (wait_sent D K c (h := 2 * t.val) hs (by omega) hr (above_rem c (t := 4 * i.val + t.val + 4) (by omega) (by omega) (Or.inl (by omega)))
    (send_sem _ _ _ hs (by omega) (Gen.k0_off25_eq i t) (k0_off25_inb i t))
    (slot_eq _ (1 - (i.val + 1) % 2) _ (by omega) (by omega) (Gen.k0_off27_eq i t) (k0_off27_inb i t))) $$ [HO Hc0 Ha0]
  · isplitr; · iexact Hctx
    isplitl [Hc0]; · iexact Hc0
    isplitl [HO]; · iexact HO
    iexact Ha0
  iintro ⟨HO, Ha0, #Hq0, Hs0⟩
  iapply (wait_sent D K c (h := 2 * t.val + 1) hs (by omega) hr (above_rem c (t := 4 * i.val + t.val + 4) (by omega) (by omega) (Or.inl (by omega)))
    (send_sem _ _ _ hs (by omega) (Gen.k0_off28_eq i t) (k0_off28_inb i t))
    (slot_eq _ (1 - (i.val + 1) % 2) _ (by omega) (by omega) (Gen.k0_off30_eq i t) (k0_off30_inb i t))) $$ [HO Hc1 Ha1]
  · isplitr; · iexact Hctx
    isplitl [Hc1]; · iexact Hc1
    isplitl [HO]; · iexact HO
    iexact Ha1
  iintro ⟨HO, Ha1, #Hq1, Hs1⟩
  rw [show ((i.val + 1) % 2 + 1) % 2 = (i.val + 1 + 1) % 2 by omega]
  imod (release D K c (h := 2 * t.val) (i := i.val + 1) (by omega)) $$ [Hd0 Hs0] with ⟨Hd0, #Hh0⟩
  · isplitr; · iexact Hctx
    isplitl [Hd0]; · iexact Hd0
    isplitl [Hs0]; · iexact Hs0
    iexact Hr0
  imod (release D K c (h := 2 * t.val + 1) (i := i.val + 1) (by omega)) $$ [Hd1 Hs1] with ⟨Hd1, #Hh1⟩
  · isplitr; · iexact Hctx
    isplitl [Hd1]; · iexact Hd1
    isplitl [Hs1]; · iexact Hs1
    iexact Hr1
  ihave #Hu := hrel $$ []
  · isplitr; · iexact Hh0
    iexact Hh1
  ihave #Hall := (range_last (fun u => rel (F := F) c u) (4 * i.val + t.val)) $$ []
  · isplitr; · iexact Hu
    iexact Hrel
  rw [hO]
  iapply (signal_credit D K c (dev5 c _) (n := (2#32 : BitVec 32).toInt) rfl rfl (u := 4 * i.val + t.val) (t := 4 * i.val + t.val + 4) (by omega)) $$ [HO Ht0 Ht1]
  · isplitr; · iexact Hctx
    isplitl [HO]; · iexact HO
    isplitl [Ht0]; · iexact Ht0
    isplitl [Ht1]; · iexact Ht1
    isplitr; · iexact Hall
    iexact Hcl
  iintro HO
  iapply (wait_credit D K c (n := (2#32 : BitVec 32).toInt) rfl rfl (t := 4 * i.val + t.val + 4) (by omega) hA) $$ [HO Hcc Hcr]
  · isplitr; · iexact Hctx
    isplitl [Hcc]; · iexact Hcc
    isplitl [HO]; · iexact HO
    iexact Hcr
  iintro ⟨HO, Hcr⟩
  rw [wp_ret]; imodintro
  isplitl [HO Hcr]
  · isplitl [HO]; · iexact HO
    isplitl [Hcr]; · iexact Hcr
    iexact Hall
  isplitl [Hb]; · iexact Hb
  isplitl [Ha0 Hd0]
  · isplitl [Ha0]; · iexact Ha0
    isplitr; · iexact Hq0
    iexact Hd0
  · isplitl [Ha1]; · iexact Ha1
    isplitr; · iexact Hq1
    iexact Hd1

/-- One pair of heads in a middle step. -/
theorem t4_body (v5 v7 : BitVec 32) (i : Fin k0_t3_loop.trips) (w : BitVec 32) (t : Fin k0_t4_loop.trips) (u : Unit) :
    iprop(ctx D K ∗ reached ER (crC (lft c)) 0 ∗ kBuf c (D.k c) ∗ vBuf c (D.v c) ∗ flow c (4 * i.val + t.val) ∗ pairRes c t.val (i.val + 1))
      ⊢ wp frame (wpE (defs₀ (F := F)) 𝒱₀ c none) Set.univ
          (Gen.k0_t4_body qM h0 kM h1 vM h2 oM h3 blk h4 fin h5 cc0_scratch2 cc0_scratch3 cc0_scratch4 cc0_scratch5 cc0_scratch6 cc0_scratch7 c v5 v7 i w t u)
          (fun _ => iprop(kBuf c (D.k c) ∗ vBuf c (D.v c) ∗ flow c (4 * i.val + t.val + 1) ∗ pairRes c t.val (i.val + 1 + 1))) := by
  have hi : i.val < 14 := i.isLt
  have ht : t.val < 4 := t.isLt
  have e2 : (i.val + 1 + 1 + 1) % 2 = (i.val + 1) % 2 := by omega
  have e3 : (i.val + 1 + 1) / 2 = i.val / 2 + 1 := by omega
  have e4 : (i.val + 1 + 1 + 1) / 2 = (i.val + 1) / 2 + 1 := by omega
  have e5 : 2 * t.val / 2 = t.val := by omega
  have e6 : (2 * t.val + 1) / 2 = t.val := by omega
  have e7 : 4 * i.val + t.val + 4 + 4 = 4 * (i.val + 1 + 1) + t.val := by omega
  have e8 : 1 - (i.val + 1) % 2 = (i.val + 1 + 1) % 2 := by omega
  have hrel : rel (F := F) (rgt c) (4 * i.val + t.val) ⊢ iprop(relHead (rgt c) (i.val + 1) (2 * t.val) ∗ relHead (rgt c) (i.val + 1) (2 * t.val + 1)) := by
    unfold rel
    rw [show (4 * i.val + t.val) / 4 + 1 = i.val + 1 by omega, show (4 * i.val + t.val) % 4 = t.val by omega]
  unfold Gen.k0_t4_body
  simp only [Prog.lift, Prog.bind_op, Prog.bind_ret, Prog.pure_eq_ret, Prog.bind_assoc]
  unfold pairRes headRes slotPos pend
  simp only [Nat.add_sub_cancel, e2, e3, e4, e5, e6]
  iintro ⟨#Hctx, #Hcl, Hk, Hv, HF, ⟨⟨⟨Har0, #Hrr0, Has0, #Hrs0, Hx0⟩, ⟨Hdr0, #Hdrr0, Hds0, #Hdrs0, Hy0⟩, ⟨Hci0, Hcs0⟩, Hst0⟩,
    ⟨⟨Har1, #Hrr1, Has1, #Hrs1, Hx1⟩, ⟨Hdr1, #Hdrr1, Hds1, #Hdrs1, Hy1⟩, ⟨Hci1, Hcs1⟩, Hst1⟩, Hct⟩⟩
  ihave Hst0 := (Ico_first (fun j => stepTok (F := F) c (2 * t.val) j) (by omega : i.val + 1 < 15)) $$ Hst0
  ihave Hst1 := (Ico_first (fun j => stepTok (F := F) c (2 * t.val + 1) j) (by omega : i.val + 1 < 15)) $$ Hst1
  ihave Hct := (Ico_first (fun j => crTok (F := F) c t.val j) (by omega : i.val < 14)) $$ Hct
  icases Hst0 with ⟨Htok0, Hst0⟩
  icases Hst1 with ⟨Htok1, Hst1⟩
  icases Hct with ⟨Hcr, Hct⟩
  unfold flow
  icases HF with ⟨HO, HS, Hrel⟩
  iapply (wp_then (part6 D K c h0 h1 h2 h3 h4 h5 v5 i w _ _ t (O := Orem c (4 * i.val + t.val + 4))
    (above_rem c (t := 4 * i.val + t.val + 4) (by omega) (by omega) (Or.inl (by omega))))) $$ [HO Hci0 Har0 Hci1 Har1]
  · isplitr; · iexact Hctx
    isplitl [HO]; · iexact HO
    isplitl [Hci0 Har0]
    · isplitl [Hci0]; · iexact Hci0
      iexact Har0
    · isplitl [Hci1]; · iexact Hci1
      iexact Har1
  iintro %r ⟨%hr, HO, ⟨Ha, Hb⟩, ⟨Har0, #Hrr0'⟩, ⟨Har1, #Hrr1'⟩⟩
  obtain ⟨v27, v28, v50, v54, v55, v56⟩ := r
  obtain ⟨l0, l1, q0, q1⟩ := hr
  dsimp only at l0 l1 q0 q1 ⊢
  subst q0 q1
  iapply (wp_then (part7 c h0 h1 h2 h3 h4 h5 (D.k c) (D.v c) _ _ i w t v27 v28 v50 v54 l0 l1)) $$ [Ha Hb Hk Hv]
  · isplitl [Ha]; · iexact Ha
    isplitl [Hb]; · iexact Hb
    isplitl [Hk]; · iexact Hk
    iexact Hv
  iintro %v92 ⟨%hv, Ha, Hb, Hk, Hv⟩
  iapply (wp_then (part8 D K c h0 h1 h2 h3 h4 h5 v5 v7 i w t _ v92 hv)) $$ [HO HS Hrel Hb Hcs0 Has0 Hy0 Hcs1 Has1 Hy1 Hcr]
  · isplitr; · iexact Hctx
    isplitr; · iexact Hcl
    unfold flow
    isplitl [HO HS Hrel]
    · isplitl [HO]; · iexact HO
      isplitl [HS]; · iexact HS
      iexact Hrel
    isplitl [Hb]; · iexact Hb
    isplitl [Hcs0 Has0 Hy0]
    · isplitl [Hcs0]; · iexact Hcs0
      isplitl [Has0]; · iexact Has0
      isplitl [Hy0]; · iexact Hy0
      iexact Hdrr0
    isplitl [Hcs1 Has1 Hy1]
    · isplitl [Hcs1]; · iexact Hcs1
      isplitl [Has1]; · iexact Has1
      isplitl [Hy1]; · iexact Hy1
      iexact Hdrr1
    iexact Hcr
  iintro %_ ⟨⟨HO, HS, Hrel⟩, Hb, ⟨Has0, #Hrs0', Hy0⟩, ⟨Has1, #Hrs1', Hy1⟩⟩
  ihave HS := (crState_rel c (by omega : 4 * i.val + t.val < 4 * i.val + t.val + 1)) $$ HS
  icases HS with ⟨HS, Hw⟩
  ihave Hw := hrel $$ Hw
  icases Hw with ⟨Hw0, Hw1⟩
  rw [show (Orem c (4 * i.val + t.val + 1 + 4)
                + (tallyAt (rC (rgt c) ((i.val + 1 + 1) % 2) (2 * t.val)) (4 * i.val + t.val + 4 + 4) N + tallyAt (rC (rgt c) ((i.val + 1 + 1) % 2) (2 * t.val + 1)) (4 * i.val + t.val + 4 + 4) N))
    = Orem c (4 * i.val + t.val + 1 + 4) + tallyAt (rC (rgt c) ((i.val + 1 + 1) % 2) (2 * t.val + 1)) (4 * i.val + t.val + 4 + 4) N
      + tallyAt (rC (rgt c) ((i.val + 1 + 1) % 2) (2 * t.val)) (4 * i.val + t.val + 4 + 4) N by abel]
  unfold stepTok
  simp only [e5, e6]
  icases Htok0 with ⟨Htok0, Hn0⟩
  icases Htok1 with ⟨Htok1, Hn1⟩
  iapply (send D K c (h := 2 * t.val) (j := i.val + 1) (by omega) (by omega) (dev6 c _)
    (send_sem _ _ _ (by omega) (by omega) (by rw [Gen.k0_off39_eq i t, e8]) (k0_off39_inb i t))
    (recv_sem _ _ _ (by omega) (by omega) (by rw [Gen.k0_off39_eq i t, e8]) (k0_off39_inb i t))
    (slot_eq _ _ _ (by omega) (by omega) (Gen.k0_off26_eq i t) (k0_off26_inb i t))
    (slot_eq _ _ _ (by omega) (by omega) (by rw [Gen.k0_off27_eq i t, e8]) (k0_off27_inb i t))) $$ [HO Ha Htok0 Hw0]
  · isplitr; · iexact Hctx
    isplitl [Ha]; · iexact Ha
    isplitl [Hw0]; · iexact Hw0
    isplitl [Htok0]; · iexact Htok0
    isplitr; · iexact Hdrs0
    iexact HO
  iintro ⟨HO, Ho0⟩
  iapply (send D K c (h := 2 * t.val + 1) (j := i.val + 1) (by omega) (by omega) (dev7 c _)
    (send_sem _ _ _ (by omega) (by omega) (by rw [Gen.k0_off40_eq i t, e8]) (k0_off40_inb i t))
    (recv_sem _ _ _ (by omega) (by omega) (by rw [Gen.k0_off40_eq i t, e8]) (k0_off40_inb i t))
    (slot_eq _ _ _ (by omega) (by omega) (Gen.k0_off29_eq i t) (k0_off29_inb i t))
    (slot_eq _ _ _ (by omega) (by omega) (by rw [Gen.k0_off30_eq i t, e8]) (k0_off30_inb i t))) $$ [HO Hb Htok1 Hw1]
  · isplitr; · iexact Hctx
    isplitl [Hb]; · iexact Hb
    isplitl [Hw1]; · iexact Hw1
    isplitl [Htok1]; · iexact Htok1
    isplitr; · iexact Hdrs1
    iexact HO
  iintro ⟨HO, Ho1⟩
  rw [wp_ret]; imodintro
  isplitl [Hk]; · iexact Hk
  isplitl [Hv]; · iexact Hv
  isplitl [HO HS Hrel]
  · isplitl [HO]; · iexact HO
    isplitl [HS]; · iexact HS
    iexact Hrel
  isplitl [Hdr0 Hds0 Hy0 Har0 Has0 Hx0 Hn0 Ho0 Hst0]
  · isplitl [Hdr0 Hds0 Hy0]
    · isplitl [Hdr0]; · iexact Hdr0
      isplitr; · iexact Hdrr0
      isplitl [Hds0]; · iexact Hds0
      isplitr; · iexact Hdrs0
      iexact Hy0
    isplitl [Har0 Has0 Hx0]
    · isplitl [Har0]; · iexact Har0
      isplitr; · iexact Hrr0'
      isplitl [Has0]; · iexact Has0
      isplitr; · iexact Hrs0'
      iexact Hx0
    isplitl [Hn0 Ho0]
    · isplitl [Hn0]; · iexact Hn0
      iexact Ho0
    iexact Hst0
  isplitl [Hdr1 Hds1 Hy1 Har1 Has1 Hx1 Hn1 Ho1 Hst1]
  · isplitl [Hdr1 Hds1 Hy1]
    · isplitl [Hdr1]; · iexact Hdr1
      isplitr; · iexact Hdrr1
      isplitl [Hds1]; · iexact Hds1
      isplitr; · iexact Hdrs1
      iexact Hy1
    isplitl [Har1 Has1 Hx1]
    · isplitl [Har1]; · iexact Har1
      isplitr; · iexact Hrr1'
      isplitl [Has1]; · iexact Has1
      isplitr; · iexact Hrs1'
      iexact Hx1
    isplitl [Hn1 Ho1]
    · isplitl [Hn1]; · iexact Hn1
      iexact Ho1
    iexact Hst1
  iexact Hct

/-- One middle step: its four pairs. -/
theorem t3_body (v5 v7 : BitVec 32) (i : Fin k0_t3_loop.trips) (u : Unit) :
    iprop(ctx D K ∗ reached ER (crC (lft c)) 0 ∗ kBuf c (D.k c) ∗ vBuf c (D.v c) ∗ flow c (4 * i.val) ∗ bigSep (Finset.range 4) (fun p => pairRes c p (i.val + 1)))
      ⊢ wp frame (wpE (defs₀ (F := F)) 𝒱₀ c none) Set.univ
          (Gen.k0_t3_body qM h0 kM h1 vM h2 oM h3 blk h4 fin h5 cc0_scratch2 cc0_scratch3 cc0_scratch4 cc0_scratch5 cc0_scratch6 cc0_scratch7 c v5 v7 i u)
          (fun _ => iprop(ctx D K ∗ reached ER (crC (lft c)) 0 ∗ kBuf c (D.k c) ∗ vBuf c (D.v c) ∗ flow c (4 * (i.val + 1))
            ∗ bigSep (Finset.range 4) (fun p => pairRes c p (i.val + 1 + 1)))) := by
  unfold Gen.k0_t3_body
  iintro ⟨#Hctx, #Hcl, Hk, Hv, HF, Hp⟩
  ihave Hp := (pairs_begin (fun p j => pairRes (F := F) c p j) (i.val + 1)) $$ Hp
  iapply (Scf.wp_for_bind frame (wpE (defs₀ (F := F)) 𝒱₀ c none) Set.univ k0_t4_loop.lb k0_t4_loop.ub k0_t4_loop.st k0_t4_ok _ _
    (fun n (_ : Unit) => iprop(ctx D K ∗ reached ER (crC (lft c)) 0 ∗ kBuf c (D.k c) ∗ vBuf c (D.v c) ∗ flow c (4 * i.val + n)
      ∗ bigSep (Finset.range 4) (fun p => pairRes c p (if p < n then i.val + 1 + 1 else i.val + 1))))
    (fun t x => by
      have ht : t.val < 4 := t.isLt
      iintro ⟨#Hctx, #Hcl, Hk, Hv, HF, Hp⟩
      ihave Hp := (pairs_step (fun p j => pairRes (F := F) c p j) ht) $$ Hp
      icases Hp with ⟨Hp, Hback⟩
      iapply (wp_wand_r frame (wpE (defs₀ (F := F)) 𝒱₀ c none) Set.univ)
      isplitl [Hk Hv HF Hp]
      · iapply (t4_body D K c h0 h1 h2 h3 h4 h5 v5 v7 i _ t x)
        isplitr; · iexact Hctx
        isplitr; · iexact Hcl
        isplitl [Hk]; · iexact Hk
        isplitl [Hv]; · iexact Hv
        isplitl [HF]; · iexact HF
        iexact Hp
      · iintro %_ ⟨Hk, Hv, HF, Hp⟩
        isplitr; · iexact Hctx
        isplitr; · iexact Hcl
        isplitl [Hk]; · iexact Hk
        isplitl [Hv]; · iexact Hv
        isplitl [HF]; · iexact HF
        iapply Hback $$ Hp)) $$ [Hk Hv HF Hp]
  · isplitr; · iexact Hctx
    isplitr; · iexact Hcl
    isplitl [Hk]; · iexact Hk
    isplitl [Hv]; · iexact Hv
    isplitl [HF]; · iexact HF
    iexact Hp
  have e4 : Scf.trips k0_t4_loop.lb k0_t4_loop.ub k0_t4_loop.st = 4 := by decide
  rw [e4]
  iintro %_ ⟨-, -, Hk, Hv, HF, Hp⟩
  rw [Prog.pure_eq_ret, wp_ret]; imodintro
  isplitr; · iexact Hctx
  isplitr; · iexact Hcl
  isplitl [Hk]; · iexact Hk
  isplitl [Hv]; · iexact Hv
  isplitl [HF]; · iexact HF
  iapply (pairs_end (fun p j => pairRes (F := F) c p j) (i.val + 1)) $$ Hp

end Parts

end Cert.KernelIdeal.Ring
-- ==== Proof.First.lean ====
/-
  The first step: a pair of heads is started from the device's own queries, run against its own keys and values, and
  sent on. No credit is needed for it: the device after has let its slots go at the barrier.
-/
module

public import proofs.«01_k».proof.Proof.Middle

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (D : Data F) (K : Names)

/-- What a device holds of head `h` before the first step. -/
def firstHead (c : Dev nD) (h : ℕ) : sProp 𝕄 :=
  iprop(slotPos c h 1 0 1 ∗ slotPos c h 0 0 0 ∗ slotAny c 0 h ∗ bigSep (Finset.Ico 0 15) (fun j => stepTok c h j))

/-- What it holds of a pair of heads before the first step. -/
def firstPair (c : Dev nD) (p : ℕ) : sProp 𝕄 :=
  iprop(firstHead c (2 * p) ∗ firstHead c (2 * p + 1) ∗ bigSep (Finset.Ico 0 14) (fun j => crTok c p j))

/-- What it holds of a pair before the first step and after it. -/
def firstRes (c : Dev nD) (p i : ℕ) : sProp 𝕄 := if i = 0 then firstPair c p else pairRes c p 1

theorem firstRes_zero (c : Dev nD) (p : ℕ) : firstRes (F := F) c p 0 = firstPair c p := if_pos rfl
theorem firstRes_one (c : Dev nD) (p : ℕ) : firstRes (F := F) c p (0 + 1) = pairRes c p 1 := if_neg (by decide)

theorem firstRes_step (c : Dev nD) {t : ℕ} (ht : t < 4) : bigSep (Finset.range 4) (fun p => firstRes (F := F) c p (if p < t then 0 + 1 else 0))
    ⊢ iprop(firstPair c t ∗ (pairRes c t 1 -∗ bigSep (Finset.range 4) (fun p => firstRes c p (if p < t + 1 then 0 + 1 else 0)))) := by
  have h := pairs_step (fun p j => firstRes (F := F) c p j) (j := 0) ht
  rw [firstRes_zero, firstRes_one] at h
  exact h

theorem headRes_one (c : Dev nD) (h : ℕ) :
    headRes (F := F) c h 1 = iprop(slotPos c h 1 0 1 ∗ slotPos c h 0 0 0 ∗ (cred (tallyAt (rC c 1 h) (4 + h / 2) N) ∗ cred (tallyAt (sC c 1 h) 0 N))
      ∗ bigSep (Finset.Ico 1 15) (fun j => stepTok c h j)) := rfl

section Parts

variable (c : Dev nD) (h0 : qM.IsWhole) (h1 : kM.IsWhole) (h2 : vM.IsWhole) (h3 : oM.IsWhole) (h4 : blk.IsWhole) (h5 : fin.IsWhole)

/-- One pair of heads in the first step. -/
theorem t1_body (t : Fin k0_t1_loop.trips) (u : Unit) :
    iprop(ctx D K ∗ bigSep (Finset.range 8) (fun h => relHead (rgt c) 0 h) ∗ qBuf c (D.q c) ∗ kBuf c (D.k c) ∗ vBuf c (D.v c) ∗ owe c (Orem c t.val) ∗ firstPair c t.val)
      ⊢ wp frame (wpE (defs₀ (F := F)) 𝒱₀ c none) Set.univ
          (Gen.k0_t1_body qM h0 kM h1 vM h2 oM h3 blk h4 fin h5 cc0_scratch2 cc0_scratch3 cc0_scratch4 cc0_scratch5 cc0_scratch6 cc0_scratch7 c t u)
          (fun _ => iprop(qBuf c (D.q c) ∗ kBuf c (D.k c) ∗ vBuf c (D.v c) ∗ owe c (Orem c (t.val + 1)) ∗ pairRes c t.val 1)) := by
  have ht : t.val < 4 := t.isLt
  have e5 : 2 * t.val / 2 = t.val := by omega
  have e6 : (2 * t.val + 1) / 2 = t.val := by omega
  have hO : Orem c t.val = Orem c (t.val + 1) + tallyAt (rC (rgt c) ((0 + 1) % 2) (2 * t.val + 1)) (t.val + 4) N
      + tallyAt (rC (rgt c) ((0 + 1) % 2) (2 * t.val)) (t.val + 4) N := by
    rw [Orem_step c (by omega)]
    unfold oTick
    rw [if_neg (by omega), show t.val / 4 = 0 by omega, show t.val % 4 = t.val by omega]
    abel
  unfold Gen.k0_t1_body
  simp only [Prog.lift, Prog.bind_op, Prog.bind_ret, Prog.pure_eq_ret, Prog.bind_assoc]
  unfold pairRes firstPair
  rw [headRes_one, headRes_one, e5, e6, hO]
  unfold firstHead slotPos
  iintro ⟨#Hctx, #Hrel, Hq, Hk, Hv, HO, ⟨⟨⟨Har0, #Hrr0, Has0, #Hrs0, Hx0⟩, Hd0, Hs0, Hst0⟩,
    ⟨⟨Har1, #Hrr1, Has1, #Hrs1, Hx1⟩, Hd1, Hs1, Hst1⟩, Hct⟩⟩
  ihave Hst0 := (Ico_first (fun j => stepTok (F := F) c (2 * t.val) j) (by omega : 0 < 15)) $$ Hst0
  ihave Hst1 := (Ico_first (fun j => stepTok (F := F) c (2 * t.val + 1) j) (by omega : 0 < 15)) $$ Hst1
  icases Hst0 with ⟨Htok0, Hst0⟩
  icases Hst1 with ⟨Htok1, Hst1⟩
  unfold stepTok
  rw [e5, e6]
  icases Htok0 with ⟨Htok0, Hn0⟩
  icases Htok1 with ⟨Htok1, Hn1⟩
  ihave Hw0 := (bigSep_pick (Φ := fun h => relHead (F := F) (rgt c) 0 h) (Finset.mem_range.mpr (by omega : 2 * t.val < 8))) $$ Hrel
  ihave Hw1 := (bigSep_pick (Φ := fun h => relHead (F := F) (rgt c) 0 h) (Finset.mem_range.mpr (by omega : 2 * t.val + 1 < 8))) $$ Hrel
  iapply (wp_then (part2 c h0 h1 h2 h3 h4 h5 (D.q c) t _ _)) $$ [Hq Hs0]
  · isplitl [Hq]; · iexact Hq
    iexact Hs0
  iintro %r ⟨%hr, Hq, Hs0⟩
  obtain ⟨v24, v25, v50⟩ := r
  dsimp only at hr ⊢
  subst hr
  iapply (wp_then (part3 c h0 h1 h2 h3 h4 h5 (D.q c) _ t v24 v25)) $$ [Hs0 Hs1]
  · isplitl [Hs0]; · iexact Hs0
    iexact Hs1
  iintro %r ⟨%hr, Hs0, Hs1⟩
  obtain ⟨v72, v75, v76, v77⟩ := r
  obtain ⟨la, lb, qa, qb⟩ := hr
  dsimp only at la lb qa qb ⊢
  subst qa qb
  iapply (wp_then (part4 c h0 h1 h2 h3 h4 h5 (D.k c) (D.v c) _ _ t v24 v25 v72 v75 la lb)) $$ [Hs0 Hs1 Hk Hv]
  · isplitl [Hs0]; · iexact Hs0
    isplitl [Hs1]; · iexact Hs1
    isplitl [Hk]; · iexact Hk
    iexact Hv
  iintro %_ ⟨Hs0, Hs1, Hk, Hv⟩
  iapply (send D K c (h := 2 * t.val) (j := 0) (by omega) (by omega) (dev3 c _)
    (send_sem _ 1 _ (by omega) (by omega) (Gen.k0_off19_eq t) (k0_off19_inb t))
    (recv_sem _ 1 _ (by omega) (by omega) (Gen.k0_off19_eq t) (k0_off19_inb t))
    (slot_eq _ 0 _ (by omega) (by omega) (Gen.k0_off21_eq t) (k0_off21_inb t))
    (slot_eq _ 1 _ (by omega) (by omega) (Gen.k0_off20_eq t) (k0_off20_inb t))) $$ [HO Hs0 Htok0 Hw0]
  · isplitr; · iexact Hctx
    isplitl [Hs0]; · iexact Hs0
    isplitl [Hw0]; · iexact Hw0
    isplitl [Htok0]; · iexact Htok0
    isplitr; · iexact Hrs0
    iexact HO
  iintro ⟨HO, Ho0⟩
  iapply (send D K c (h := 2 * t.val + 1) (j := 0) (by omega) (by omega) (dev4 c _)
    (send_sem _ 1 _ (by omega) (by omega) (Gen.k0_off22_eq t) (k0_off22_inb t))
    (recv_sem _ 1 _ (by omega) (by omega) (Gen.k0_off22_eq t) (k0_off22_inb t))
    (slot_eq _ 0 _ (by omega) (by omega) (Gen.k0_off24_eq t) (k0_off24_inb t))
    (slot_eq _ 1 _ (by omega) (by omega) (Gen.k0_off23_eq t) (k0_off23_inb t))) $$ [HO Hs1 Htok1 Hw1]
  · isplitr; · iexact Hctx
    isplitl [Hs1]; · iexact Hs1
    isplitl [Hw1]; · iexact Hw1
    isplitl [Htok1]; · iexact Htok1
    isplitr; · iexact Hrs1
    iexact HO
  iintro ⟨HO, Ho1⟩
  rw [wp_ret]; imodintro
  isplitl [Hq]; · iexact Hq
  isplitl [Hk]; · iexact Hk
  isplitl [Hv]; · iexact Hv
  isplitl [HO]; · iexact HO
  isplitl [Har0 Has0 Hx0 Hd0 Hn0 Ho0 Hst0]
  · isplitl [Har0 Has0 Hx0]
    · isplitl [Har0]; · iexact Har0
      isplitr; · iexact Hrr0
      isplitl [Has0]; · iexact Has0
      isplitr; · iexact Hrs0
      iexact Hx0
    isplitl [Hd0]; · iexact Hd0
    isplitl [Hn0 Ho0]
    · isplitl [Hn0]; · iexact Hn0
      iexact Ho0
    iexact Hst0
  isplitl [Har1 Has1 Hx1 Hd1 Hn1 Ho1 Hst1]
  · isplitl [Har1 Has1 Hx1]
    · isplitl [Har1]; · iexact Har1
      isplitr; · iexact Hrr1
      isplitl [Has1]; · iexact Has1
      isplitr; · iexact Hrs1
      iexact Hx1
    isplitl [Hd1]; · iexact Hd1
    isplitl [Hn1 Ho1]
    · isplitl [Hn1]; · iexact Hn1
      iexact Ho1
    iexact Hst1
  iexact Hct

/-- The first step: its four pairs. -/
theorem first :
    iprop(ctx D K ∗ bigSep (Finset.range 8) (fun h => relHead (rgt c) 0 h) ∗ qBuf c (D.q c) ∗ kBuf c (D.k c) ∗ vBuf c (D.v c) ∗ owe c (Orem c 0)
        ∗ bigSep (Finset.range 4) (fun p => firstPair c p))
      ⊢ wp frame (wpE (defs₀ (F := F)) 𝒱₀ c none) Set.univ
          (Scf.Loop.for k0_t1_loop k0_t1_ok () (Gen.k0_t1_body qM h0 kM h1 vM h2 oM h3 blk h4 fin h5 cc0_scratch2 cc0_scratch3 cc0_scratch4 cc0_scratch5 cc0_scratch6 cc0_scratch7 c))
          (fun _ => iprop(qBuf c (D.q c) ∗ kBuf c (D.k c) ∗ vBuf c (D.v c) ∗ owe c (Orem c 4) ∗ bigSep (Finset.range 4) (fun p => pairRes c p 1))) := by
  iintro ⟨#Hctx, #Hrel, Hq, Hk, Hv, HO, Hp⟩
  ihave Hp := ((Entails.of_eq (bigSep_congr fun p _ => (if_pos rfl).symm) : bigSep (Finset.range 4) (fun p => firstPair c p) ⊢ bigSep (Finset.range 4) (fun p => firstRes (F := F) c p 0))) $$ Hp
  ihave Hp := (pairs_begin (fun p j => firstRes (F := F) c p j) 0) $$ Hp
  iapply (Scf.wp_for frame (wpE (defs₀ (F := F)) 𝒱₀ c none) Set.univ k0_t1_loop.lb k0_t1_loop.ub k0_t1_loop.st k0_t1_ok _ _
    (fun n (_ : Unit) => iprop(ctx D K ∗ bigSep (Finset.range 8) (fun h => relHead (rgt c) 0 h) ∗ qBuf c (D.q c) ∗ kBuf c (D.k c) ∗ vBuf c (D.v c) ∗ owe c (Orem c n)
      ∗ bigSep (Finset.range 4) (fun p => firstRes c p (if p < n then 0 + 1 else 0))))
    (fun t x => by
      have ht : t.val < 4 := t.isLt
      iintro ⟨#Hctx, #Hrel, Hq, Hk, Hv, HO, Hp⟩
      ihave Hp := (firstRes_step c ht) $$ Hp
      icases Hp with ⟨Hp, Hback⟩
      iapply (wp_wand_r frame (wpE (defs₀ (F := F)) 𝒱₀ c none) Set.univ)
      isplitl [Hq Hk Hv HO Hp]
      · iapply (t1_body D K c h0 h1 h2 h3 h4 h5 t x)
        isplitr; · iexact Hctx
        isplitr; · iexact Hrel
        isplitl [Hq]; · iexact Hq
        isplitl [Hk]; · iexact Hk
        isplitl [Hv]; · iexact Hv
        isplitl [HO]; · iexact HO
        iexact Hp
      · iintro %_ ⟨Hq, Hk, Hv, HO, Hp⟩
        isplitr; · iexact Hctx
        isplitr; · iexact Hrel
        isplitl [Hq]; · iexact Hq
        isplitl [Hk]; · iexact Hk
        isplitl [Hv]; · iexact Hv
        isplitl [HO]; · iexact HO
        iapply Hback $$ Hp))
  isplitl [Hq Hk Hv HO Hp]
  · isplitr; · iexact Hctx
    isplitr; · iexact Hrel
    isplitl [Hq]; · iexact Hq
    isplitl [Hk]; · iexact Hk
    isplitl [Hv]; · iexact Hv
    isplitl [HO]; · iexact HO
    iexact Hp
  have e4 : Scf.trips k0_t1_loop.lb k0_t1_loop.ub k0_t1_loop.st = 4 := by decide
  rw [e4]
  iintro %_ ⟨-, -, Hq, Hk, Hv, HO, Hp⟩
  isplitl [Hq]; · iexact Hq
  isplitl [Hk]; · iexact Hk
  isplitl [Hv]; · iexact Hv
  isplitl [HO]; · iexact HO
  ihave Hp := (pairs_end (fun p j => firstRes (F := F) c p j) 0) $$ Hp
  iexact Hp

/-- The middle steps. -/
theorem middle (v5 v7 : BitVec 32) :
    iprop(ctx D K ∗ reached ER (crC (lft c)) 0 ∗ kBuf c (D.k c) ∗ vBuf c (D.v c) ∗ flow c 0 ∗ bigSep (Finset.range 4) (fun p => pairRes c p 1))
      ⊢ wp frame (wpE (defs₀ (F := F)) 𝒱₀ c none) Set.univ
          (Scf.Loop.for k0_t3_loop k0_t3_ok () (Gen.k0_t3_body qM h0 kM h1 vM h2 oM h3 blk h4 fin h5 cc0_scratch2 cc0_scratch3 cc0_scratch4 cc0_scratch5 cc0_scratch6 cc0_scratch7 c v5 v7))
          (fun _ => iprop(kBuf c (D.k c) ∗ vBuf c (D.v c) ∗ flow c 56 ∗ bigSep (Finset.range 4) (fun p => pairRes c p 15))) := by
  iintro ⟨#Hctx, #Hcl, Hk, Hv, HF, Hp⟩
  iapply (Scf.wp_for frame (wpE (defs₀ (F := F)) 𝒱₀ c none) Set.univ k0_t3_loop.lb k0_t3_loop.ub k0_t3_loop.st k0_t3_ok _ _
    (fun n (_ : Unit) => iprop(ctx D K ∗ reached ER (crC (lft c)) 0 ∗ kBuf c (D.k c) ∗ vBuf c (D.v c) ∗ flow c (4 * n)
      ∗ bigSep (Finset.range 4) (fun p => pairRes c p (n + 1))))
    (fun i x => t3_body D K c h0 h1 h2 h3 h4 h5 v5 v7 i x))
  isplitl [Hk Hv HF Hp]
  · isplitr; · iexact Hctx
    isplitr; · iexact Hcl
    isplitl [Hk]; · iexact Hk
    isplitl [Hv]; · iexact Hv
    isplitl [HF]; · iexact HF
    iexact Hp
  have e4 : Scf.trips k0_t3_loop.lb k0_t3_loop.ub k0_t3_loop.st = 14 := by decide
  rw [e4]
  iintro %_ ⟨-, -, Hk, Hv, HF, Hp⟩
  isplitl [Hk]; · iexact Hk
  isplitl [Hv]; · iexact Hv
  isplitl [HF]; · iexact HF
  iexact Hp

end Parts

end Cert.KernelIdeal.Ring

end

end
-- ==== Proof.Last.lean ====
/-
  The last step: a pair of heads is received, run against the device's own keys and values, and its results are written
  into the finished block.
-/
module

public import proofs.«01_k».proof.Proof.Middle

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (D : Data F) (K : Names)

/-- What a device holds of head `h` after the last step. -/
def lastHead (c : Dev nD) (h : ℕ) : sProp 𝕄 :=
  iprop((atPos ER (rC c 1 h) 8 ∅ 0 ∗ atPos ER (sC c 1 h) 8 ∅ 0) ∗ (atPos ER (rC c 0 h) 7 ∅ 0 ∗ atPos ER (sC c 0 h) 7 ∅ 0)
    ∗ slotAny c 0 h ∗ slotAny c 1 h)

/-- What it holds of a pair after it. -/
def lastPair (c : Dev nD) (p : ℕ) : sProp 𝕄 := iprop(lastHead c (2 * p) ∗ lastHead c (2 * p + 1))

/-- What it holds of a pair before the last step and after it. -/
def lastRes (c : Dev nD) (p i : ℕ) : sProp 𝕄 := if i = 0 then pairRes c p 15 else lastPair c p

theorem lastRes_zero (c : Dev nD) (p : ℕ) : lastRes (F := F) c p 0 = pairRes c p 15 := if_pos rfl
theorem lastRes_one (c : Dev nD) (p : ℕ) : lastRes (F := F) c p (0 + 1) = lastPair c p := if_neg (by decide)

theorem lastRes_step (c : Dev nD) {t : ℕ} (ht : t < 4) : bigSep (Finset.range 4) (fun p => lastRes (F := F) c p (if p < t then 0 + 1 else 0))
    ⊢ iprop(pairRes c t 15 ∗ (lastPair c t -∗ bigSep (Finset.range 4) (fun p => lastRes c p (if p < t + 1 then 0 + 1 else 0)))) := by
  have h := pairs_step (fun p j => lastRes (F := F) c p j) (j := 0) ht
  rw [lastRes_zero, lastRes_one] at h
  exact h

theorem headRes_last (c : Dev nD) (h : ℕ) :
    headRes (F := F) c h 15 = iprop(slotPos c h 1 7 8 ∗ slotPos c h 0 7 7 ∗ (cred (tallyAt (rC c 1 h) (60 + h / 2) N) ∗ cred (tallyAt (sC c 1 h) 0 N))
      ∗ bigSep (Finset.Ico 15 15) (fun j => stepTok c h j)) := rfl

section Parts

variable (c : Dev nD) (h0 : qM.IsWhole) (h1 : kM.IsWhole) (h2 : vM.IsWhole) (h3 : oM.IsWhole) (h4 : blk.IsWhole) (h5 : fin.IsWhole)

/-- Both heads are waited for and read. -/
theorem part10 (v5 : BitVec 32) (w0 w1 : BitVec 32) (t : Fin k0_t6_loop.trips) :
    iprop(ctx D K ∗ owe c (Ofin c)
        ∗ (cred (tallyAt (rC c 1 (2 * t.val)) (60 + t.val) N) ∗ atPos ER (rC c 1 (2 * t.val)) 7 ∅ 0)
        ∗ (cred (tallyAt (rC c 1 (2 * t.val + 1)) (60 + t.val) N) ∗ atPos ER (rC c 1 (2 * t.val + 1)) 7 ∅ 0))
      ⊢ wp frame (wpE (defs₀ (F := F)) 𝒱₀ c none) Set.univ
          (k0_part10 qM h0 kM h1 vM h2 oM h3 blk h4 fin h5 cc0_scratch2 cc0_scratch3 cc0_scratch4 cc0_scratch5 cc0_scratch6 cc0_scratch7 v5 w0 w1 t)
          (fun r => iprop(⌜Loaded r.2.2.1 (stIn D 15 c (2 * t.val)) ∧ Loaded (Gen.k0_pay20 r.2.2.2) (stIn D 15 c (2 * t.val + 1))
              ∧ Gen.k0_pay74 r.2.2.1 = (stIn D 15 c (2 * t.val)).q ∧ Gen.k0_pay75 r.2.2.2 = (stIn D 15 c (2 * t.val + 1)).q⌝
            ∗ owe c (Ofin c)
            ∗ (slotAt c 1 (2 * t.val) (stIn D 15 c (2 * t.val)) ∗ slotAt c 1 (2 * t.val + 1) (stIn D 15 c (2 * t.val + 1)))
            ∗ atPos ER (rC c 1 (2 * t.val)) 8 ∅ 0 ∗ atPos ER (rC c 1 (2 * t.val + 1)) 8 ∅ 0)) := by
  have ht : t.val < 4 := t.isLt
  simp only [Gen.k0_part10_eq_skeleton]; unfold Gen.k0_part10_skel
  simp only [Prog.lift, Prog.bind_op, Prog.bind_ret, Prog.pure_eq_ret, Prog.bind_assoc]
  iintro ⟨#Hctx, HO, ⟨Hc0, Ha0⟩, ⟨Hc1, Ha1⟩⟩
  iapply (wait_recv D K c (h := 2 * t.val) (s := 1) (r := 7) (j := 15) (by omega) (by omega) (by omega) (by omega) (ι := 60 + t.val) (by omega)
    (above_fin c (by omega))
    (recv_sem _ _ _ (by omega) (by omega) (Gen.k0_off41_eq t) (k0_off41_inb t)) (slot_eq _ _ _ (by omega) (by omega) (Gen.k0_off42_eq t) (k0_off42_inb t))) $$ [HO Hc0 Ha0]
  · isplitr; · iexact Hctx
    isplitl [Hc0]; · iexact Hc0
    isplitl [HO]; · iexact HO
    iexact Ha0
  iintro ⟨HO, Ha0, -, Hs0⟩
  iapply (wait_recv D K c (h := 2 * t.val + 1) (s := 1) (r := 7) (j := 15) (by omega) (by omega) (by omega) (by omega) (ι := 60 + t.val) (by omega)
    (above_fin c (by omega))
    (recv_sem _ _ _ (by omega) (by omega) (Gen.k0_off44_eq t) (k0_off44_inb t)) (slot_eq _ _ _ (by omega) (by omega) (Gen.k0_off45_eq t) (k0_off45_inb t))) $$ [HO Hc1 Ha1]
  · isplitr; · iexact Hctx
    isplitl [Hc1]; · iexact Hc1
    isplitl [HO]; · iexact HO
    iexact Ha1
  iintro ⟨HO, Ha1, -, Hs1⟩
  iapply (wp_load_head c (Gen.k0_off47_eq t)) $$ Hs0
  iintro %v %hv Hs0
  iapply (wp_load_head c (Gen.k0_off48_eq t)) $$ Hs1
  iintro %v' %hv' Hs1
  rw [wp_ret]; imodintro
  isplitr
  · ipureintro
    dsimp only
    exact ⟨hv.1, hv'.1, hv.2, hv'.2⟩
  isplitl [HO]; · iexact HO
  isplitl [Hs0 Hs1]
  · isplitl [Hs0]; · iexact Hs0
    iexact Hs1
  isplitl [Ha0]; · iexact Ha0
  iexact Ha1

/-- The second head is stored, both sources come back, and the first head's results are worked out. -/
theorem part12 (t : Fin k0_t6_loop.trips) (w : BitVec 32) (a b : St F) (v75 : FVec F S2x256 .f32) (hb : Gen.k0_pay88 v75 = Gen.k0_pay33 b.m b.l)
    {O : CellTallies nD τ sig ℕ} (hO : Above 0 O) :
    iprop(ctx D K ∗ owe c O ∗ slotAt c 1 (2 * t.val) a ∗ slotHalf c 1 (2 * t.val + 1) b
        ∗ (cred (tallyAt (sC c 1 (2 * t.val)) 0 N) ∗ atPos ER (sC c 1 (2 * t.val)) 7 ∅ 0)
        ∗ (cred (tallyAt (sC c 1 (2 * t.val + 1)) 0 N) ∗ atPos ER (sC c 1 (2 * t.val + 1)) 7 ∅ 0))
      ⊢ wp frame (wpE (defs₀ (F := F)) 𝒱₀ c none) Set.univ
          (k0_part12 qM h0 kM h1 vM h2 oM h3 blk h4 fin h5 cc0_scratch2 cc0_scratch3 cc0_scratch4 cc0_scratch5 cc0_scratch6 cc0_scratch7 t w v75)
          (fun r => iprop(⌜∀ (i : Fin 128) (x : Fin 256), Gen.k0_pay90 r (ix3 0 i x) = out a (ix2 i x)⌝
            ∗ owe c O ∗ slotAt c 1 (2 * t.val) a ∗ slotAt c 1 (2 * t.val + 1) b
            ∗ (atPos ER (sC c 1 (2 * t.val)) 8 ∅ 0 ∗ slotAny c 0 (2 * t.val)) ∗ (atPos ER (sC c 1 (2 * t.val + 1)) 8 ∅ 0 ∗ slotAny c 0 (2 * t.val + 1)))) := by
  have ht : t.val < 4 := t.isLt
  simp only [Gen.k0_part12_eq_skeleton]; unfold Gen.k0_part12_skel
  simp only [Prog.lift, Prog.bind_op, Prog.bind_ret, Prog.pure_eq_ret, Prog.bind_assoc]
  iintro ⟨#Hctx, HO, Ha, Hb, ⟨Hc0, Ha0⟩, ⟨Hc1, Ha1⟩⟩
  iapply (wp_load_half c 0 (Gen.k0_off54_eq t)) $$ Hb
  iintro %_ Hb
  iapply (wp_store_ml c (Gen.k0_off54_eq t) hb) $$ Hb
  iintro Hb
  iapply (wait_sent D K c (h := 2 * t.val) (s := 1) (r := 7) (by omega) (by omega) (by omega) hO
    (send_sem _ _ _ (by omega) (by omega) (Gen.k0_off41_eq t) (k0_off41_inb t))
    (slot_eq _ _ _ (by omega) (by omega) (Gen.k0_off43_eq t) (k0_off43_inb t))) $$ [HO Hc0 Ha0]
  · isplitr; · iexact Hctx
    isplitl [Hc0]; · iexact Hc0
    isplitl [HO]; · iexact HO
    iexact Ha0
  iintro ⟨HO, Ha0, -, Hs0⟩
  iapply (wait_sent D K c (h := 2 * t.val + 1) (s := 1) (r := 7) (by omega) (by omega) (by omega) hO
    (send_sem _ _ _ (by omega) (by omega) (Gen.k0_off44_eq t) (k0_off44_inb t))
    (slot_eq _ _ _ (by omega) (by omega) (Gen.k0_off46_eq t) (k0_off46_inb t))) $$ [HO Hc1 Ha1]
  · isplitr; · iexact Hctx
    isplitl [Hc1]; · iexact Hc1
    isplitl [HO]; · iexact HO
    iexact Ha1
  iintro ⟨HO, Ha1, -, Hs1⟩
  iapply (wp_load_out c (Gen.k0_off49_eq t) (Gen.k0_off55_eq t)) $$ Ha
  iintro %v %w' %hvw Ha
  rw [wp_ret]; imodintro
  isplitr
  · ipureintro; exact hvw
  isplitl [HO]; · iexact HO
  isplitl [Ha]; · iexact Ha
  isplitl [Hb]; · iexact Hb
  isplitl [Ha0 Hs0]
  · isplitl [Ha0]; · iexact Ha0
    iexact Hs0
  · isplitl [Ha1]; · iexact Ha1
    iexact Hs1

/-- One pair of heads in the last step. -/
theorem t6_body (v5 : BitVec 32) (t : Fin k0_t6_loop.trips) (u : Unit) :
    iprop(ctx D K ∗ kBuf c (D.k c) ∗ vBuf c (D.v c) ∗ owe c (Ofin c) ∗ finAt c (2 * t.val) (outOf D c) ∗ pairRes c t.val 15)
      ⊢ wp frame (wpE (defs₀ (F := F)) 𝒱₀ c none) Set.univ
          (Gen.k0_t6_body qM h0 kM h1 vM h2 oM h3 blk h4 fin h5 cc0_scratch2 cc0_scratch3 cc0_scratch4 cc0_scratch5 cc0_scratch6 cc0_scratch7 v5 t u)
          (fun _ => iprop(kBuf c (D.k c) ∗ vBuf c (D.v c) ∗ owe c (Ofin c) ∗ finAt c (2 * (t.val + 1)) (outOf D c) ∗ lastPair c t.val)) := by
  have ht : t.val < 4 := t.isLt
  have e5 : 2 * t.val / 2 = t.val := by omega
  have e6 : (2 * t.val + 1) / 2 = t.val := by omega
  unfold Gen.k0_t6_body
  simp only [Prog.lift, Prog.bind_op, Prog.bind_ret, Prog.pure_eq_ret, Prog.bind_assoc]
  unfold pairRes lastPair
  rw [headRes_last, headRes_last, e5, e6]
  unfold lastHead slotPos
  iintro ⟨#Hctx, Hk, Hv, HO, HF, ⟨⟨⟨Har0, -, Has0, -, -⟩, ⟨Hdr0, -, Hds0, -, -⟩, ⟨Hci0, Hcs0⟩, -⟩,
    ⟨⟨Har1, -, Has1, -, -⟩, ⟨Hdr1, -, Hds1, -, -⟩, ⟨Hci1, Hcs1⟩, -⟩, -⟩⟩
  iapply (wp_then (part10 D K c h0 h1 h2 h3 h4 h5 v5 _ _ t)) $$ [HO Hci0 Har0 Hci1 Har1]
  · isplitr; · iexact Hctx
    isplitl [HO]; · iexact HO
    isplitl [Hci0 Har0]
    · isplitl [Hci0]; · iexact Hci0
      iexact Har0
    · isplitl [Hci1]; · iexact Hci1
      iexact Har1
  iintro %r ⟨%hr, HO, ⟨Ha, Hb⟩, Har0, Har1⟩
  obtain ⟨v24, v25, v44, v46⟩ := r
  obtain ⟨l0, l1, q0, q1⟩ := hr
  dsimp only at l0 l1 q0 q1 ⊢
  iapply (wp_then (part11 c h0 h1 h2 h3 h4 h5 (D.k c) (D.v c) _ _ t v24 v25 v44 v46 l0 l1 q0 q1)) $$ [Ha Hb Hk Hv]
  · isplitl [Ha]; · iexact Ha
    isplitl [Hb]; · iexact Hb
    isplitl [Hk]; · iexact Hk
    iexact Hv
  iintro %v75 ⟨%hv, Ha, Hb, Hk, Hv⟩
  iapply (wp_then (part12 D K c h0 h1 h2 h3 h4 h5 t v24 _ _ v75 hv (above_fin c (by omega)))) $$ [HO Ha Hb Hcs0 Has0 Hcs1 Has1]
  · isplitr; · iexact Hctx
    isplitl [HO]; · iexact HO
    isplitl [Ha]; · iexact Ha
    isplitl [Hb]; · iexact Hb
    isplitl [Hcs0 Has0]
    · isplitl [Hcs0]; · iexact Hcs0
      iexact Has0
    · isplitl [Hcs1]; · iexact Hcs1
      iexact Has1
  iintro %v99 ⟨%h99, HO, Ha, Hb, ⟨Has0, Hs0⟩, ⟨Has1, Hs1⟩⟩
  iapply (wp_load_fin c) $$ HF
  iintro %_ HF
  iapply (wp_store_fin c (Gen.k0_off56_eq t) h99) $$ HF
  iintro HF
  iapply (wp_load_out c (Gen.k0_off50_eq t) (Gen.k0_off57_eq t)) $$ Hb
  iintro %v %w' %hvw Hb
  iapply (wp_load_fin c) $$ HF
  iintro %_ HF
  iapply (wp_store_fin c (Gen.k0_off58_eq t) hvw) $$ HF
  iintro HF
  rw [wp_ret]; imodintro
  isplitl [Hk]; · iexact Hk
  isplitl [Hv]; · iexact Hv
  isplitl [HO]; · iexact HO
  isplitl [HF]; · iexact HF
  isplitl [Har0 Has0 Hdr0 Hds0 Hs0 Ha]
  · isplitl [Har0 Has0]
    · isplitl [Har0]; · iexact Har0
      iexact Has0
    isplitl [Hdr0 Hds0]
    · isplitl [Hdr0]; · iexact Hdr0
      iexact Hds0
    isplitl [Hs0]; · iexact Hs0
    iapply (slotAt_any _ _ _ _) $$ Ha
  · isplitl [Har1 Has1]
    · isplitl [Har1]; · iexact Har1
      iexact Has1
    isplitl [Hdr1 Hds1]
    · isplitl [Hdr1]; · iexact Hdr1
      iexact Hds1
    isplitl [Hs1]; · iexact Hs1
    iapply (slotAt_any _ _ _ _) $$ Hb

/-- The last step: its four pairs. -/
theorem last (v5 : BitVec 32) :
    iprop(ctx D K ∗ kBuf c (D.k c) ∗ vBuf c (D.v c) ∗ owe c (Ofin c) ∗ finAt c 0 (outOf D c) ∗ bigSep (Finset.range 4) (fun p => pairRes c p 15))
      ⊢ wp frame (wpE (defs₀ (F := F)) 𝒱₀ c none) Set.univ
          (Scf.Loop.for k0_t6_loop k0_t6_ok () (Gen.k0_t6_body qM h0 kM h1 vM h2 oM h3 blk h4 fin h5 cc0_scratch2 cc0_scratch3 cc0_scratch4 cc0_scratch5 cc0_scratch6 cc0_scratch7 v5))
          (fun _ => iprop(kBuf c (D.k c) ∗ vBuf c (D.v c) ∗ owe c (Ofin c) ∗ finAt c 8 (outOf D c) ∗ bigSep (Finset.range 4) (fun p => lastPair c p))) := by
  iintro ⟨#Hctx, Hk, Hv, HO, HF, Hp⟩
  ihave Hp := ((Entails.of_eq (bigSep_congr fun p _ => (if_pos rfl).symm) : bigSep (Finset.range 4) (fun p => pairRes c p 15) ⊢ bigSep (Finset.range 4) (fun p => lastRes (F := F) c p 0))) $$ Hp
  ihave Hp := (pairs_begin (fun p j => lastRes (F := F) c p j) 0) $$ Hp
  iapply (Scf.wp_for frame (wpE (defs₀ (F := F)) 𝒱₀ c none) Set.univ k0_t6_loop.lb k0_t6_loop.ub k0_t6_loop.st k0_t6_ok _ _
    (fun n (_ : Unit) => iprop(ctx D K ∗ kBuf c (D.k c) ∗ vBuf c (D.v c) ∗ owe c (Ofin c) ∗ finAt c (2 * n) (outOf D c)
      ∗ bigSep (Finset.range 4) (fun p => lastRes c p (if p < n then 0 + 1 else 0))))
    (fun t x => by
      have ht : t.val < 4 := t.isLt
      iintro ⟨#Hctx, Hk, Hv, HO, HF, Hp⟩
      ihave Hp := (lastRes_step c ht) $$ Hp
      icases Hp with ⟨Hp, Hback⟩
      iapply (wp_wand_r frame (wpE (defs₀ (F := F)) 𝒱₀ c none) Set.univ)
      isplitl [Hk Hv HO HF Hp]
      · iapply (t6_body D K c h0 h1 h2 h3 h4 h5 v5 t x)
        isplitr; · iexact Hctx
        isplitl [Hk]; · iexact Hk
        isplitl [Hv]; · iexact Hv
        isplitl [HO]; · iexact HO
        isplitl [HF]; · iexact HF
        iexact Hp
      · iintro %_ ⟨Hk, Hv, HO, HF, Hp⟩
        isplitr; · iexact Hctx
        isplitl [Hk]; · iexact Hk
        isplitl [Hv]; · iexact Hv
        isplitl [HO]; · iexact HO
        isplitl [HF]; · iexact HF
        iapply Hback $$ Hp))
  isplitl [Hk Hv HO HF Hp]
  · isplitr; · iexact Hctx
    isplitl [Hk]; · iexact Hk
    isplitl [Hv]; · iexact Hv
    isplitl [HO]; · iexact HO
    isplitl [HF]; · iexact HF
    iexact Hp
  have e4 : Scf.trips k0_t6_loop.lb k0_t6_loop.ub k0_t6_loop.st = 4 := by decide
  rw [e4]
  iintro %_ ⟨-, Hk, Hv, HO, HF, Hp⟩
  isplitl [Hk]; · iexact Hk
  isplitl [Hv]; · iexact Hv
  isplitl [HO]; · iexact HO
  isplitl [HF]; · iexact HF
  ihave Hp := (pairs_end (fun p j => lastRes (F := F) c p j) 0) $$ Hp
  iexact Hp

end Parts

end Cert.KernelIdeal.Ring

end

end
-- ==== Proof.Split.lean ====
/-
  The semaphores of a device, the heads and the slots of its block buffer, taken together and taken apart.
-/
module

public import proofs.«01_k».proof.Proof.Middle
public import Idealize.SL.BI.BigOpNat
public import Idealize.ShloMosaic.Lib.Ring

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Ranges -/

/-- A family over a range is its family over the first part and over the rest. -/
theorem range_add (Ψ : ℕ → sProp 𝕄) (m n : ℕ) :
    bigSep (Finset.range (m + n)) Ψ = iprop(bigSep (Finset.range m) Ψ ∗ bigSep (Finset.range n) (fun i => Ψ (m + i))) := by
  rw [Finset.range_add_eq_union, bigSep_union (Finset.disjoint_range_addLeftEmbedding _ _), bigSep_map]
  rfl

/-- A family over the numbers below `n` is a family over a range. -/
theorem fin_range (n : ℕ) (Ψ : ℕ → sProp 𝕄) : bigSep (Finset.univ : Finset (Fin n)) (fun k => Ψ k.val) = bigSep (Finset.range n) Ψ := by
  have h := bigSep_map (s := (Finset.univ : Finset (Fin n))) Fin.valEmbedding (Φ := Ψ)
  rw [Fin.map_valEmbedding_univ, Nat.Iio_eq_range] at h
  exact h.symm

/-- A family over an even range, two by two. -/
theorem range_pairs (Φ : ℕ → sProp 𝕄) (n : ℕ) :
    bigSep (Finset.range (2 * n)) Φ = bigSep (Finset.range n) (fun p => iprop(Φ (2 * p) ∗ Φ (2 * p + 1))) := by
  induction n with
  | zero => rfl
  | succ n ih =>
    rw [show 2 * (n + 1) = 2 * n + 1 + 1 by omega, bigSep_range_succ, bigSep_range_succ, bigSep_range_succ, ih]
    refine equiv_iff.mp ⟨?_, ?_⟩
    · refine (show iprop(Φ (2 * n + 1) ∗ Φ (2 * n) ∗ bigSep (Finset.range n) (fun p => iprop(Φ (2 * p) ∗ Φ (2 * p + 1)))) ⊢
        iprop((Φ (2 * n) ∗ Φ (2 * n + 1)) ∗ bigSep (Finset.range n) (fun p => iprop(Φ (2 * p) ∗ Φ (2 * p + 1)))) from ?_)
      iintro ⟨H1, H2, H3⟩
      isplitl [H1 H2]
      · isplitl [H2]; · iexact H2
        iexact H1
      · iexact H3
    · refine (show iprop((Φ (2 * n) ∗ Φ (2 * n + 1)) ∗ bigSep (Finset.range n) (fun p => iprop(Φ (2 * p) ∗ Φ (2 * p + 1)))) ⊢
        iprop(Φ (2 * n + 1) ∗ Φ (2 * n) ∗ bigSep (Finset.range n) (fun p => iprop(Φ (2 * p) ∗ Φ (2 * p + 1)))) from ?_)
      iintro ⟨⟨H1, H2⟩, H3⟩
      isplitl [H2]; · iexact H2
      isplitl [H1]; · iexact H1
      iexact H3

/-! ## The semaphores of a device -/

omit [FloatOps F] in
theorem sep_eight (A B C D E G H I : sProp 𝕄) :
    iprop(A ∗ B ∗ C ∗ D ∗ E ∗ G ∗ H ∗ I ∗ emp) = iprop(((A ∗ B) ∗ (C ∗ D)) ∗ (I ∗ H ∗ G ∗ E)) := by
  have h1 : iprop(A ∗ B ∗ C ∗ D ∗ E ∗ G ∗ H ∗ I ∗ emp) ⊢ iprop(((A ∗ B) ∗ (C ∗ D)) ∗ (I ∗ H ∗ G ∗ E)) := by
    iintro ⟨H1, H2, H3, H4, H5, H6, H7, H8, -⟩
    isplitl [H1 H2 H3 H4]
    · isplitl [H1 H2]
      · isplitl [H1]; · iexact H1
        iexact H2
      · isplitl [H3]; · iexact H3
        iexact H4
    · isplitl [H8]; · iexact H8
      isplitl [H7]; · iexact H7
      isplitl [H6]; · iexact H6
      iexact H5
  have h2 : iprop(((A ∗ B) ∗ (C ∗ D)) ∗ (I ∗ H ∗ G ∗ E)) ⊢ iprop(A ∗ B ∗ C ∗ D ∗ E ∗ G ∗ H ∗ I ∗ emp) := by
    iintro ⟨⟨⟨H1, H2⟩, ⟨H3, H4⟩⟩, H8, H7, H6, H5⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  exact equiv_iff.mp ⟨h1, h2⟩

/-- A family over a device's semaphores: four for every head, and four more. -/
theorem own_split (Φ : SemLoc sig → sProp 𝕄) :
    bigSep (Finset.univ : Finset (Fin 36)) (fun k => Φ (osem k))
      = iprop(bigSep (Finset.range 8) (fun h => iprop((Φ (.dma (sS 0 h)) ∗ Φ (.dma (sS 1 h))) ∗ (Φ (.dma (rS 0 h)) ∗ Φ (.dma (rS 1 h)))))
          ∗ (Φ (.dma fS) ∗ Φ (.dma frS) ∗ Φ (.reg crS) ∗ Φ (.reg exS))) := by
  obtain ⟨Ψ, hΨ⟩ : ∃ Ψ : ℕ → sProp 𝕄, ∀ n (h : n < 36), Ψ n = Φ (osem ⟨n, h⟩) :=
    ⟨fun n => Φ (osem ⟨n % 36, Nat.mod_lt _ (by decide)⟩), fun n h => congrArg (fun k => Φ (osem k)) (Fin.ext (Nat.mod_eq_of_lt h))⟩
  have e0 : bigSep (Finset.univ : Finset (Fin 36)) (fun k => Φ (osem k)) = bigSep (Finset.range (8 + (8 + (8 + (8 + 4))))) Ψ :=
    (bigSep_congr fun k _ => (hΨ k.val k.isLt).symm).trans (fin_range 36 Ψ)
  have es (s : ℕ) (hs : s < 2) : bigSep (Finset.range 8) (fun h => Ψ (8 * s + h)) = bigSep (Finset.range 8) (fun h => Φ (.dma (sS s h))) :=
    bigSep_congr fun h hh => by rw [hΨ _ (by have := Finset.mem_range.mp hh; omega), osem_s s h hs (Finset.mem_range.mp hh)]
  have er (s : ℕ) (hs : s < 2) : bigSep (Finset.range 8) (fun h => Ψ (16 + 8 * s + h)) = bigSep (Finset.range 8) (fun h => Φ (.dma (rS s h))) :=
    bigSep_congr fun h hh => by rw [hΨ _ (by have := Finset.mem_range.mp hh; omega), osem_r s h hs (Finset.mem_range.mp hh)]
  have e4 : bigSep (Finset.range 4) (fun i => Ψ (32 + i)) = iprop(Φ (.reg exS) ∗ Φ (.reg crS) ∗ Φ (.dma frS) ∗ Φ (.dma fS) ∗ emp) := by
    rw [bigSep_range_succ, bigSep_range_succ, bigSep_range_succ, bigSep_range_succ, ← osem_f, ← osem_fr, ← osem_cr, ← osem_ex,
      hΨ _ (by decide), hΨ _ (by decide), hΨ _ (by decide), hΨ _ (by decide)]
    rfl
  rw [e0, range_add, range_add, range_add, range_add]
  have es0 := es 0 (by decide)
  have es1 := es 1 (by decide)
  have er0 := er 0 (by decide)
  have er1 := er 1 (by decide)
  simp only [Nat.mul_zero, Nat.mul_one, Nat.zero_add, Nat.add_zero] at es0 es1 er0 er1
  simp only [← Nat.add_assoc, Nat.reduceAdd] at es0 es1 er0 er1 ⊢
  rw [es0, es1, er0, er1, e4, bigSep_sep', bigSep_sep', bigSep_sep']
  exact sep_eight _ _ _ _ _ _ _ _

/-! ## The block buffer -/

/-- Whether an element of the block buffer lies in a slot. -/
theorem mem_slot {s h : ℕ} (hs : s < 2) (hh : h < 8) (j : S2x8x2x136x256.Idx) :
    j ∈ (slotM s h).view.set ↔ (j 0).val = s ∧ (j 1).val = h := by
  constructor
  · intro hj
    obtain ⟨i, -, rfl⟩ := Finset.mem_map.mp hj
    have e := slot_emb s h i
    exact ⟨(congrArg (fun j : S2x8x2x136x256.Idx => (j 0).val) e).trans (Nat.mod_eq_of_lt hs),
      (congrArg (fun j : S2x8x2x136x256.Idx => (j 1).val) e).trans (Nat.mod_eq_of_lt hh)⟩
  · rintro ⟨h0, h1⟩
    have e : j = (slotM s h).view.emb (ix3 (j 2) (j 3) (j 4)) := by
      rw [slot_emb]
      funext a
      fin_cases a
      · exact Fin.ext (h0.trans (Nat.mod_eq_of_lt hs).symm)
      · exact Fin.ext (h1.trans (Nat.mod_eq_of_lt hh).symm)
      · rfl
      · rfl
      · rfl
    rw [e]
    exact View.emb_mem_set _ _

/-- The slots of the block buffer. -/
def slotSet (b : Fin 8 × Fin 2) : Finset S2x8x2x136x256.Idx := (slotM b.2.val b.1.val).view.set

theorem slotSet_disjoint (b b' : Fin 8 × Fin 2) (h : b ≠ b') : Disjoint (slotSet b) (slotSet b') := by
  refine Finset.disjoint_left.mpr fun j hj hj' => h ?_
  have h1 := (mem_slot b.2.isLt b.1.isLt j).mp hj
  have h2 := (mem_slot b'.2.isLt b'.1.isLt j).mp hj'
  exact Prod.ext (Fin.ext (h1.2.symm.trans h2.2)) (Fin.ext (h1.1.symm.trans h2.1))

theorem slotSet_cover : (Finset.univ : Finset (Fin 8 × Fin 2)).biUnion slotSet = Finset.univ :=
  Finset.eq_univ_of_forall fun j => Finset.mem_biUnion.mpr ⟨(j 1, j 0), Finset.mem_univ _, (mem_slot (j 0).isLt (j 1).isLt j).mpr ⟨rfl, rfl⟩⟩

/-- A family over the slots, head by head. -/
theorem slots_heads (Φ : ℕ → ℕ → sProp 𝕄) :
    bigSep (Finset.univ : Finset (Fin 8 × Fin 2)) (fun b => Φ b.2.val b.1.val) = bigSep (Finset.range 8) (fun h => iprop(Φ 0 h ∗ Φ 1 h)) := by
  rw [← fin_range 8 (fun h => iprop(Φ 0 h ∗ Φ 1 h)), bigSep_univ_prod]
  exact bigSep_congr fun h _ => bigSep_univ_two (fun s : Fin 2 => Φ s.val h.val)

/-- The whole block buffer of device `c`. -/
abbrev blkBuf (c : Dev nD) (f : S2x8x2x136x256.Idx → Elt F .f32) : sProp 𝕄 := (blk.view.loc (c : Thread nD τ)) ↦{fullShare} f

theorem slotAny_intro (c : Dev nD) (s h : ℕ) (f : S2x8x2x136x256.Idx → Elt F .f32) : slotBuf c s h f ⊢ slotAny c s h := by
  unfold slotAny
  iintro H
  iexists f
  iexact H

/-- The block buffer is its slots; -/
theorem blk_split (c : Dev nD) : iprop(∃ f, blkBuf (F := F) c f) ⊢ bigSep (Finset.range 8) (fun h => iprop(slotAny c 0 h ∗ slotAny c 1 h)) := by
  rw [← slots_heads (fun s h => slotAny c s h)]
  iintro ⟨%f, H⟩
  have h := Idealize.ShloMosaic.Ring.pointsTo_blocks (Ix := ℕ) (Name := ℕ) (U := UU) (Lvl := ℕ) (Val := Elt F) (ℓ := blk.view.loc (c : Thread nD τ)) slotSet slotSet_disjoint slotSet_cover (q := fullShare) f
  have h2 : blkBuf (F := F) c f ⊢ bigSep (Finset.univ : Finset (Fin 8 × Fin 2)) (fun b => slotAny c b.2.val b.1.val) :=
    (Entails.of_eq h).trans (bigSep_mono fun b _ => slotAny_intro c b.2.val b.1.val f)
  iapply h2; iexact H

/-- and its slots are the block buffer. -/
theorem blk_join (c : Dev nD) : bigSep (Finset.range 8) (fun h => iprop(slotAny (F := F) c 0 h ∗ slotAny c 1 h)) ⊢ iprop(∃ f, blkBuf c f) := by
  rw [← slots_heads (fun s h => slotAny c s h)]
  exact Idealize.ShloMosaic.Ring.pointsTo_blocks_join_exists (Ix := ℕ) (Name := ℕ) (U := UU) (Lvl := ℕ) (Val := Elt F) (ℓ := blk.view.loc (c : Thread nD τ)) slotSet slotSet_disjoint slotSet_cover (q := fullShare)
    (fun _ => (FloatOps.ofBits .f32 (0 : BitVec 32) : F .f32))

end Cert.KernelIdeal.Ring

end

end
-- ==== Proof.Body.lean ====
/-
  The whole run of one device: the barrier, the three loops, the finished block sent on, and the exit.
-/
module

public import proofs.«01_k».proof.Proof.First
public import proofs.«01_k».proof.Proof.Last
public import proofs.«01_k».proof.Proof.Split
public import Idealize.ShloMosaic.Lib.Rounds.Family

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (D : Data F) (K : Names)

/-! ## What a device starts from -/

/-- What a device holds of head `h` at the start. -/
def startHead (c : Dev nD) (h : ℕ) : sProp 𝕄 :=
  iprop(slotPos c h 1 0 0 ∗ slotPos c h 0 0 0 ∗ (slotAny c 0 h ∗ slotAny c 1 h) ∗ bigSep (Finset.Ico 0 15) (fun j => stepTok c h j))

/-- A semaphore at its first round. -/
def openAt (g : GSem nD τ sig) : sProp 𝕄 := iprop(atPos ER g 0 ∅ 0 ∗ reached ER g 0)

/-- What it needs for the barrier: the duty to signal both neighbours, and the credit for their signals. -/
def barStart (c : Dev nD) : sProp 𝕄 :=
  iprop(atPos ER (barC c) 0 ∅ 0 ∗ (reached ER (barC (rgt c)) 0 ∗ reached ER (barC (lft c)) 0)
    ∗ (dutyTok ER (barC (rgt c)) 0 0 ∗ dutyTok ER (barC (lft c)) 0 1) ∗ cred (tallyAt (barC c) 0 2))
/-- What it needs to send the finished block on, and to receive one. -/
def finStart (c : Dev nD) : sProp 𝕄 :=
  iprop((dutyTok ER (fC c) 0 0 ∗ dutyTok ER (frC (rgt c)) 0 0) ∗ cred (tallyAt (frC c) 0 NF))
/-- What it needs for the exit. -/
def exStart (c : Dev nD) : sProp 𝕄 :=
  iprop((dutyTok ER (exC (rgt c)) 0 0 ∗ dutyTok ER (exC (lft c)) 0 1) ∗ cred (tallyAt (exC c) 0 2))

/-- All that a device starts from, besides its buffers. -/
def startRes (c : Dev nD) : sProp 𝕄 :=
  iprop(owe c (O₀ c) ∗ bigSep (Finset.range 8) (fun h => startHead c h) ∗ bigSep (Finset.range 4) (fun p => bigSep (Finset.Ico 0 14) (fun j => crTok c p j))
    ∗ (openAt (fC c) ∗ openAt (frC c) ∗ openAt (crC c) ∗ openAt (exC c)) ∗ barStart c ∗ finStart c ∗ exStart c)

/-- One head before the barrier: slot 1 is let go. -/
theorem head_begin (c : Dev nD) {h : ℕ} (hh : h < 8) :
    iprop(ctx D K ∗ startHead c h) ⊢ (|={Set.univ}=> (firstHead c h ∗ relHead c 0 h) : sProp 𝕄) := by
  unfold startHead firstHead
  have hs : slotPos (F := F) c h 1 0 0 = iprop(atPos ER (rC c 1 h) 0 ∅ 0 ∗ reached ER (rC c 1 h) 0 ∗ atPos ER (sC c 1 h) 0 ∅ 0 ∗ reached ER (sC c 1 h) 0 ∗ readerAt ES (c, 1, h) 0) := rfl
  have hs' : slotPos (F := F) c h 1 0 1 = iprop(atPos ER (rC c 1 h) 0 ∅ 0 ∗ reached ER (rC c 1 h) 0 ∗ atPos ER (sC c 1 h) 0 ∅ 0 ∗ reached ER (sC c 1 h) 0 ∗ readerAt ES (c, 1, h) 1) := rfl
  rw [hs, hs']
  iintro ⟨#Hctx, ⟨H1, #H2, H3, #H4, Hr⟩, H0, ⟨Hs0, Hs1⟩, Ht⟩
  imod (release D K c (h := h) (i := 0) hh) $$ [Hr Hs1] with ⟨Hr, Hrel⟩
  · isplitr; · iexact Hctx
    isplitl [Hr]; · iexact Hr
    isplitl [Hs1]; · iexact Hs1
    iexact H2
  imodintro
  isplitr [Hrel]
  · isplitl [H1 H3 Hr]
    · isplitl [H1]; · iexact H1
      isplitr; · iexact H2
      isplitl [H3]; · iexact H3
      isplitr; · iexact H4
      iexact Hr
    isplitl [H0]; · iexact H0
    isplitl [Hs0]; · iexact Hs0
    iexact Ht
  · iexact Hrel

/-- All heads before the barrier. -/
theorem heads_begin (c : Dev nD) :
    iprop(ctx D K ∗ bigSep (Finset.range 8) (fun h => startHead c h))
      ⊢ (|={Set.univ}=> (bigSep (Finset.range 8) (fun h => firstHead c h) ∗ bigSep (Finset.range 8) (fun h => relHead c 0 h)) : sProp 𝕄) := by
  rw [← bigSep_sep']
  have h1 : bigSep (Finset.range 8) (fun h => iprop(ctx D K ∗ startHead c h)) ⊢ bigSep (Finset.range 8) (fun h => (iprop(|={Set.univ}=> (firstHead c h ∗ relHead c 0 h)) : sProp 𝕄)) :=
    bigSep_mono fun h hh => head_begin D K c (Finset.mem_range.mp hh)
  refine BIBase.Entails.trans ?_ (h1.trans (bigSep_fupd _ _))
  rw [bigSep_sep']
  exact sep_mono_left (bigSep_of_persistent (Finset.range 8) (ctx D K))

/-- The heads and the credits, pair by pair. -/
theorem pairs_of_heads (c : Dev nD) :
    iprop(bigSep (Finset.range 8) (fun h => firstHead (F := F) c h) ∗ bigSep (Finset.range 4) (fun p => bigSep (Finset.Ico 0 14) (fun j => crTok c p j)))
      ⊢ bigSep (Finset.range 4) (fun p => firstPair c p) := by
  have e : bigSep (Finset.range 8) (fun h => firstHead (F := F) c h) = bigSep (Finset.range 4) (fun p => iprop(firstHead c (2 * p) ∗ firstHead c (2 * p + 1))) :=
    range_pairs (fun h => firstHead (F := F) c h) 4
  have m (p : ℕ) : iprop((firstHead (F := F) c (2 * p) ∗ firstHead c (2 * p + 1)) ∗ bigSep (Finset.Ico 0 14) (fun j => crTok c p j)) ⊢ firstPair c p := by
    unfold firstPair
    iintro ⟨⟨H1, H2⟩, H3⟩
    isplitl [H1]; · iexact H1
    isplitl [H2]; · iexact H2
    iexact H3
  rw [e, ← bigSep_sep']
  exact bigSep_mono fun p _ => m p

/-! ## The finished block -/

/-- Sending the finished block on to the device after. -/
theorem send_final (c : Dev nD) {d : Dev nD} (hd : d = rgt c) {hsc : oM.view.ref.isScScratch = false} {w₁ : fin.view.WordExact} {w₂ : oM.view.WordExact}
    {ht : DmaTarget.Typed .vmem (.dma frS) (.remote (d : Thread nD τ) oM (.dma fS) hsc)} {α : Type}
    {k : PUnit.{1} → Prog (TpuEff nD τ sig (Elt F) Λ₀ .tc) α} {Q : α → sProp 𝕄} :
    iprop(ctx D K ∗ finBuf c (finished D c) ∗ (∃ f, oBuf (rgt c) f) ∗ (dutyTok ER (fC c) 0 0 ∗ dutyTok ER (frC (rgt c)) 0 0)
        ∗ reached ER (fC c) 0 ∗ reached ER (frC (rgt c)) 0 ∗ owe c (Ofin c))
      ⊢ iprop(((owe c (Oexit c) ∗ cred (tallyAt (fC c) 0 NF))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma fin (.remote (d : Thread nD τ) oM (.dma fS) hsc) (.dma frS) w₁ w₂ ht) k) Q) := by
  subst hd
  have es : fin.view.set = Finset.univ := View.set_whole _
  have eo : oM.view.set = Finset.univ := View.set_whole _
  have hw (fd f : S8x128x256.Idx → Elt F .f32) : oM.view.write (Elt F) fd (fin.view.read (Elt F) f) Finset.univ = f := by
    show (View.whole cc0_stg3_0).write (Elt F) fd ((View.whole cc0_scratch1).read (Elt F) f) Finset.univ = f
    rw [View.read_whole]
    exact View.write_whole_univ _ _ _
  have hp1 : (fin.view.loc (c : Thread nD τ) ↦[fin.view.set]{fullShare} (finished D c) : sProp 𝕄) ⊢ (Rd D).payload (fC c) 0 0 := by
    rw [payload_f, es]
    iintro H
    iexists _; iexact H
  have hp2 (fd : S8x128x256.Idx → Elt F .f32) :
      (oM.view.loc ((rgt c : Dev nD) : Thread nD τ) ↦[oM.view.set]{fullShare} (oM.view.write (Elt F) fd (fin.view.read (Elt F) (finished D c)) Finset.univ) : sProp 𝕄)
        ⊢ (Rd D).payload (frC (rgt c)) 0 0 := by
    rw [payload_fr, eo, hw, lft_rgt]
  unfold owe
  iintro ⟨#Hctx, Hsrc, ⟨%fd, Hdst⟩, ⟨Ht1, Ht2⟩, Hr1, Hr2, ⟨%W, HO⟩⟩ Hk
  iapply (Rounds.wp_send_pointsTo 𝒱₀ ER (Rd D) (c : Thread nD τ) none (c' := (rgt c : Thread nD τ)) (src := fin) (dst := oM)
      (sS := .dma fS) (sem := .dma frS) (q := fullShare) (fs := finished D c) (κ₁ := K.cell (fC c)) (κ₂ := K.cell (frC (rgt c)))
      (r₁ := 0) (r₂ := 0) (d₁ := 0) (d₂ := 0) (fd := fd)
      (by rw [duties_f]; exact Finset.mem_singleton_self _) (by rw [duties_fr]; exact Finset.mem_singleton_self _)
      0 0 NF rfl (amount_f D c) (amount_fr D (rgt c)) (Oexit c) rfl (W := W) hp1 (hp2 fd)) $$ [Hsrc Hdst HO Ht1 Hr1 Ht2 Hr2]
  · isplitr; · iapply (ctx_cell D K (f_mem c)); iexact Hctx
    isplitr; · iapply (ctx_cell D K (fr_mem (rgt c))); iexact Hctx
    isplitl [Hsrc]; · rw [es]; iexact Hsrc
    isplitl [Hdst]; · rw [eo]; iexact Hdst
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists W; iexact HO
  iexact Hc

/-- Waiting for the one copy of the finished block a semaphore is for. -/
theorem wait_final (c : Dev nD) {x : DmaSem sig} (hg : ((c : Thread nD τ), SemLoc.dma x) ∈ barCells ∪ scCells) (he : (Rd D).duties ((c : Thread nD τ), .dma x) 0 = {0})
    (hx : (Rd D).expect ((c : Thread nD τ), .dma x) 0 = NF) {b : ℕ} {O : CellTallies nD τ sig ℕ} (hb : lv ((c : Thread nD τ), .dma x) 0 ≤ b) (hO : Above b O)
    {src dst : Memref sig .tc .vmem S8x128x256 .f32} (hn : dst.view.dmaCredit = NF)
    {w₁ : src.view.WordExact} {w₂ : dst.view.WordExact} {α : Type} {k : PUnit.{1} → Prog (TpuEff nD τ sig (Elt F) Λ₀ .tc) α} {Q : α → sProp 𝕄} :
    iprop(ctx D K ∗ cred (tallyAt ((c : Thread nD τ), .dma x) 0 NF) ∗ owe c O ∗ atPos ER ((c : Thread nD τ), .dma x) 0 ∅ 0)
      ⊢ iprop(((owe c O ∗ atPos ER ((c : Thread nD τ), .dma x) 1 ∅ 0 ∗ reached ER ((c : Thread nD τ), .dma x) 1 ∗ (Rd D).payload ((c : Thread nD τ), .dma x) 0 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 x src dst w₁ w₂) k) Q) := by
  have := wait_round D K c hg (n := NF) (by rw [← hn]; exact wpE_waitDma2_eq (src := src) (dst := dst) (hsrc := w₁) (hdst := w₂) 𝒱₀ (c : Thread nD τ) none Set.univ) hx.symm
    (by decide : 0 < 100) hb hO (k := k) (Q := Q)
  rw [he, bigSep_singleton] at this
  exact this

/-- The finished block, once all heads' results are in it. -/
theorem finAt_full (c : Dev nD) : finAt c 8 (outOf D c) ⊢ finBuf c (finished D c) := by
  unfold finAt
  iintro ⟨%f, %hf, H⟩
  have e : f = finished D c := by
    funext j
    have := hf (j 0) (j 1) (j 2) (j 0).isLt
    rw [← eq_ix3 j] at this
    exact this
  rw [e]
  iexact H

/-! ## Closing the semaphores -/

/-- The round from which a semaphore has no duty. -/
def endOf (s : SemLoc sig) : ℕ :=
  match s with
  | .reg _ => 1
  | .dma x => if x.val < 36 then 7 + (x.val - 4) / 8 % 2 else 1

theorem duties_end (c : Dev nD) (s : SemLoc sig) (r : ℕ) (hr : endOf s ≤ r) : (Rd D).duties ((c : Thread nD τ), s) r = ∅ := by
  rw [duties_tc]
  unfold endOf at hr
  unfold dutiesAt
  match s with
  | .reg x => exact if_neg (by dsimp only at hr; omega)
  | .dma x =>
    dsimp only at hr ⊢
    by_cases h4 : x.val < 4
    · exact if_pos h4
    · rw [if_neg h4]
      by_cases h36 : x.val < 36
      · rw [if_pos h36] at hr ⊢
        exact if_neg (by omega)
      · rw [if_neg h36] at hr ⊢
        exact if_neg (by omega)

theorem endOf_s {s h : ℕ} (hs : s < 2) (hh : h < 8) : endOf (.dma (sS s h)) = 7 + s := by
  unfold endOf
  simp only [sS_val hs hh]
  rw [if_pos (by omega)]; omega
theorem endOf_r {s h : ℕ} (hs : s < 2) (hh : h < 8) : endOf (.dma (rS s h)) = 7 + s := by
  unfold endOf
  simp only [rS_val hs hh]
  rw [if_pos (by omega)]; omega
theorem endOf_f : endOf (.dma fS) = 1 := by unfold endOf; simp only [fS_val]; rfl
theorem endOf_fr : endOf (.dma frS) = 1 := by unfold endOf; simp only [frS_val]; rfl

/-- A device's semaphores at their last rounds. -/
theorem own_end (c : Dev nD) :
    iprop(bigSep (Finset.range 8) (fun h => iprop((atPos ER (rC c 1 h) 8 ∅ 0 ∗ atPos ER (sC c 1 h) 8 ∅ 0) ∗ (atPos ER (rC c 0 h) 7 ∅ 0 ∗ atPos ER (sC c 0 h) 7 ∅ 0)))
        ∗ (atPos ER (fC c) 1 ∅ 0 ∗ atPos ER (frC c) 1 ∅ 0 ∗ atPos ER (crC c) 1 ∅ 0 ∗ atPos ER (exC c) 1 ∅ 0))
      ⊢ (bigSep (Finset.univ : Finset (Fin 36)) (fun k => atPos ER ((c : Thread nD τ), osem k) (endOf (osem k)) ∅ 0) : sProp 𝕄) := by
  have h8 : bigSep (Finset.range 8) (fun h => iprop((atPos ER (rC c 1 h) 8 ∅ 0 ∗ atPos ER (sC c 1 h) 8 ∅ 0) ∗ (atPos ER (rC c 0 h) 7 ∅ 0 ∗ atPos ER (sC c 0 h) 7 ∅ 0)))
      ⊢ (bigSep (Finset.range 8) (fun h => iprop((atPos ER (sC c 0 h) (endOf (.dma (sS 0 h))) ∅ 0 ∗ atPos ER (sC c 1 h) (endOf (.dma (sS 1 h))) ∅ 0)
        ∗ (atPos ER (rC c 0 h) (endOf (.dma (rS 0 h))) ∅ 0 ∗ atPos ER (rC c 1 h) (endOf (.dma (rS 1 h))) ∅ 0))) : sProp 𝕄) :=
    bigSep_mono fun h hh => by
      have hh := Finset.mem_range.mp hh
      rw [endOf_s (by decide) hh, endOf_s (by decide) hh, endOf_r (by decide) hh, endOf_r (by decide) hh]
      refine (show iprop((atPos ER (rC c 1 h) 8 ∅ 0 ∗ atPos ER (sC c 1 h) 8 ∅ 0) ∗ (atPos ER (rC c 0 h) 7 ∅ 0 ∗ atPos ER (sC c 0 h) 7 ∅ 0)) ⊢
        (iprop((atPos ER (sC c 0 h) 7 ∅ 0 ∗ atPos ER (sC c 1 h) 8 ∅ 0) ∗ (atPos ER (rC c 0 h) 7 ∅ 0 ∗ atPos ER (rC c 1 h) 8 ∅ 0)) : sProp 𝕄) from ?_)
      iintro ⟨⟨H1, H2⟩, ⟨H3, H4⟩⟩
      isplitl [H4 H2]
      · isplitl [H4]; · iexact H4
        iexact H2
      · isplitl [H3]; · iexact H3
        iexact H1
  have e := own_split (F := F) (fun s => atPos ER ((c : Thread nD τ), s) (endOf s) ∅ 0)
  rw [endOf_f, endOf_fr] at e
  refine BIBase.Entails.trans ?_ (Entails.of_eq e.symm)
  exact sep_mono_left h8

/-- The semaphores of a device are given back at zero. -/
theorem own_close (c : Dev nD) :
    iprop(ctx D K ∗ bigSep (Finset.univ : Finset (Fin 36)) (fun k => atPos ER ((c : Thread nD τ), osem k) (endOf (osem k)) ∅ 0))
      ⊢ (|={Set.univ}=> bigSep (Finset.univ : Finset (Fin 36)) (fun k => semVal ((c : Thread nD τ), osem k) 0) : sProp 𝕄) := by
  refine BIBase.Entails.trans ?_ (cells_close ER (Rd D) (Finset.univ : Finset (Fin 36)) (fun k => ((c : Thread nD τ), osem k)) (fun k => K.cell ((c : Thread nD τ), osem k))
    (fun _ _ => Set.mem_univ _) (fun _ _ => id) (fun k => endOf (osem k)) (fun k _ r hr => duties_end D c (osem k) r hr))
  rw [bigSep_sep']
  refine sep_mono_left ?_
  exact (bigSep_of_persistent (Finset.univ : Finset (Fin 36)) (ctx D K)).trans (bigSep_mono fun k _ => ctx_cell D K (sc_mem c _ k rfl))

theorem bar_close (c : Dev nD) : iprop(ctx D K ∗ atPos ER (barC c) 1 ∅ 0) ⊢ (|={Set.univ}=> semVal (barC c) 0 : sProp 𝕄) := by
  refine BIBase.Entails.trans (sep_mono_left (ctx_cell D K (bar_mem c))) ?_
  exact cell_close ER (Rd D) (Set.mem_univ _) id (fun r hr => duties_end D c _ r hr)

/-- The credit semaphore, all its units taken. -/
theorem credit_end (c : Dev nD) : iprop(ctx D K ∗ crState c 56) ⊢ (|={Set.univ}=> atPos ER (crC c) 1 ∅ 0 : sProp 𝕄) := by
  unfold crState
  iintro ⟨#Hctx, ⟨%T, %hT, Hat, -⟩⟩
  have e : T = Finset.range 112 := Finset.eq_of_subset_of_card_le hT.1 (by rw [Finset.card_range]; omega)
  imod (fupd_skip ER (Rd D) (g := crC c) (κ := K.cell (crC c)) (R := 0) (m := 2 * 56) (T := T) (by rw [duties_cr, e]) (expect_cr D c).symm (Set.mem_univ _)) $$ [Hat] with ⟨Hat, -⟩
  · isplitr; · iapply (ctx_cell D K (cr_mem c)); iexact Hctx
    iexact Hat
  imodintro
  iexact Hat

/-- After the last step: every head's places and its slots. -/
theorem heads_of_pairs (c : Dev nD) :
    bigSep (Finset.range 4) (fun p => lastPair (F := F) c p)
      ⊢ iprop(bigSep (Finset.range 8) (fun h => iprop((atPos ER (rC c 1 h) 8 ∅ 0 ∗ atPos ER (sC c 1 h) 8 ∅ 0) ∗ (atPos ER (rC c 0 h) 7 ∅ 0 ∗ atPos ER (sC c 0 h) 7 ∅ 0)))
        ∗ bigSep (Finset.range 8) (fun h => iprop(slotAny c 0 h ∗ slotAny c 1 h))) := by
  have e : bigSep (Finset.range 8) (fun h => lastHead (F := F) c h) = bigSep (Finset.range 4) (fun p => lastPair c p) :=
    range_pairs (fun h => lastHead (F := F) c h) 4
  have m (h : ℕ) : lastHead (F := F) c h ⊢ iprop(((atPos ER (rC c 1 h) 8 ∅ 0 ∗ atPos ER (sC c 1 h) 8 ∅ 0) ∗ (atPos ER (rC c 0 h) 7 ∅ 0 ∗ atPos ER (sC c 0 h) 7 ∅ 0))
      ∗ (slotAny c 0 h ∗ slotAny c 1 h)) := by
    unfold lastHead
    iintro ⟨H1, H2, H3, H4⟩
    isplitl [H1 H2]
    · isplitl [H1]; · iexact H1
      iexact H2
    · isplitl [H3]; · iexact H3
      iexact H4
  rw [← e, ← bigSep_sep']
  exact bigSep_mono fun h _ => m h

/-! ## The run -/

/-- What a device ends with. -/
def runPost (c : Dev nD) : sProp 𝕄 :=
  iprop(owe c 0 ∗ qBuf c (D.q c) ∗ kBuf c (D.k c) ∗ vBuf c (D.v c) ∗ oBuf c (finished D (lft c)) ∗ (∃ f, finBuf c f) ∗ (∃ f, blkBuf c f)
    ∗ semVal (barC c) 0 ∗ bigSep (Finset.univ : Finset (Fin 36)) (fun k => semVal ((c : Thread nD τ), osem k) 0))

section Run

variable (c : Dev nD) (h0 : qM.IsWhole) (h1 : kM.IsWhole) (h2 : vM.IsWhole) (h3 : oM.IsWhole) (h4 : blk.IsWhole) (h5 : fin.IsWhole)

set_option maxHeartbeats 1000000 in
/-- From the barrier to the moment the finished block has left. -/
theorem part13 :
    iprop(ctx D K ∗ startRes c ∗ qBuf c (D.q c) ∗ kBuf c (D.k c) ∗ vBuf c (D.v c) ∗ (∃ f, oBuf c f) ∗ (∃ f, finBuf c f))
      ⊢ wp frame (wpE (defs₀ (F := F)) 𝒱₀ c none) Set.univ
          (k0_part13 qM h0 kM h1 vM h2 oM h3 blk h4 fin h5 cc0_scratch2 cc0_scratch3 cc0_scratch4 cc0_scratch5 cc0_scratch6 cc0_scratch7)
          (fun r => iprop(⌜r.1 = c⌝ ∗ (owe c (Oexit c) ∗ qBuf c (D.q c) ∗ kBuf c (D.k c) ∗ vBuf c (D.v c) ∗ (∃ f, finBuf c f))
            ∗ bigSep (Finset.range 4) (fun p => lastPair c p) ∗ (atPos ER (barC c) 1 ∅ 0 ∗ atPos ER (crC c) 1 ∅ 0 ∗ atPos ER (fC c) 1 ∅ 0)
            ∗ (atPos ER (frC c) 0 ∅ 0 ∗ cred (tallyAt (frC c) 0 NF))
            ∗ (openAt (exC c) ∗ exStart c ∗ reached ER (exC (lft c)) 0 ∗ reached ER (exC (rgt c)) 0))) := by
  have hmem0 (d : Dev nD) : (0 : ℕ) ∈ (Rd D).duties (barC d) 0 := by rw [duties_bar]; decide
  have hmem1 (d : Dev nD) : (1 : ℕ) ∈ (Rd D).duties (barC d) 0 := by rw [duties_bar]; decide
  have hL : iprop(reached ER (crC c) 0 ∗ reached ER (exC c) 0) ⊢ (Rd D).payload (barC (rgt c)) 0 0 := by
    rw [payload_bar0]; unfold barL; rw [lft_rgt]
  have hR : iprop(bigSep (Finset.range 8) (fun h => relHead c 0 h) ∗ (∃ f, oBuf c f) ∗ reached ER (frC c) 0 ∗ reached ER (exC c) 0) ⊢ (Rd D).payload (barC (lft c)) 0 1 := by
    rw [payload_bar1]; unfold barR; rw [rgt_lft]
  have hfin (f : S8x128x256.Idx → Elt F .f32) : finBuf c f ⊢ finAt c 0 (outOf D c) := by
    unfold finAt
    iintro H
    iexists f
    isplitr; · ipureintro; intro h i x hlt; exact absurd hlt (Nat.not_lt_zero _)
    iexact H
  have hcr : atPos ER (crC c) 0 ∅ 0 ⊢ crState (F := F) c 0 := by
    unfold crState
    iintro H
    iexists ∅
    isplitr; · ipureintro; exact ⟨Finset.empty_subset _, Nat.zero_le _⟩
    isplitl [H]; · iexact H
    rw [bigSep_empty]; iempintro
  have hO : O₀ c = Orem c 0 + tallyAt (barC (rgt c)) 0 1 + tallyAt (barC (lft c)) 0 1 := rfl
  have hOf : Orem c (56 + 4) = Ofin c := Orem_last c (by decide)
  simp only [Gen.k0_part13_eq_skeleton]; unfold Gen.k0_part13_skel startRes barStart finStart openAt
  simp only [semSignalWord, semWaitWord, Prog.lift, Prog.bind_op, Prog.bind_ret, Prog.pure_eq_ret, Prog.bind_assoc, wp_deviceId, bar_sem]
  iintro ⟨#Hctx, ⟨HO, Hh, Hct, ⟨⟨Hf, #Hfr⟩, ⟨Hfr0, #Hfrr⟩, ⟨Hcr, #Hcrr⟩, ⟨Hex, #Hexr⟩⟩, ⟨Hb, ⟨#Hbr, #Hbl⟩, ⟨Htr, Htl⟩, Hcb⟩, ⟨Htf, Hcf⟩, Hexs⟩, Hq, Hk, Hv, Ho, ⟨%f, Hfin⟩⟩
  imod (heads_begin D K c) $$ [Hh] with ⟨Hh, #Hrel⟩
  · isplitr; · iexact Hctx
    iexact Hh
  ihave Hp := (pairs_of_heads c) $$ [Hh Hct]
  · isplitl [Hh]; · iexact Hh
    iexact Hct
  ihave Hpr := hR $$ [Ho]
  · isplitr; · iexact Hrel
    isplitl [Ho]; · iexact Ho
    isplitr; · iexact Hfrr
    iexact Hexr
  ihave Hpl := hL $$ []
  · isplitr; · iexact Hcrr
    iexact Hexr
  rw [dev1, dev2, hO]
  iapply (signal_one D K c (lft c) (n := (1#32 : BitVec 32).toInt) rfl (bar_mem (lft c)) (hmem1 (lft c)) (ι := 0)) $$ [HO Htl Hpr]
  · isplitr; · iexact Hctx
    isplitl [HO]; · iexact HO
    isplitl [Htl]; · iexact Htl
    isplitl [Hpr]; · iexact Hpr
    iexact Hbl
  iintro HO
  iapply (signal_one D K c (rgt c) (n := (1#32 : BitVec 32).toInt) rfl (bar_mem (rgt c)) (hmem0 (rgt c)) (ι := 0)) $$ [HO Htr Hpl]
  · isplitr; · iexact Hctx
    isplitl [HO]; · iexact HO
    isplitl [Htr]; · iexact Htr
    isplitl [Hpl]; · iexact Hpl
    iexact Hbr
  iintro HO
  iapply (wait_two D K c (n := (2#32 : BitVec 32).toInt) rfl (bar_mem c) (duties_bar D c) (ι := 0) (b := 1) (by decide) (lv_bar c 0).le
    (above_rem c (t := 0) (by omega) (by omega) (Or.inr (by omega)))) $$ [HO Hcb Hb]
  · isplitr; · iexact Hctx
    isplitl [Hcb]; · iexact Hcb
    isplitl [HO]; · iexact HO
    iexact Hb
  rw [payload_bar0, payload_bar1]
  unfold barL barR
  iintro ⟨HO, Hb, ⟨#Hcl, #Hxl⟩, ⟨#Hrr, Ho, #Hfrn, #Hxr⟩⟩
  iapply (wp_then (first D K c h0 h1 h2 h3 h4 h5)) $$ [Hq Hk Hv HO Hp]
  · isplitr; · iexact Hctx
    isplitr; · iexact Hrr
    isplitl [Hq]; · iexact Hq
    isplitl [Hk]; · iexact Hk
    isplitl [Hv]; · iexact Hv
    isplitl [HO]; · iexact HO
    iexact Hp
  iintro %_ ⟨Hq, Hk, Hv, HO, Hp⟩
  ihave Hcr := hcr $$ Hcr
  iapply (wp_then (middle D K c h0 h1 h2 h3 h4 h5 _ _)) $$ [Hk Hv HO Hcr Hp]
  · isplitr; · iexact Hctx
    isplitr; · iexact Hcl
    isplitl [Hk]; · iexact Hk
    isplitl [Hv]; · iexact Hv
    isplitl [HO Hcr]
    · unfold flow
      isplitl [HO]; · iexact HO
      isplitl [Hcr]; · iexact Hcr
      rw [Finset.range_zero, bigSep_empty]; iempintro
    iexact Hp
  unfold flow
  rw [hOf]
  iintro %_ ⟨Hk, Hv, ⟨HO, Hcr, -⟩, Hp⟩
  imod (credit_end D K c) $$ [Hcr] with Hcr
  · isplitr; · iexact Hctx
    iexact Hcr
  ihave Hfin := (hfin f) $$ Hfin
  iapply (wp_then (last D K c h0 h1 h2 h3 h4 h5 _)) $$ [Hk Hv HO Hfin Hp]
  · isplitr; · iexact Hctx
    isplitl [Hk]; · iexact Hk
    isplitl [Hv]; · iexact Hv
    isplitl [HO]; · iexact HO
    isplitl [Hfin]; · iexact Hfin
    iexact Hp
  iintro %_ ⟨Hk, Hv, HO, Hfin, Hp⟩
  ihave Hfin := (finAt_full D c) $$ Hfin
  iapply (send_final D K c (dev8 c _)) $$ [Hfin Ho Htf HO]
  · isplitr; · iexact Hctx
    isplitl [Hfin]; · iexact Hfin
    isplitl [Ho]; · iexact Ho
    isplitl [Htf]; · iexact Htf
    isplitr; · iexact Hfr
    isplitr; · iexact Hfrn
    iexact HO
  iintro ⟨HO, Hc⟩
  iapply (wait_final D K c (f_mem c) (duties_f D c) (expect_f D c) (lv_f c 0).le (above_exit c (by decide)) (src := oM) (dst := fin) rfl) $$ [HO Hc Hf]
  · isplitr; · iexact Hctx
    isplitl [Hc]; · iexact Hc
    isplitl [HO]; · iexact HO
    iexact Hf
  rw [payload_f]
  iintro ⟨HO, Hf, -, Hfin⟩
  rw [wp_ret]; imodintro
  isplitr; · ipureintro; rfl
  isplitl [HO Hq Hk Hv Hfin]
  · isplitl [HO]; · iexact HO
    isplitl [Hq]; · iexact Hq
    isplitl [Hk]; · iexact Hk
    isplitl [Hv]; · iexact Hv
    iexact Hfin
  isplitl [Hp]; · iexact Hp
  isplitl [Hb Hcr Hf]
  · isplitl [Hb]; · iexact Hb
    isplitl [Hcr]; · iexact Hcr
    iexact Hf
  isplitl [Hfr0 Hcf]
  · isplitl [Hfr0]; · iexact Hfr0
    iexact Hcf
  isplitl [Hex]
  · isplitl [Hex]; · iexact Hex
    iexact Hexr
  isplitl [Hexs]; · iexact Hexs
  isplitr; · iexact Hxl
  iexact Hxr

/-- The whole run. -/
theorem run :
    iprop(ctx D K ∗ startRes c ∗ qBuf c (D.q c) ∗ kBuf c (D.k c) ∗ vBuf c (D.v c) ∗ (∃ f, oBuf c f) ∗ (∃ f, finBuf c f))
      ⊢ wp frame (wpE (defs₀ (F := F)) 𝒱₀ c none) Set.univ
          (cc0_body qM h0 kM h1 vM h2 oM h3 blk h4 fin h5 cc0_scratch2 cc0_scratch3 cc0_scratch4 cc0_scratch5 cc0_scratch6 cc0_scratch7)
          (fun _ => runPost D c) := by
  have hmem0 (d : Dev nD) : (0 : ℕ) ∈ (Rd D).duties (exC d) 0 := by rw [duties_ex]; decide
  have hmem1 (d : Dev nD) : (1 : ℕ) ∈ (Rd D).duties (exC d) 0 := by rw [duties_ex]; decide
  have hpay (d : Dev nD) (e : ℕ) : (emp : sProp 𝕄) ⊢ (Rd D).payload (exC d) 0 e := by rw [payload_ex]
  have hO : Oexit c = 0 + tallyAt (exC (rgt c)) 0 1 + tallyAt (exC (lft c)) 0 1 := by unfold Oexit; rw [zero_add]
  unfold cc0_body
  simp only [semSignalWord, semWaitWord, Prog.lift, Prog.bind_op, Prog.bind_ret, Prog.pure_eq_ret, Prog.bind_assoc]
  iintro ⟨#Hctx, H⟩
  iapply (wp_then (part13 D K c h0 h1 h2 h3 h4 h5)) $$ [H]
  · isplitr; · iexact Hctx
    iexact H
  iintro %r ⟨%hr, ⟨HO, Hq, Hk, Hv, Hfin⟩, Hp, ⟨Hb, Hcr, Hf⟩, ⟨Hfr, Hcf⟩, ⟨Hex, Hexs, #Hxl, #Hxr⟩⟩
  obtain ⟨d0, v5, v7, v18, v19⟩ := r
  dsimp only at hr ⊢
  subst hr
  iapply (wait_final D K d0 (fr_mem d0) (duties_fr D d0) (expect_fr D d0) (lv_fr d0 0).le (above_exit d0 (by decide)) (src := fin) (dst := oM) rfl) $$ [HO Hcf Hfr]
  · isplitr; · iexact Hctx
    isplitl [Hcf]; · iexact Hcf
    isplitl [HO]; · iexact HO
    iexact Hfr
  rw [payload_fr]
  unfold exStart openAt
  icases Hex with ⟨Hex, -⟩
  icases Hexs with ⟨⟨Htr, Htl⟩, Hce⟩
  iintro ⟨HO, Hfr, -, Ho⟩
  rw [dev9, dev10, hO]
  iapply (signal_one D K d0 (lft d0) (n := (1#32 : BitVec 32).toInt) rfl (ex_mem (lft d0)) (hmem1 (lft d0)) (ι := 0)) $$ [HO Htl]
  · isplitr; · iexact Hctx
    isplitl [HO]; · iexact HO
    isplitl [Htl]; · iexact Htl
    isplitr; · iapply (hpay (lft d0) 1); iempintro
    iexact Hxl
  iintro HO
  iapply (signal_one D K d0 (rgt d0) (n := (1#32 : BitVec 32).toInt) rfl (ex_mem (rgt d0)) (hmem0 (rgt d0)) (ι := 0)) $$ [HO Htr]
  · isplitr; · iexact Hctx
    isplitl [HO]; · iexact HO
    isplitl [Htr]; · iexact Htr
    isplitr; · iapply (hpay (rgt d0) 0); iempintro
    iexact Hxr
  iintro HO
  iapply (wait_two D K d0 (n := (2#32 : BitVec 32).toInt) rfl (ex_mem d0) (duties_ex D d0) (ι := 0) (by decide) (lv_ex d0 0).le (Above.zero _)) $$ [HO Hce Hex]
  · isplitr; · iexact Hctx
    isplitl [Hce]; · iexact Hce
    isplitl [HO]; · iexact HO
    iexact Hex
  iintro ⟨HO, Hex, -, -⟩
  ihave Hp := (heads_of_pairs d0) $$ Hp
  icases Hp with ⟨Hp, Hs⟩
  ihave Hend := (own_end d0) $$ [Hp Hf Hfr Hcr Hex]
  · isplitl [Hp]; · iexact Hp
    isplitl [Hf]; · iexact Hf
    isplitl [Hfr]; · iexact Hfr
    isplitl [Hcr]; · iexact Hcr
    iexact Hex
  imod (own_close D K d0) $$ [Hend] with Hend
  · isplitr; · iexact Hctx
    iexact Hend
  imod (bar_close D K d0) $$ [Hb] with Hb
  · isplitr; · iexact Hctx
    iexact Hb
  ihave Hs := (blk_join d0) $$ Hs
  rw [wp_ret]; imodintro
  unfold runPost
  isplitl [HO]; · iexact HO
  isplitl [Hq]; · iexact Hq
  isplitl [Hk]; · iexact Hk
  isplitl [Hv]; · iexact Hv
  isplitl [Ho]; · iexact Ho
  isplitl [Hfin]; · iexact Hfin
  isplitl [Hs]; · iexact Hs
  isplitl [Hb]; · iexact Hb
  iexact Hend

end Run

end Cert.KernelIdeal.Ring

end

end
-- ==== Proof.Deal.lean ====
/-
  What the launch deals to the devices: the credit for what the others owe each of them, the tokens of the duties each of
  them pays, and the slots' tokens.
-/
module

public import proofs.«01_k».proof.Proof.Body

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- Of a family over a set, the members met by a map that does not meet any twice. -/
theorem pick {ι X : Type} [DecidableEq ι] [DecidableEq X] (I : Finset ι) (f : ι → X) (T : Finset X) (hf : Set.InjOn f I) (hs : ∀ i ∈ I, f i ∈ T)
    (Φ : X → sProp 𝕄) : bigSep T Φ ⊢ bigSep I (fun i => Φ (f i)) :=
  (bigSep_subset (Finset.image_subset_iff.mpr hs)).trans (Entails.of_eq (bigSep_image_of_injOn hf Φ))

/-- A family over pairs, first component by first component. -/
theorem by_fst {ι X : Type} [DecidableEq ι] [DecidableEq X] (s : Finset ι) (t : Finset X) (Φ : ι × X → sProp 𝕄) :
    bigSep (s ×ˢ t) Φ = bigSep s fun i => bigSep t fun x => Φ (i, x) := by
  induction s using Finset.cons_induction with
  | empty => rw [Finset.empty_product, bigSep_empty, bigSep_empty]
  | cons i s hi ih =>
    have hd : Disjoint (t.image (Prod.mk i)) (s ×ˢ t) := by
      rw [Finset.disjoint_left]
      intro y hy hy'
      obtain ⟨x, -, rfl⟩ := Finset.mem_image.mp hy
      exact hi (Finset.mem_product.mp hy').1
    have he : Finset.cons i s hi ×ˢ t = t.image (Prod.mk i) ∪ s ×ˢ t := by
      ext ⟨a, b⟩
      simp only [Finset.mem_product, Finset.mem_cons, Finset.mem_union, Finset.mem_image, Prod.mk.injEq]
      constructor
      · rintro ⟨rfl | h, hb⟩
        · exact .inl ⟨b, hb, rfl, rfl⟩
        · exact .inr ⟨h, hb⟩
      · rintro (⟨x, hx, rfl, rfl⟩ | ⟨h, hb⟩)
        · exact ⟨.inl rfl, hx⟩
        · exact ⟨.inr h, hb⟩
    rw [he, bigSep_union hd, ih, bigSep_image_of_injOn (fun x _ y _ e => (Prod.mk.inj e).2), Finset.cons_eq_insert, bigSep_insert hi]

/-- A family over the images of several maps that never meet, map by map. -/
theorem by_map {κ ι X : Type} [DecidableEq κ] [DecidableEq ι] [DecidableEq X] (s : Finset κ) (I : κ → Finset ι) (f : κ → ι → X)
    (hf : ∀ k, Set.InjOn (f k) (I k)) (hd : ∀ k k', k ≠ k' → ∀ y ∈ I k, ∀ z ∈ I k', f k y ≠ f k' z) (Φ : X → sProp 𝕄) :
    bigSep (s.biUnion fun k => (I k).image (f k)) Φ = bigSep s fun k => bigSep (I k) fun i => Φ (f k i) := by
  induction s using Finset.cons_induction with
  | empty => rw [Finset.biUnion_empty, bigSep_empty, bigSep_empty]
  | cons k s hk ih =>
    have hdj : Disjoint ((I k).image (f k)) (s.biUnion fun k => (I k).image (f k)) := by
      rw [Finset.disjoint_left]
      intro y hy hy'
      obtain ⟨a, ha, rfl⟩ := Finset.mem_image.mp hy
      obtain ⟨k', hk', hy''⟩ := Finset.mem_biUnion.mp hy'
      obtain ⟨b, hb, e⟩ := Finset.mem_image.mp hy''
      exact hd k k' (fun e => hk (e ▸ hk')) a ha b hb e.symm
    rw [Finset.cons_eq_insert, Finset.biUnion_insert, bigSep_union hdj, ih, bigSep_insert hk, bigSep_image_of_injOn (hf k)]

/-! ## Credit -/

/-- The credit of the slots that come in. -/
def inCred (c : Dev nD) (h j : ℕ) : sProp 𝕄 := cred (tallyAt (rC c ((j + 1) % 2) h) (4 * (j + 1) + h / 2) N)
/-- The credit of the credit semaphore. -/
def crCred (c : Dev nD) (p j : ℕ) : sProp 𝕄 := cred (tallyAt (crC c) (4 * j + p + 4) 2)

theorem dealt_tick_cr (c : Dev nD) {p j : ℕ} :
    (Pipeline.launchCred (fun d => if 4 ≤ 4 * (j + 1) + p then tallyAt (crC (lft d)) (4 * (j + 1) + p) 2 else 0) c : sProp 𝕄) ⊢ crCred c p j := by
  unfold crCred
  simp only [if_pos (show 4 ≤ 4 * (j + 1) + p by omega), show 4 * (j + 1) + p = 4 * j + p + 4 by omega]
  exact Pipeline.launchCred_tallyAt (.reg crS) lft rgt lft_rgt rgt_lft _ _ c

theorem dealt_tick_in (c : Dev nD) {p j e : ℕ} (hp : p < 4) (he : e < 2) :
    (Pipeline.launchCred (fun d => tallyAt (rC (rgt d) (((4 * j + p) / 4 + 1) % 2) (2 * ((4 * j + p) % 4) + e)) (4 * j + p + 4) N) c : sProp 𝕄) ⊢ inCred c (2 * p + e) j := by
  unfold inCred
  simp only [show (4 * j + p) / 4 = j by omega, show (4 * j + p) % 4 = p by omega, show 4 * (j + 1) + (2 * p + e) / 2 = 4 * j + p + 4 by omega]
  exact Pipeline.launchCred_tallyAt (.dma (rS ((j + 1) % 2) (2 * p + e))) rgt lft rgt_lft lft_rgt _ _ c

theorem tick_inj (n : ℕ) : Set.InjOn (fun x : ℕ × ℕ => 4 * x.2 + x.1) ((Finset.range 4 ×ˢ Finset.Ico 0 n : Finset (ℕ × ℕ)) : Set (ℕ × ℕ)) := by
  rintro ⟨p, j⟩ h ⟨p', j'⟩ h' e
  simp only [Finset.coe_product, Set.mem_prod, Finset.coe_range, Set.mem_Iio] at h h'
  replace e : 4 * j + p = 4 * j' + p' := e
  have := h.1; have := h'.1
  exact Prod.ext (by show p = p'; omega) (by show j = j'; omega)

/-- The credit each device is dealt for what the others owe it. -/
theorem dealt_cred (c : Dev nD) :
    (Pipeline.launchCred O₀ c : sProp 𝕄)
      ⊢ iprop(bigSep (Finset.range 8) (fun h => bigSep (Finset.Ico 0 15) (fun j => inCred c h j))
          ∗ bigSep (Finset.range 4) (fun p => bigSep (Finset.Ico 0 14) (fun j => crCred c p j))
          ∗ cred (tallyAt (barC c) 0 2) ∗ cred (tallyAt (frC c) 0 NF) ∗ cred (tallyAt (exC c) 0 2)) := by
  have one (s : SemLoc sig) (f g : Dev nD → Dev nD) (h1 : ∀ c, f (g c) = c) (h2 : ∀ c, g (f c) = c) (n : ℕ) :
      (Pipeline.launchCred (fun d => tallyAt (((f d : Dev nD) : Thread nD τ), s) 0 n) c : sProp 𝕄) ⊢ cred (tallyAt ((c : Thread nD τ), s) 0 n) :=
    Pipeline.launchCred_tallyAt s f g h1 h2 0 n c
  have two (s : SemLoc sig) : iprop(cred (tallyAt ((c : Thread nD τ), s) 0 1) ∗ cred (tallyAt ((c : Thread nD τ), s) 0 1)) ⊢ (cred (tallyAt ((c : Thread nD τ), s) 0 2) : sProp 𝕄) := by
    rw [show (2 : ℕ) = 1 + 1 from rfl, ← tallyAt_add]
    exact (cred_add _ _).2
  have hA : bigSep (Finset.Ico 0 60) (fun t => (Pipeline.launchCred (fun d => if 4 ≤ t then tallyAt (crC (lft d)) t 2 else 0) c : sProp 𝕄))
      ⊢ bigSep (Finset.range 4) (fun p => bigSep (Finset.Ico 0 14) (fun j => crCred c p j)) := by
    refine (pick (Finset.range 4 ×ˢ Finset.Ico 0 14) (fun x : ℕ × ℕ => 4 * (x.2 + 1) + x.1) _ ?_ ?_ _).trans ?_
    · intro x hx y hy e
      exact tick_inj 14 hx hy (by dsimp only at e ⊢; omega)
    · intro x hx
      simp only [Finset.mem_product, Finset.mem_range, Finset.mem_Ico] at hx ⊢
      omega
    · rw [by_fst]
      exact bigSep_mono fun p _ => bigSep_mono fun j _ => dealt_tick_cr c
  have hB (e : ℕ) (he : e < 2) : bigSep (Finset.Ico 0 60) (fun t => (Pipeline.launchCred (fun d => tallyAt (rC (rgt d) ((t / 4 + 1) % 2) (2 * (t % 4) + e)) (t + 4) N) c : sProp 𝕄))
      ⊢ bigSep (Finset.range 4) (fun p => bigSep (Finset.Ico 0 15) (fun j => inCred c (2 * p + e) j)) := by
    refine (pick (Finset.range 4 ×ˢ Finset.Ico 0 15) (fun x : ℕ × ℕ => 4 * x.2 + x.1) _ (tick_inj 15) ?_ _).trans ?_
    · intro x hx
      simp only [Finset.mem_product, Finset.mem_range, Finset.mem_Ico] at hx ⊢
      omega
    · rw [by_fst]
      exact bigSep_mono fun p hp => bigSep_mono fun j _ => dealt_tick_in c (Finset.mem_range.mp hp) he
  have hin : iprop(bigSep (Finset.range 4) (fun p => bigSep (Finset.Ico 0 15) (fun j => inCred (F := F) c (2 * p + 0) j))
        ∗ bigSep (Finset.range 4) (fun p => bigSep (Finset.Ico 0 15) (fun j => inCred c (2 * p + 1) j)))
      ⊢ bigSep (Finset.range 8) (fun h => bigSep (Finset.Ico 0 15) (fun j => inCred c h j)) :=
    Entails.of_eq ((bigSep_sep' ..).symm.trans (range_pairs (fun h => bigSep (Finset.Ico 0 15) (fun j => inCred (F := F) c h j)) 4).symm)
  unfold O₀ Orem Ofin Oexit oTick
  rw [Pipeline.launchCred_add, Pipeline.launchCred_add, Pipeline.launchCred_add, Pipeline.launchCred_sum, Pipeline.launchCred_add, Pipeline.launchCred_add]
  simp only [Pipeline.launchCred_add]
  rw [bigSep_sep', bigSep_sep']
  iintro ⟨⟨⟨⟨H1, H2, H3⟩, ⟨He1, He2⟩, Hf⟩, Hb1⟩, Hb2⟩
  isplitl [H2 H3]
  · iapply hin
    isplitl [H2]
    · iapply (hB 0 (by decide)) $$ H2
    · iapply (hB 1 (by decide)) $$ H3
  isplitl [H1]; · iapply hA $$ H1
  isplitl [Hb1 Hb2]
  · iapply (two (.reg barS))
    isplitl [Hb1]
    · iapply (one (.reg barS) rgt lft rgt_lft lft_rgt 1) $$ Hb1
    · iapply (one (.reg barS) lft rgt lft_rgt rgt_lft 1) $$ Hb2
  isplitl [Hf]
  · iapply (one (.dma frS) rgt lft rgt_lft lft_rgt NF) $$ Hf
  · iapply (two (.reg exS))
    isplitl [He1]
    · iapply (one (.reg exS) rgt lft rgt_lft lft_rgt 1) $$ He1
    · iapply (one (.reg exS) lft rgt lft_rgt rgt_lft 1) $$ He2

/-! ## Duties -/

/-- The ten kinds of duty a device pays, and the semaphore, the round and the number of each. -/
def dutyOf : Fin 10 → Dev nD × ℕ × ℕ → GSem nD τ sig × ℕ × ℕ
  | 0, (c, h, j) => (sC c ((j + 1) % 2) h, j / 2, 0)
  | 1, (c, h, j) => (rC (rgt c) ((j + 1) % 2) h, j / 2, 0)
  | 2, (c, p, j) => (crC (lft c), 0, 2 * (4 * j + p))
  | 3, (c, p, j) => (crC (lft c), 0, 2 * (4 * j + p) + 1)
  | 4, (c, _, _) => (barC (rgt c), 0, 0)
  | 5, (c, _, _) => (barC (lft c), 0, 1)
  | 6, (c, _, _) => (exC (rgt c), 0, 0)
  | 7, (c, _, _) => (exC (lft c), 0, 1)
  | 8, (c, _, _) => (fC c, 0, 0)
  | 9, (c, _, _) => (frC (rgt c), 0, 0)

/-- How many heads or pairs, and how many steps, each kind has. -/
def heads : Fin 10 → ℕ
  | 0 | 1 => 8
  | 2 | 3 => 4
  | _ => 1
def steps : Fin 10 → ℕ
  | 0 | 1 => 15
  | 2 | 3 => 14
  | _ => 1
def dutyIx (k : Fin 10) : Finset (Dev nD × ℕ × ℕ) := Finset.univ ×ˢ (Finset.range (heads k) ×ˢ Finset.Ico 0 (steps k))
def toks : Finset (GSem nD τ sig × ℕ × ℕ) := Finset.univ.biUnion fun k => (dutyIx k).image (dutyOf k)

/-- A duty tells its kind. -/
def kindOf (x : GSem nD τ sig × ℕ × ℕ) : ℕ :=
  match x.1.2 with
  | .dma s => if s.val < 20 then 0 else if s.val < 36 then 1 else if s.val = 36 then 8 else 9
  | .reg s => if s = crS then 2 + x.2.2 % 2 else if s = exS then 6 + x.2.2 else 4 + x.2.2

theorem dutyIx_mem {k : Fin 10} {x : Dev nD × ℕ × ℕ} (h : x ∈ dutyIx k) : x.2.1 < heads k ∧ x.2.2 < steps k := by
  simp only [dutyIx, Finset.mem_product, Finset.mem_range, Finset.mem_Ico] at h
  omega

theorem kindOf_reg (d : Dev nD) (s : Fin sig.nSem) (n i : ℕ) :
    kindOf (((d : Thread nD τ), .reg s), n, i) = if s = crS then 2 + i % 2 else if s = exS then 6 + i else 4 + i := rfl
theorem kindOf_cr (d : Dev nD) (n i : ℕ) : kindOf (crC d, n, i) = 2 + i % 2 := by rw [crC, kindOf_reg, if_pos rfl]
theorem kindOf_ex (d : Dev nD) (n i : ℕ) : kindOf (exC d, n, i) = 6 + i := by rw [exC, kindOf_reg, if_neg ex_ne_cr, if_pos rfl]
theorem kindOf_bar (d : Dev nD) (n i : ℕ) : kindOf (barC d, n, i) = 4 + i := by rw [barC, kindOf_reg, if_neg bar_ne_cr, if_neg bar_ne_ex]

theorem kindOf_dutyOf (k : Fin 10) (x : Dev nD × ℕ × ℕ) (hx : x ∈ dutyIx k) : kindOf (dutyOf k x) = k.val := by
  have hm := dutyIx_mem hx
  obtain ⟨c, h, j⟩ := x
  fin_cases k
  · have hh : h < 8 := hm.1
    unfold kindOf dutyOf; simp only [sS_val (by omega : (j + 1) % 2 < 2) hh]; exact if_pos (by omega)
  · have hh : h < 8 := hm.1
    unfold kindOf dutyOf; simp only [rS_val (by omega : (j + 1) % 2 < 2) hh]; rw [if_neg (by omega), if_pos (by omega)]
  · exact (kindOf_cr _ _ _).trans (show 2 + 2 * (4 * j + h) % 2 = 2 by omega)
  · exact (kindOf_cr _ _ _).trans (show 2 + (2 * (4 * j + h) + 1) % 2 = 3 by omega)
  · exact kindOf_bar _ _ _
  · exact kindOf_bar _ _ _
  · exact kindOf_ex _ _ _
  · exact kindOf_ex _ _ _
  · unfold kindOf dutyOf; simp only [fS_val]; rfl
  · unfold kindOf dutyOf; simp only [frS_val]; rfl

theorem rgt_inj : Function.Injective rgt := ring.injective
theorem lft_inj : Function.Injective lft := ring.symm.injective

/-- Two duties of one kind that are the same are of the same device, head and step. -/
theorem dutyOf_inj (k : Fin 10) : Set.InjOn (dutyOf k) (dutyIx k : Set (Dev nD × ℕ × ℕ)) := by
  rintro ⟨c, h, j⟩ hx ⟨c', h', j'⟩ hy e
  have h1 := dutyIx_mem (Finset.mem_coe.mp hx)
  have h2 := dutyIx_mem (Finset.mem_coe.mp hy)
  have ed : (dutyOf k (c, h, j)).1.1.1 = (dutyOf k (c', h', j')).1.1.1 := by rw [e]
  have es : (dutyOf k (c, h, j)).1.2 = (dutyOf k (c', h', j')).1.2 := by rw [e]
  have er : (dutyOf k (c, h, j)).2.1 = (dutyOf k (c', h', j')).2.1 := by rw [e]
  have en : (dutyOf k (c, h, j)).2.2 = (dutyOf k (c', h', j')).2.2 := by rw [e]
  dsimp only at h1 h2
  have fin (hc : c = c') (hh : h = h') (hj : j = j') : (c, h, j) = (c', h', j') := by rw [hc, hh, hj]
  fin_cases k
  · have v := congrArg Fin.val (SemLoc.dma.inj es)
    replace er : j / 2 = j' / 2 := er
    have a : h < 8 := h1.1
    have b : h' < 8 := h2.1
    rw [sS_val (by omega) a, sS_val (by omega) b] at v
    exact fin ed (by omega) (by omega)
  · have v := congrArg Fin.val (SemLoc.dma.inj es)
    replace er : j / 2 = j' / 2 := er
    have a : h < 8 := h1.1
    have b : h' < 8 := h2.1
    rw [rS_val (by omega) a, rS_val (by omega) b] at v
    exact fin (rgt_inj ed) (by omega) (by omega)
  · replace en : 2 * (4 * j + h) = 2 * (4 * j' + h') := en
    have a : h < 4 := h1.1
    have b : h' < 4 := h2.1
    exact fin (lft_inj ed) (by omega) (by omega)
  · replace en : 2 * (4 * j + h) + 1 = 2 * (4 * j' + h') + 1 := en
    have a : h < 4 := h1.1
    have b : h' < 4 := h2.1
    exact fin (lft_inj ed) (by omega) (by omega)
  all_goals
    have a : h < 1 := h1.1
    have b : h' < 1 := h2.1
    have a' : j < 1 := h1.2
    have b' : j' < 1 := h2.2
  · exact fin (rgt_inj ed) (by omega) (by omega)
  · exact fin (lft_inj ed) (by omega) (by omega)
  · exact fin (rgt_inj ed) (by omega) (by omega)
  · exact fin (lft_inj ed) (by omega) (by omega)
  · exact fin ed (by omega) (by omega)
  · exact fin (rgt_inj ed) (by omega) (by omega)

/-- All duties, kind by kind. -/
theorem toks_kinds (Φ : GSem nD τ sig × ℕ × ℕ → sProp 𝕄) :
    bigSep toks Φ = bigSep (Finset.univ : Finset (Fin 10)) (fun k => bigSep (dutyIx k) (fun x => Φ (dutyOf k x))) := by
  refine by_map _ dutyIx dutyOf dutyOf_inj (fun k k' hne y hy z hz e => hne (Fin.ext ?_)) Φ
  rw [← kindOf_dutyOf k y hy, e, kindOf_dutyOf k' z hz]

/-- The duties of one kind a device pays. -/
def kindToks (k : Fin 10) (c : Dev nD) : sProp 𝕄 :=
  bigSep (Finset.range (heads k)) fun h => bigSep (Finset.Ico 0 (steps k)) fun j =>
    dutyTok ER (dutyOf k (c, h, j)).1 (dutyOf k (c, h, j)).2.1 (dutyOf k (c, h, j)).2.2

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

/-- Every device is dealt the duties it pays. -/
theorem dealt_toks :
    bigSep toks (fun x => (dutyTok ER x.1 x.2.1 x.2.2 : sProp 𝕄))
      ⊢ bigSep Finset.univ fun c : Dev nD => bigSep (Finset.univ : Finset (Fin 10)) fun k => kindToks k c := by
  rw [toks_kinds]
  refine Entails.of_eq ((bigSep_congr fun k _ => ?_).trans
    (bigSep_univ_comm (fun (k : Fin 10) c => kindToks k c)))
  unfold dutyIx kindToks
  rw [by_fst]
  exact bigSep_congr fun c _ => by_fst _ _ _

/-! ## The slots -/

/-- Every device is dealt the tokens to write the slots of the device after. -/
theorem dealt_writes :
    bigSep (keys ×ˢ Finset.range 8) (fun x => (writeTok ES x.1 (x.2 + 1) : sProp 𝕄))
      ⊢ bigSep Finset.univ fun c : Dev nD => bigSep (Finset.range 8) fun h => bigSep (Finset.Ico 0 15) fun j =>
          writeTok ES (rgt c, (j + 1) % 2, h) (j / 2 + 1) := by
  refine (pick (Finset.univ ×ˢ (Finset.range 8 ×ˢ Finset.Ico 0 15)) (fun x : Dev nD × ℕ × ℕ => ((rgt x.1, (x.2.2 + 1) % 2, x.2.1), x.2.2 / 2)) _ ?_ ?_ _).trans ?_
  · rintro ⟨c, h, j⟩ - ⟨c', h', j'⟩ - e
    simp only [Prod.mk.injEq] at e
    obtain ⟨⟨e1, e2, e3⟩, e4⟩ := e
    rw [rgt_inj e1, e3, show j = j' by omega]
  · rintro ⟨c, h, j⟩ hx
    simp only [Finset.mem_product, Finset.mem_range, Finset.mem_Ico, Finset.mem_univ, true_and] at hx
    exact Finset.mem_product.mpr ⟨key_mem _ (by omega) hx.1, Finset.mem_range.mpr (by show j / 2 < 8; omega)⟩
  · rw [by_fst]
    exact bigSep_mono fun c _ => Entails.of_eq (by_fst _ _ _)

/-- Every device is dealt its place as the reader of its own slots. -/
theorem dealt_readers :
    bigSep keys (fun k => (readerAt ES k 0 : sProp 𝕄))
      ⊢ bigSep Finset.univ fun c : Dev nD => bigSep (Finset.range 8) fun h => iprop(readerAt ES (c, 0, h) 0 ∗ readerAt ES (c, 1, h) 0) := by
  unfold keys
  rw [by_fst]
  have two (Ψ : ℕ → sProp 𝕄) : bigSep (Finset.range 2) Ψ = iprop(Ψ 0 ∗ Ψ 1) := by
    rw [show Finset.range 2 = {0, 1} from by decide, bigSep_insert (by decide), bigSep_singleton]
    rfl
  refine Entails.of_eq (bigSep_congr fun c _ => ?_)
  rw [by_fst, two, bigSep_sep']

end Cert.KernelIdeal.Ring
-- ==== Proof.Fund.lean ====
/-
  The launch's ghost state: from the barrier's counters at zero and the launch element, every semaphore's record, every
  slot's record, and what each device is dealt; and, once a device is in the call, its own semaphores opened.
-/
module

public import proofs.«01_k».proof.Proof.Deal

@[expose] public section

noncomputable section

namespace Cert.KernelIdeal.Ring

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- Two families held are the family of both, -/
theorem together {ι : Type} {s : Finset ι} {Φ Ψ : ι → sProp 𝕄} : iprop(bigSep s Φ ∗ bigSep s Ψ) ⊢ bigSep s (fun c => iprop(Φ c ∗ Ψ c)) :=
  Entails.of_eq (bigSep_sep' s Φ Ψ).symm
/-- and the other way. -/
theorem apart {ι : Type} {s : Finset ι} {Φ Ψ : ι → sProp 𝕄} : bigSep s (fun c => iprop(Φ c ∗ Ψ c)) ⊢ iprop(bigSep s Φ ∗ bigSep s Ψ) :=
  Entails.of_eq (bigSep_sep' s Φ Ψ)

/-- What a device is dealt for one head. -/
def headLin (c : Dev nD) (h : ℕ) : sProp 𝕄 :=
  iprop((readerAt ES (c, 0, h) 0 ∗ readerAt ES (c, 1, h) 0) ∗ bigSep (Finset.Ico 0 15) (fun j => stepTok c h j))

/-- What a device is dealt besides the records. -/
def linear (c : Dev nD) : sProp 𝕄 :=
  iprop(bigSep (Finset.range 8) (fun h => headLin c h) ∗ bigSep (Finset.range 4) (fun p => bigSep (Finset.Ico 0 14) (fun j => crTok c p j))
    ∗ barStart c ∗ finStart c ∗ exStart c ∗ bigSep (Finset.univ : Finset (Fin 36)) (fun k => openTok ER ((c : Thread nD τ), osem k)))

/-- The tokens to write the slots of the device after. -/
def writes (c : Dev nD) : sProp 𝕄 :=
  bigSep (Finset.range 8) fun h => bigSep (Finset.Ico 0 15) fun j => writeTok ES (rgt c, (j + 1) % 2, h) (j / 2 + 1)
/-- The places as reader of its own slots. -/
def readers (c : Dev nD) : sProp 𝕄 := bigSep (Finset.range 8) fun h => iprop(readerAt ES (c, 0, h) 0 ∗ readerAt ES (c, 1, h) 0)

theorem kindToks_steps (k : Fin 10) (c : Dev nD) (H J : ℕ) (eh : heads k = H) (ej : steps k = J) :
    (kindToks k c : sProp 𝕄) = bigSep (Finset.range H) fun h => bigSep (Finset.Ico 0 J) fun j =>
      dutyTok ER (dutyOf k (c, h, j)).1 (dutyOf k (c, h, j)).2.1 (dutyOf k (c, h, j)).2.2 := by
  subst eh ej; rfl

theorem kindToks_one (k : Fin 10) (c : Dev nD) (eh : heads k = 1) (ej : steps k = 1) :
    (kindToks k c : sProp 𝕄) = dutyTok ER (dutyOf k (c, 0, 0)).1 (dutyOf k (c, 0, 0)).2.1 (dutyOf k (c, 0, 0)).2.2 := by
  rw [kindToks_steps k c 1 1 eh ej, show Finset.range 1 = {0} from rfl, bigSep_singleton, show Finset.Ico 0 1 = {0} from rfl, bigSep_singleton]

/-- What the launch gives one device, put together. -/
theorem gather (c : Dev nD) :
    iprop((reached ER (barC (rgt c)) 0 ∗ reached ER (barC (lft c)) 0) ∗ (bigSep (Finset.univ : Finset (Fin 10)) (fun k => kindToks k c) ∗ writes c ∗ readers c ∗ Pipeline.launchCred O₀ c
        ∗ atPos ER (barC c) 0 ∅ 0 ∗ bigSep (Finset.univ : Finset (Fin 36)) (fun k => openTok ER ((c : Thread nD τ), osem k))))
      ⊢ (linear c : sProp 𝕄) := by
  have hheads : iprop(readers c ∗ (kindToks 0 c ∗ kindToks 1 c ∗ writes c) ∗ bigSep (Finset.range 8) (fun h => bigSep (Finset.Ico 0 15) (fun j => inCred c h j)))
      ⊢ (bigSep (Finset.range 8) (fun h => headLin c h) : sProp 𝕄) := by
    refine Entails.of_eq ?_
    rw [kindToks_steps 0 c 8 15 rfl rfl, kindToks_steps 1 c 8 15 rfl rfl]
    unfold readers writes headLin stepTok sendTok inCred
    simp only [bigSep_sep']
    rfl
  have hpairs : iprop((kindToks 2 c ∗ kindToks 3 c) ∗ bigSep (Finset.range 4) (fun p => bigSep (Finset.Ico 0 14) (fun j => crCred c p j)))
      ⊢ (bigSep (Finset.range 4) (fun p => bigSep (Finset.Ico 0 14) (fun j => crTok c p j)) : sProp 𝕄) := by
    rw [kindToks_steps 2 c 4 14 rfl rfl, kindToks_steps 3 c 4 14 rfl rfl]
    unfold crTok crCred
    simp only [bigSep_sep']
    refine (show iprop((bigSep (Finset.range 4) (fun p => bigSep (Finset.Ico 0 14) fun j => dutyTok ER (crC (lft c)) 0 (2 * (4 * j + p)))
        ∗ bigSep (Finset.range 4) (fun p => bigSep (Finset.Ico 0 14) fun j => dutyTok ER (crC (lft c)) 0 (2 * (4 * j + p) + 1)))
        ∗ bigSep (Finset.range 4) (fun p => bigSep (Finset.Ico 0 14) fun j => cred (tallyAt (crC c) (4 * j + p + 4) 2)))
      ⊢ (iprop(bigSep (Finset.range 4) (fun p => bigSep (Finset.Ico 0 14) fun j => dutyTok ER (crC (lft c)) 0 (2 * (4 * j + p)))
        ∗ bigSep (Finset.range 4) (fun p => bigSep (Finset.Ico 0 14) fun j => dutyTok ER (crC (lft c)) 0 (2 * (4 * j + p) + 1))
        ∗ bigSep (Finset.range 4) (fun p => bigSep (Finset.Ico 0 14) fun j => cred (tallyAt (crC c) (4 * j + p + 4) 2))) : sProp 𝕄) from ?_)
    iintro ⟨⟨H1, H2⟩, H3⟩
    isplitl [H1]; · iexact H1
    isplitl [H2] <;> iassumption
  rw [bigSep_fin10, kindToks_one 4 c rfl rfl, kindToks_one 5 c rfl rfl, kindToks_one 6 c rfl rfl, kindToks_one 7 c rfl rfl, kindToks_one 8 c rfl rfl, kindToks_one 9 c rfl rfl]
  iintro ⟨⟨Hr1, Hr2⟩, ⟨H0, H1, H2, H3, H4, H5, H6, H7, H8, H9⟩, Hw, Hr, Hc, Ha, Ho⟩
  ihave Hc := (dealt_cred c) $$ Hc
  icases Hc with ⟨Hin, Hcr, Hbar, Hfr, Hex⟩
  unfold linear barStart finStart exStart
  isplitl [H0 H1 Hw Hr Hin]
  · iapply hheads
    isplitl [Hr]; · iexact Hr
    isplitl [H0 H1 Hw]
    · isplitl [H0]; · iexact H0
      isplitl [H1] <;> iassumption
    iexact Hin
  isplitl [H2 H3 Hcr]
  · iapply hpairs
    isplitl [H2 H3]
    · isplitl [H2] <;> iassumption
    iexact Hcr
  isplitl [Hr1 Hr2 Ha H4 H5 Hbar]
  · isplitl [Ha]; · iexact Ha
    isplitl [Hr1 Hr2]; · isplitl [Hr1] <;> iassumption
    isplitl [H4 H5]
    · isplitl [H4]
      · iexact H4
      · iexact H5
    iexact Hbar
  isplitl [H8 H9 Hfr]
  · isplitl [H8 H9]
    · isplitl [H8]
      · iexact H8
      · iexact H9
    iexact Hfr
  isplitl [H6 H7 Hex]
  · isplitl [H6 H7]
    · isplitl [H6]
      · iexact H6
      · iexact H7
    iexact Hex
  iexact Ho

theorem disjoint_cells : Disjoint barCells scCells := by
  rw [Finset.disjoint_left]
  intro g h1 h2
  obtain ⟨c, -, rfl⟩ := Finset.mem_map.mp h1
  obtain ⟨p, -, e⟩ := Finset.mem_map.mp h2
  exact (by decide +kernel : ∀ k : Fin 36, osem k ≠ .reg barS) p.2 (congrArg Prod.snd e)

/-- The two launch elements of the protocol. -/
def launchEl : sProp 𝕄 := iprop(own (ER (launchOf barCells scCells toks)) ∗ own (ES (initSlots keys 8)))

theorem fund (D : Data F) :
    iprop(bigSep Finset.univ (fun c : Dev nD => semVal (barC c) 0) ∗ launchEl ∗ bigSep Finset.univ (fun c : Dev nD => Pipeline.launchCred O₀ c))
      ⊢ (|={Set.univ}=> ∃ K, inv D K ∗ bigSep Finset.univ (fun c : Dev nD => linear c) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep (Finset.univ : Finset (Fin 36)) (fun k => openTok ER ((c : Thread nD τ), osem k))) :=
    Entails.of_eq ((bigSep_map (s := Finset.univ) scEmb (Φ := fun g : GSem nD τ sig => (openTok ER g : sProp 𝕄))).trans (bigSep_univ_prod _))
  have hre (c : Dev nD) : (bigSep barCells (fun g => reached ER g 0) : sProp 𝕄) ⊢ reached ER (barC c) 0 :=
    bigSep_elim (Finset.mem_map.mpr ⟨c, Finset.mem_univ _, rfl⟩)
  unfold launchEl
  iintro ⟨Hv, ⟨Hu, Hs⟩, Hc⟩
  imod (Rounds.fund_launch ER (Rd D) disjoint_cells (fun g _ h => h) toks) $$ [Hv Hu] with ⟨%κ, -, #Hinv, #Hr, Hat, Hopen, Htok⟩
  · isplitl [Hv]
    · iapply hv $$ Hv
    · iexact Hu
  imod (slots_init ES keys 8 slotOf) $$ Hs with ⟨%ιs, -, #Hsl, Hrd, Hwr⟩
  imodintro
  iexists (⟨κ, ιs⟩ : Names)
  isplitr
  · unfold inv
    isplitr
    · iexact Hinv
    · iexact Hsl
  iapply (bigSep_with_persistent (R := bigSep barCells (fun g => reached ER g 0)) fun c _ =>
    (show iprop(bigSep barCells (fun g => reached ER g 0) ∗ (bigSep (Finset.univ : Finset (Fin 10)) (fun k => kindToks k c) ∗ writes c ∗ readers c ∗ Pipeline.launchCred O₀ c
        ∗ atPos ER (barC c) 0 ∅ 0 ∗ bigSep (Finset.univ : Finset (Fin 36)) (fun k => openTok ER ((c : Thread nD τ), osem k)))) ⊢ (linear c : sProp 𝕄) from by
      iintro ⟨#Hr, H⟩
      iapply (gather c)
      isplitr
      · isplitr
        · iapply (hre (rgt c)); iexact Hr
        · iapply (hre (lft c)); iexact Hr
      iexact H))
  isplitr; · iexact Hr
  iapply together; isplitl [Htok]; · iapply dealt_toks $$ Htok
  iapply together; isplitl [Hwr]; · iapply dealt_writes $$ Hwr
  iapply together; isplitl [Hrd]; · iapply dealt_readers $$ Hrd
  iapply together; isplitl [Hc]; · iexact Hc
  iapply together; isplitl [Hat]; · iapply hat $$ Hat
  iapply hopen $$ Hopen

/-- What a device starts from once its semaphores are open, besides its buffers. -/
def opened (c : Dev nD) : sProp 𝕄 :=
  iprop((bigSep (Finset.univ : Finset (Fin 36)) (fun k => openAt ((c : Thread nD τ), osem k)) ∗ bigSep (Finset.range 8) (fun h => headLin c h))
    ∗ bigSep (Finset.range 4) (fun p => bigSep (Finset.Ico 0 14) (fun j => crTok c p j)) ∗ barStart c ∗ finStart c ∗ exStart c)

/-- In the call, a device opens its own semaphores. -/
theorem opening (D : Data F) (K : Names) (c : Dev nD) :
    iprop(inv D K ∗ linear c ∗ bigSep (Finset.univ : Finset (Fin 36)) (fun k => semVal ((c : Thread nD τ), osem k) 0)) ⊢ (|={Set.univ}=> opened c : sProp 𝕄) := by
  have hi : inv D K ⊢ (bigSep (Finset.univ : Finset (Fin 36)) (fun k => cellInv ER (Rd D) (K.cell ((c : Thread nD τ), osem k)) ((c : Thread nD τ), osem k)) : sProp 𝕄) :=
    (bigSep_of_persistent _ _).trans (bigSep_mono fun k _ => inv_cell D K (sc_mem c _ k rfl))
  unfold linear opened
  iintro ⟨#Hinv, ⟨Hh, Hp, Hb, Hf, He, Ho⟩, Hv⟩
  imod (cells_open ER (Rd D) (Finset.univ : Finset (Fin 36)) (fun k => ((c : Thread nD τ), osem k)) (fun k => K.cell ((c : Thread nD τ), osem k))
    (fun k _ => Set.mem_univ _)) $$ [Ho Hv] with Ho
  · isplitl [Ho]
    · iapply together
      isplitr
      · iapply hi; iexact Hinv
      · iexact Ho
    · iexact Hv
  imodintro
  isplitl [Ho Hh]
  · isplitl [Ho]
    · iexact Ho
    · iexact Hh
  isplitl [Hp]; · iexact Hp
  isplitl [Hb]; · iexact Hb
  isplitl [Hf] <;> iassumption

/-- With the block buffer it is what the run starts from. -/
theorem opened_start (c : Dev nD) : iprop(opened c ∗ owe c (O₀ c) ∗ (∃ f, blkBuf (F := F) c f)) ⊢ startRes c := by
  have hs : iprop(bigSep (Finset.range 8) (fun h => iprop((openAt (sC c 0 h) ∗ openAt (sC c 1 h)) ∗ (openAt (rC c 0 h) ∗ openAt (rC c 1 h))))
      ∗ bigSep (Finset.range 8) (fun h => headLin c h) ∗ bigSep (Finset.range 8) (fun h => iprop(slotAny c 0 h ∗ slotAny c 1 h)))
      ⊢ (bigSep (Finset.range 8) (fun h => startHead c h) : sProp 𝕄) := by
    rw [← bigSep_sep', ← bigSep_sep']
    refine bigSep_mono fun h _ => (show iprop(((openAt (sC c 0 h) ∗ openAt (sC c 1 h)) ∗ (openAt (rC c 0 h) ∗ openAt (rC c 1 h))) ∗ headLin c h ∗ (slotAny c 0 h ∗ slotAny c 1 h))
      ⊢ (startHead c h : sProp 𝕄) from ?_)
    unfold openAt headLin startHead slotPos
    iintro ⟨⟨⟨⟨a1, b1⟩, ⟨a2, b2⟩⟩, ⟨⟨a3, b3⟩, ⟨a4, b4⟩⟩⟩, ⟨⟨r0, r1⟩, Ht⟩, Hs⟩
    isplitl [a4 b4 a2 b2 r1]
    · isplitl [a4]; · iexact a4
      isplitl [b4]; · iexact b4
      isplitl [a2]; · iexact a2
      isplitl [b2] <;> iassumption
    isplitl [a3 b3 a1 b1 r0]
    · isplitl [a3]; · iexact a3
      isplitl [b3]; · iexact b3
      isplitl [a1]; · iexact a1
      isplitl [b1] <;> iassumption
    isplitl [Hs] <;> iassumption
  unfold opened startRes
  rw [own_split (fun s => openAt ((c : Thread nD τ), s))]
  iintro ⟨⟨⟨⟨Ho, Hff⟩, Hh⟩, Hp, Hb, Hf, He⟩, HO, Hbuf⟩
  ihave Hsl := (blk_split c) $$ Hbuf
  isplitl [HO]; · iexact HO
  isplitl [Ho Hh Hsl]
  · iapply hs
    isplitl [Ho]; · iexact Ho
    isplitl [Hh] <;> iassumption
  isplitl [Hp]; · iexact Hp
  isplitl [Hff]; · iexact Hff
  isplitl [Hb]; · iexact Hb
  isplitl [Hf] <;> iassumption

end Cert.KernelIdeal.Ring
-- ==== Proof.Launch.lean ====
/-
  The kernel's whole run, at any float type: every device's host operations, the ring call, and the host operations after
  it. The arguments end unchanged, the call's result on device `c` is the finished block of the ring's closed form, and
  every semaphore is at zero again.
-/
module

public import proofs.«01_k».proof.Proof.Fund
public import proofs.«01_k».proof.Proof.Gen.KernelIdeal.Frame
public import Idealize.ShloMosaic.Lib.Pipeline.RegionTalk

@[expose] public section

noncomputable section

namespace Cert.KernelIdeal.Ring

open Cert.KernelIdeal Cert.KernelIdeal.Facts₀ Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The call's data -/

/-- What each device's operands of the call are. -/
def D : Data F where
  q c := iblk m c 0 t0_0
  k c := iblk m c 1 t0_0
  v c := iblk m c 2 t0_0

/-- A device's staging buffers after the call's body. -/
def after (c : Dev nD) : (w : Fin cfg0.W) → Fin cfg0.N → (cfg0.win w).block.Idx → Elt F (cfg0.win w).elt
  | 0 => fun t => iblk m c 0 t
  | 1 => fun t => iblk m c 1 t
  | 2 => fun t => iblk m c 2 t
  | 3 => fun _ => finished (D m) (lft c)
  | ⟨_ + 4, h⟩ => absurd h (Nat.not_lt.2 (Nat.le_add_left _ _))

/-- Before the body: what was opened, the scratch buffers, the generator register. -/
def Φ₀ (c : Dev nD) : sProp 𝕄 :=
  iprop((∃ K, ctx (D m) K ∗ opened c) ∗ (∃ f, blkBuf c f) ∗ (∃ f, finBuf c f) ∗ ∃ r, prngReg c r)
/-- After it: every semaphore at zero, the scratch buffers, the generator register. -/
def Φ₁ (c : Dev nD) : sProp 𝕄 :=
  iprop((semVal (barC c) 0 ∗ bigSep (Finset.univ : Finset (Fin 36)) (fun k => semVal ((c : Thread nD τ), osem k) 0))
    ∗ (∃ f, blkBuf c f) ∗ (∃ f, finBuf c f) ∗ ∃ r, prngReg c r)

def dat (c : Dev nD) : Dat τ (Elt F) ℕ ℕ UU ℕ cfg0 c where
  A w := V m c (arrRef spec0 w)
  after := after m c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (pin (pcfgs (F := F)) adm p) c
  | 0 => dat m

theorem Φ_first (c : Dev nD) : (dat m c).Φ t0_0.castSucc = Φ₀ m c := by
  show (if (t0_0.castSucc : Fin (cfg0.N + 1)).val = 0 then Φ₀ m c else Φ₁ c) = _
  exact if_pos rfl
theorem Φ_succ (c : Dev nD) : (dat m c).Φ t0_0.succ = Φ₁ c := by
  show (if (t0_0.succ : Fin (cfg0.N + 1)).val = 0 then Φ₀ m c else Φ₁ c) = _
  exact if_neg (by decide)
theorem owed_first (c : Dev nD) : (dat m c).owed t0_0.castSucc = O₀ c := by
  show (if (t0_0.castSucc : Fin (cfg0.N + 1)).val = 0 then O₀ c else 0) = _
  exact if_pos rfl
theorem owed_succ (c : Dev nD) : (dat m c).owed t0_0.succ = 0 := by
  show (if (t0_0.succ : Fin (cfg0.N + 1)).val = 0 then O₀ c else 0) = _
  exact if_neg (by decide)

theorem owesAt_intro (c : Dev nD) (t : Fin (cfg0.N + 1)) (O : CellTallies nD τ sig ℕ) (h : (dat m c).owed t = O) :
    owe c O ⊢ ((dat m c).owesAt 0 t : sProp 𝕄) := by
  unfold Dat.owesAt owesWithin owe
  rw [h]
  iintro ⟨%W, HO⟩
  iexists W
  isplitr
  · ipureintro; exact fun _ _ => Or.inl trivial
  iexact HO
theorem owesAt_elim (c : Dev nD) (t : Fin (cfg0.N + 1)) (O : CellTallies nD τ sig ℕ) (h : (dat m c).owed t = O) :
    ((dat m c).owesAt 0 t : sProp 𝕄) ⊢ owe c O := by
  unfold Dat.owesAt owesWithin owe
  rw [h]
  iintro ⟨%W, -, HO⟩
  iexists W
  iexact HO

/-! ## The body -/

/-- A staging buffer at the contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop((dat m c).Φ t0_0.castSucc ∗ (dat m c).owesAt 0 t0_0.castSucc
    ∗ (∃ d, stg c cc0_stg0_0 ((dat m c).before (0 : Fin 4) t0_0 d)) ∗ (∃ d, stg c cc0_stg1_0 ((dat m c).before (1 : Fin 4) t0_0 d))
    ∗ (∃ d, stg c cc0_stg2_0 ((dat m c).before (2 : Fin 4) t0_0 d)) ∗ (∃ d, stg c cc0_stg3_0 ((dat m c).before (3 : Fin 4) t0_0 d)))
def bodyPost (c : Dev nD) : sProp 𝕄 :=
  iprop((dat m c).Φ t0_0.succ ∗ (dat m c).owesAt 0 t0_0.succ
    ∗ stg c cc0_stg0_0 (iblk m c 0 t0_0) ∗ stg c cc0_stg1_0 (iblk m c 1 t0_0) ∗ stg c cc0_stg2_0 (iblk m c 2 t0_0) ∗ stg c cc0_stg3_0 (finished (D m) (lft c)))

theorem sound_body (c : Dev nD) :
    bodyPre m c ⊢ wp frame (wpE (defs₀ (F := F)) 𝒱₀ c none) Set.univ
      (cc0_body qM (Memref.isWhole_whole _) kM (Memref.isWhole_whole _) vM (Memref.isWhole_whole _) oM (Memref.isWhole_whole _)
        blk (Memref.isWhole_whole _) fin (Memref.isWhole_whole _) cc0_scratch2 cc0_scratch3 cc0_scratch4 cc0_scratch5 cc0_scratch6 cc0_scratch7)
      (fun _ => bodyPost m c) := by
  unfold bodyPre
  rw [Φ_first]
  unfold Φ₀
  iintro ⟨⟨⟨%K, #Hctx, Hop⟩, Hb, Hf, Hreg⟩, HO, ⟨%d0, %g0, %e0, H0⟩, ⟨%d1, %g1, %e1, H1⟩, ⟨%d2, %g2, %e2, H2⟩, ⟨%d3, %g3, -, H3⟩⟩
  have f0 : g0 = (D m).q c := by rw [e0]; unfold Dat.before; rw [if_pos (fetch0_0 t0_0)]; rfl
  have f1 : g1 = (D m).k c := by rw [e1]; unfold Dat.before; rw [if_pos (fetch0_1 t0_0)]; rfl
  have f2 : g2 = (D m).v c := by rw [e2]; unfold Dat.before; rw [if_pos (fetch0_2 t0_0)]; rfl
  subst f0 f1 f2
  ihave HO := (owesAt_elim m c _ (O₀ c) (owed_first m c)) $$ HO
  ihave Hst := (opened_start c) $$ [Hop HO Hb]
  · isplitl [Hop]; · iexact Hop
    isplitl [HO] <;> iassumption
  iapply (wp_wand_r _ _)
  isplitr [Hreg]
  · iapply (run (D m) K c _ _ _ _ _ _)
    isplitr; · iexact Hctx
    isplitl [Hst]; · iexact Hst
    isplitl [H0]; · iexact H0
    isplitl [H1]; · iexact H1
    isplitl [H2]; · iexact H2
    isplitl [H3]
    · iexists g3; iexact H3
    · iexact Hf
  iintro %_ Hpost
  unfold runPost bodyPost
  rw [Φ_succ]
  unfold Φ₁
  icases Hpost with ⟨HO, H0, H1, H2, H3, Hf, Hb, Hv, Hs⟩
  isplitl [Hb Hf Hv Hs Hreg]
  · isplitl [Hv Hs]
    · isplitl [Hv] <;> iassumption
    isplitl [Hb]; · iexact Hb
    isplitl [Hf] <;> iassumption
  isplitl [HO]
  · iapply (owesAt_intro m c _ 0 (owed_succ m c)) $$ HO
  isplitl [H0]
  · iexists _
    isplitr; · ipureintro; rfl
    iexact H0
  isplitl [H1]
  · iexists _
    isplitr; · ipureintro; rfl
    iexact H1
  isplitl [H2]
  · iexists _
    isplitr; · ipureintro; rfl
    iexact H2
  · iexists _
    isplitr; · ipureintro; rfl
    iexact H3

set_option maxRecDepth 4000 in
/-- The call's body does what its data say. -/
theorem body (c : Dev nD) : BodyObligation (dat m c) (defs₀ (F := F)) 𝒱₀ 0 Set.univ := fun t => by
  obtain rfl := fin_N0 t
  rw [bigSep_W0, bigSep_W0]
  simp only [owns_whole_eq]
  exact sound_body m c

/-! ## The segments -/

/-- A device's buffers after the call: the result at the ring's closed form. -/
def W₁ (c : Dev nD) : Valuation τ sig (Elt F) :=
  Function.update (V0 m c) (Proc.devRef .tc main_v11) ((dat m c).arrAt 3 cfg0.N)

/-- What rides along up to the call. -/
def R₀ (c : Dev nD) : sProp 𝕄 := iprop((∃ K, inv (D m) K ∗ linear c) ∗ owe c (O₀ c) ∗ ∃ r, prngReg c r)
/-- What rides along after it. -/
def R₁ (c : Dev nD) : sProp 𝕄 := iprop((semVal (barC c) 0 ∗ ∃ r, prngReg c r) ∗ owe c 0)

theorem sub_uc (ops : List (HloOp τ sig (Elt F))) (h : ops.Forall fun op => op.bufs ⊆ StableHlo.tcRefs τ sig) : ∀ op ∈ ops, op.bufs ⊆ ucRefs τ sig :=
  fun op ho => sub_ucRefs op (List.forall_iff_forall_mem.mp h op ho)

local notation "ℍ" => HostSeg (Name := ℕ) (U := UU) (pcfgs (F := F)) defs₀ 𝒱₀ L lv
local notation "ℝ𝕊" => RegionSeg (pcfgs (F := F)) adm (pdats m) 0 defs₀ 𝒱₀ L lv

def seg0 : ℍ := HostSeg.ofOps _ _ _ _ _ (ucRefs τ sig) hostOps0 (sub_uc _ hostOps0_sub) (List.forall_iff_forall_mem.mp hostOps0_fresh)
  (fun c b => m (c, b)) (R₀ m)
def seg2 : ℍ := HostSeg.ofOps _ _ _ _ _ (ucRefs τ sig) hostOps1 (sub_uc _ hostOps1_sub) (List.forall_iff_forall_mem.mp hostOps1_fresh)
  (W₁ m) (fun c => R₁ c)

/-- What the call takes of what rides along, -/
def Tk (c : Dev nD) : sProp 𝕄 := iprop(∃ K, inv (D m) K ∗ linear c)
/-- and what it makes of it. -/
def Xk (c : Dev nD) : sProp 𝕄 := iprop(∃ K, ctx (D m) K ∗ opened c)

theorem call_open (c : Dev nD) : iprop(Tk m c ∗ ownSems0 osem c ∗ levAts L lv) ⊢ (|={Set.univ}=> Xk m c : sProp 𝕄) := by
  unfold Tk Xk ownSems0
  iintro ⟨⟨%K, #Hinv, Hl⟩, Hs, #Hlev⟩
  imod (opening (D m) K c) $$ [Hl Hs] with Ho
  · isplitr; · iexact Hinv
    isplitl [Hl]; · iexact Hl
    iexact Hs
  imodintro
  iexists K
  isplitr
  · unfold ctx levs
    isplitr; · iexact Hinv
    iexact Hlev
  iexact Ho

theorem held_none (c : Dev nD) (W : Valuation τ sig (Elt F)) : (StableHlo.held (c : Thread nD τ) ∅ W : sProp 𝕄) = BI.emp := by
  unfold StableHlo.held; exact bigSep_empty

theorem call_in (c : Dev nD) : iprop(scopedRest (pin (pcfgs (F := F)) adm 0).spec c ∗ (∃ r, prngReg c r) ∗ StableHlo.held (c.tc : Thread nD τ) ∅ (V0 m c) ∗ Xk m c)
    ⊢ (pdats m 0 c).Φ 0 := by
  rw [show (pdats m 0 c).Φ 0 = Φ₀ m c from Φ_first m c, held_none,
    show scopedRest (pin (pcfgs (F := F)) adm 0).spec c = iprop((∃ f, blkBuf (F := F) c f) ∗ (∃ f, finBuf c f)) from scopedRest0_eq c]
  unfold Φ₀ Xk
  iintro ⟨⟨Hb, Hf⟩, Hr, -, Hx⟩
  isplitl [Hx]; · iexact Hx
  isplitl [Hb]; · iexact Hb
  isplitl [Hf] <;> iassumption

theorem call_out (c : Dev nD) : (pdats m 0 c).Φ (Fin.last (pin (pcfgs (F := F)) adm 0).N)
    ⊢ iprop(scopedRest (pin (pcfgs (F := F)) adm 0).spec c ∗ (∃ r, prngReg c r) ∗ StableHlo.held (c.tc : Thread nD τ) ∅ (W₁ m c) ∗ ownSems0 osem c ∗ semVal (barC c) 0) := by
  rw [show (pdats m 0 c).Φ (Fin.last _) = Φ₁ c from Φ_succ m c, held_none,
    show scopedRest (pin (pcfgs (F := F)) adm 0).spec c = iprop((∃ f, blkBuf (F := F) c f) ∗ (∃ f, finBuf c f)) from scopedRest0_eq c]
  unfold Φ₁ ownSems0
  iintro ⟨⟨Hv, Hs⟩, Hb, Hf, Hr⟩
  isplitl [Hb Hf]; · isplitl [Hb] <;> iassumption
  isplitl [Hr]; · iexact Hr
  isplitr; · iempintro
  isplitl [Hs]; · iexact Hs
  iexact Hv

theorem above_all (c : Dev nD) : Above 0 (O₀ c) :=
  ((above_rem c (t := 0) (by decide) (by decide) (.inr (by decide))).add (Above.at _ _ _ (mem_L _ _ (by decide)) (by rw [lv_bar]; decide))).add
    (Above.at _ _ _ (mem_L _ _ (by decide)) (by rw [lv_bar]; decide))

theorem owed_above (c : Dev nD) (t : Fin ((pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_all c g i h
  · exact absurd h (Nat.lt_irrefl 0)

theorem stage_lv (c : Dev nD) : ∀ (w : Fin 4) (s : Fin (cfg0.win w).nbuf), lv ((c : Thread nD τ), .dma ((cfg0.win w).sem s)) 0 ≤ 0 := by
  have h : ∀ (w : Fin 4) (s : Fin (cfg0.win w).nbuf), ((cfg0.win w).sem s).val < 20 := by decide
  intro w s
  unfold lv
  exact (if_pos (h w s)).le

theorem rest_eq (c : Dev nD) (b : DevRef τ sig) (hb : b ≠ Proc.devRef .tc main_v11) : W₁ m c b = V0 m c b := Function.update_of_ne hb _ _

theorem v11_mem : (Proc.devRef .tc main_v11 : DevRef τ sig) ∈ arrRefs (τ := τ) spec0 := by decide
theorem arr_sub : arrRefs (τ := τ) spec0 ⊆ ucRefs τ sig := by decide

/-- The arrays as the call finds them. -/
theorem start_arr (c : Dev nD) (w : Fin 4) : (dat m c).arrAt w 0 = V0 m c (Proc.devRef .tc (arrRef spec0 w)) := rfl

/-- The arrays as the call leaves them: the operands as they were, the result rewritten. -/
theorem end_arr (c : Dev nD) (w : Fin 4) : (dat m c).arrAt w cfg0.N = W₁ m c (Proc.devRef .tc (arrRef spec0 w)) := by
  have hne : w ≠ 3 → (Proc.devRef .tc (arrRef spec0 w) : DevRef τ sig) ≠ Proc.devRef .tc main_v11 := by revert w; decide
  by_cases hw : w = 3
  · subst hw; unfold W₁; exact (Function.update_self (Proc.devRef .tc main_v11 : DevRef τ sig) ((dat m c).arrAt 3 cfg0.N) (V0 m c)).symm
  · rw [rest_eq m c _ (hne hw), (dat m c).arrAt_in w (by revert w; decide)]
    rfl

set_option backward.isDefEq.respectTransparency.types false in
/-- The call: entered with the protocol's shares, left with the barrier's counter at zero. -/
def reg : ℝ𝕊 0 :=
  RegionSeg.ofTalk (pcfgs (F := F)) adm (pdats m) 0 defs₀ 𝒱₀ L lv 0 osem (by decide +kernel : OwnSemFacts spec0 osem)
    ∅ (ucRefs τ sig \ arrRefs (τ := τ) spec0) (Finset.empty_subset _) launch0.toP rfl (fun c => (body m c).loose)
    (fun _ => 0) O₀ (fun c => (owed_first m c).trans (zero_add _).symm) (owed_succ m) (fun _ => rfl) (fun _ w => by unfold Dat.share; exact ite_self _)
    (V0 m) (W₁ m) (fun c b hb => rest_eq m c b fun e => (Finset.mem_sdiff.mp (Finset.mem_sdiff.mp hb).1).2 (e ▸ v11_mem))
    (Tk m) (fun c => semVal (barC c) 0) (Xk m) (fun c => semVal (barC c) 0) (call_open m) (call_in m) (call_out m)
    (fun c => by iintro H; imodintro; iexact H)
    (fun _ => 0)
    ⟨fun c w s => mem_L _ _ (by decide), fun c w s => stage_lv c w s, fun c t g i h => owed_above m c t g i h⟩
    (fun _ => iprop(emp))
    (fun c w => start_arr m c w) (fun c w => end_arr m c w)

theorem arr_split (c : Dev nD) (W : Valuation τ sig (Elt F)) :
    (StableHlo.held (c : Thread nD τ) (ucRefs τ sig) W : sProp 𝕄)
      = iprop(StableHlo.held (c : Thread nD τ) (arrRefs (τ := τ) spec0) W ∗ StableHlo.held (c : Thread nD τ) (ucRefs τ sig \ arrRefs (τ := τ) spec0) W) :=
  StableHlo.held_sub_split (c : Thread nD τ) arr_sub W

theorem reg_pre (c : Dev nD) : iprop(StableHlo.held (c : Thread nD τ) (ucRefs τ sig) (V0 m c) ∗ R₀ m c) ⊢ (reg m).pre c := by
  show _ ⊢ iprop(StableHlo.held (c.tc : Thread nD τ) (arrRefs (τ := τ) (pcfgs (F := F) 0).spec) (V0 m c) ∗ (∃ r, prngReg c r)
    ∗ (StableHlo.held (c.tc : Thread nD τ) (ucRefs τ sig \ arrRefs (τ := τ) spec0) (V0 m c) ∗ emp) ∗ Tk m c ∗ ∃ Wd, owes (c : Thread nD τ) (0 + O₀ c) Wd)
  rw [arr_split, zero_add]
  unfold R₀ owe Tk
  iintro ⟨⟨Ha, Hr⟩, HK, HO, Hp⟩
  isplitl [Ha]; · iexact Ha
  isplitl [Hp]; · iexact Hp
  isplitl [Hr]
  · isplitl [Hr]; · iexact Hr
    iempintro
  isplitl [HK]; · iexact HK
  iexact HO

theorem reg_post (c : Dev nD) : (reg m).post c ⊢ iprop(StableHlo.held (c : Thread nD τ) (ucRefs τ sig) (W₁ m c) ∗ R₁ (F := F) c) := by
  show iprop(StableHlo.held (c.tc : Thread nD τ) (arrRefs (τ := τ) (pcfgs (F := F) 0).spec) (W₁ m c) ∗ (∃ r, prngReg c r)
    ∗ (StableHlo.held (c.tc : Thread nD τ) (ucRefs τ sig \ arrRefs (τ := τ) spec0) (W₁ m c) ∗ emp) ∗ semVal (barC c) 0
    ∗ ∃ Wd, owes (c : Thread nD τ) (0 : CellTallies nD τ sig ℕ) Wd) ⊢ _
  rw [arr_split]
  unfold R₁ owe
  iintro ⟨Ha, Hp, ⟨Hr, -⟩, Hv, HO⟩
  isplitl [Ha Hr]; · isplitl [Ha] <;> iassumption
  isplitl [Hv Hp]; · isplitl [Hv] <;> iassumption
  iexact HO

def segs : List (Seg (pcfgs (F := F)) adm (pdats m) 0 defs₀ 𝒱₀ L lv) := [.host (seg0 m), .region (reg m), .host (seg2 m)]

/-! ## The launch -/

/-- The launch's element of the algebra: the pipeline's, the rounds' and the slots'. -/
def u₀ : UU :=
  (initOf (cells (pin (pcfgs (F := F)) adm) cellOf_inj) (launchToks (pin (pcfgs (F := F)) adm) cellOf_inj), launchOf barCells scCells toks, initSlots keys 8)

/-- What is funded all at once, left with one device till then. -/
def park (X : sProp 𝕄) (c : Dev nD) : sProp 𝕄 := if c = 0 then X else iprop(emp)

theorem park_all (X : sProp 𝕄) : bigSep Finset.univ (park X) = X := by
  rw [bigSep_univ_at _ (0 : Dev nD), bigSep_congr (s := Finset.univ.erase (0 : Dev nD)) (Ψ := fun _ => (BI.emp : sProp 𝕄))
      fun c hc => by unfold park; rw [if_neg (Finset.ne_of_mem_erase hc)]; rfl, BI.bigSep_emp_const]
  unfold park; rw [if_pos rfl]
  exact BI.equiv_iff.mp sep_emp

theorem deal_u₀ : (ownU (u₀ (F := F)) : sProp 𝕄)
    ⊢ |={Set.univ}=> iprop(BI.own (EP (initOf (cells (pin (pcfgs (F := F)) adm) cellOf_inj) (launchToks (pin (pcfgs (F := F)) adm) cellOf_inj)))
        ∗ bigSep Finset.univ (park (launchEl (F := F)))) := by
  rw [park_all]
  unfold u₀ launchEl
  iintro Hu
  ihave H := (ownU_pair _ _) $$ Hu
  icases H with ⟨HP, HX⟩
  ihave H2 := (own_pair_emb embR _ _) $$ HX
  icases H2 with ⟨H3, H4⟩
  imodintro
  isplitl [HP]; · iexact HP
  isplitl [H3]; · unfold ER; iexact H3
  unfold ES; iexact H4

abbrev T₀ (c : Dev nD) : sProp 𝕄 := iprop(StableHlo.held (c : Thread nD τ) (ucRefs τ sig) (fun b => m (c, b)) ∗ R₀ m c)
/-- A device's buffers at the end. -/
def V₂ (c : Dev nD) : Valuation τ sig (Elt F) := StableHlo.after hostOps1 (W₁ m c)
abbrev Tₙ (c : Dev nD) : sProp 𝕄 := iprop(StableHlo.held (c : Thread nD τ) (ucRefs τ sig) (V₂ m c) ∗ semVal (barC c) 0)

theorem unscoped_eq : ∀ sm : SemLoc sig, sm.isScoped .tc = false → sm = .reg barS := by decide +kernel

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, bigSep_singleton]

/-- A device's launch holdings that no other device needs. -/
def bundle (c : Dev nD) : sProp 𝕄 :=
  iprop(StableHlo.held (c : Thread nD τ) (ucRefs τ sig) (fun b => m (c, b)) ∗ owe c (O₀ c) ∗ ∃ r, prngReg c r)

theorem init :
    iprop((bigSep Finset.univ fun c : Dev nD => iprop(unscopedBufs c (fun b => m ((c : Thread nD τ).loc b)) ∗ unscopedSems0 c
          ∗ owes (c : Thread nD τ) (O₀ c) ∅ ∗ launchCred O₀ c ∗ prngReg c (ρ c) ∗ park launchEl c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ launchCred O₀ c ∗ prngReg c (ρ c) ∗ park launchEl c)
      ⊢ (iprop(bundle m c ∗ (semVal (barC c) 0 ∗ (park launchEl c ∗ launchCred O₀ c))) : sProp 𝕄) := by
    rw [show unscopedBufs c (fun b => m ((c : Thread nD τ).loc b)) = StableHlo.held (c : Thread nD τ) (ucRefs τ sig) (fun b => m (c, b)) from
      unscopedBufs_held c (fun b => m (c, b)), unscopedSems0_eq]
    unfold bundle owe
    iintro ⟨Hh, Hus, HO, Hcr, Hp, HG⟩
    isplitl [Hh HO Hp]
    · isplitl [Hh]; · iexact Hh
      isplitl [HO]
      · iexists ∅; iexact HO
      iexists (ρ c); iexact Hp
    isplitl [Hus]; · iexact Hus
    isplitl [HG] <;> iassumption
  have hlast (K : Names) : iprop(inv (D m) K ∗ bigSep Finset.univ (fun c : Dev nD => iprop(linear c ∗ bundle m c))) ⊢ (bigSep Finset.univ (T₀ m) : sProp 𝕄) := by
    refine bigSep_with_persistent (R := inv (D m) K) (Φ := fun c => iprop(linear c ∗ bundle m c)) fun c _ => ?_
    refine (show iprop(inv (D m) K ∗ (linear c ∗ bundle m c)) ⊢ T₀ m c from ?_)
    unfold bundle T₀ R₀
    iintro ⟨#HI, Hl, Hh, HO, Hp⟩
    isplitl [Hh]; · iexact Hh
    isplitl [Hl]
    · iexists K
      isplitr; · iexact HI
      iexact Hl
    isplitl [HO] <;> iassumption
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ launchCred O₀ c ∗ prngReg c (ρ c) ∗ park launchEl c))
      ⊢ (bigSep Finset.univ fun c : Dev nD => iprop(bundle m c ∗ (semVal (barC c) 0 ∗ (park launchEl c ∗ launchCred O₀ c))) : sProp 𝕄) from
      bigSep_mono fun c _ => hcore c) $$ H
  ihave H2 := apart $$ H'; icases H2 with ⟨HB, H3⟩
  ihave H4 := apart $$ H3; icases H4 with ⟨Hv, H5⟩
  ihave H6 := apart $$ H5; icases H6 with ⟨HG, HC⟩
  imod (fund (D m)) $$ [Hv HG HC] with ⟨%K, #HI, Hl⟩
  · isplitl [Hv]; · iexact Hv
    isplitl [HG]
    · ihave HG := (Entails.of_eq (park_all (F := F) launchEl)) $$ HG
      iexact HG
    iexact HC
  imodintro
  iapply (hlast K)
  isplitr; · iexact HI
  iapply together
  isplitl [Hl] <;> iassumption

/-- What is held of buffers is what the machine's memory has. -/
theorem held_read (c : Dev nD) (S : Finset (DevRef τ sig)) (V : Valuation τ sig (Elt F)) (s : Phys nD τ sig (Elt F)) :
    iprop(StableHlo.held (c : Thread nD τ) S V ∗ SI s) ⊢ (<pers> ⌜∀ b ∈ S, s.mem.mem (c, b) = V b⌝ : sProp 𝕄) := by
  have h : iprop(StableHlo.held (c : Thread nD τ) S V ∗ SI s) ⊢ (⌜∀ b ∈ S, s.mem.mem (c, b) = V b⌝ : sProp 𝕄) := by
    unfold StableHlo.held
    exact fun x hx b hb => ((sep_mono (bigSep_elim hb) .rfl).trans
      ((sep_comm.1.trans SI_pointsTo_agree).trans (BI.pure_mono fun h => Buf.eq_of_forall_mem_univ h))) x hx
  exact h.trans Laws.persistently_pure.2

theorem barrier_read (c : Dev nD) (s : Phys nD τ sig (Elt F)) :
    iprop(semVal (barC c) 0 ∗ SI s) ⊢ (<pers> ⌜s.mem.sem (barC c) = 0⌝ : sProp 𝕄) :=
  (sep_comm.1.trans (SI_read.trans (BI.pure_mono fun h => by simpa using h))).trans Laws.persistently_pure.2

theorem V₂_out (c : Dev nD) (b : DevRef τ sig) (h : ∀ op ∈ (hostOps1 (F := F)), b ∉ op.writes) (hb : b ≠ Proc.devRef .tc main_v11)
    (h0 : ∀ op ∈ (hostOps0 (F := F)), b ∉ op.writes) : V₂ m c b = m (c, b) := by
  unfold V₂
  rw [StableHlo.after_of_forall_not_mem _ _ h, rest_eq m c b hb]
  show StableHlo.after hostOps0 _ b = _
  rw [StableHlo.after_of_forall_not_mem _ _ h0]

set_option backward.isDefEq.respectTransparency.types false in
/-- The run of the whole program: it terminates, with every buffer that outlives the call at its closed form and every semaphore's
counter at zero. -/
theorem run_main : θ_run (defs (F := F)) (onTc (τ := τ) (main (F := F))) ⟨m, fun _ => 0, ρ⟩
    (fun r => (∀ c : Dev nD, ∀ b ∈ ucRefs τ sig, r.2.mem (c, b) = V₂ m c b) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (seg0 m) (seg2 m) (reg m) rfl rfl c]; exact .rfl)
    (by simp only [segs, Seg.pipes_host, Seg.pipes_region, Seg.pipes_nil]; decide)
    (O₀ := O₀) (hL := L_of_ne) (G := park launchEl) (u₀ := u₀)
    (hu₀ := deal_u₀)
    (T₀ := T₀ m) (Tₙ := Tₙ m)
    (hch := by
      refine ⟨fun c => .rfl, fun c => reg_pre m c, fun c => reg_post m c, fun c => ?_⟩
      show iprop(StableHlo.held (c : Thread nD τ) (ucRefs τ sig) (V₂ m c) ∗ R₁ (F := F) c)
        ⊢ iprop(Tₙ m c ∗ ∃ W, owes (c : Thread nD τ) (0 : CellTallies nD τ sig ℕ) W)
      unfold R₁ owe Tₙ
      iintro ⟨Hh, ⟨Hb0, -⟩, HO⟩
      isplitr [HO]
      · isplitl [Hh] <;> iassumption
      · iexact HO)
    (hinit := init m ρ)
    (QY := fun c s => (∀ b ∈ ucRefs τ sig, s.mem (c, b) = V₂ m c b) ∧ s.sem (barC c) = 0)
    (hfin := fun c s' => by
      unfold Tₙ
      iintro ⟨⟨Hh, Hb⟩, HSI⟩
      ihave #Hx := (held_read c (ucRefs τ sig) (V₂ m c) s') $$ [Hh HSI]
      · isplitl [Hh] <;> iassumption
      ihave #Hy := (barrier_read c s') $$ [Hb HSI]
      · isplitl [Hb] <;> iassumption
      icases Hx with %hx
      icases Hy with %hy
      imodintro
      isplitr
      · ipureintro; exact ⟨hx, hy⟩
      iexact HSI)
    (hQ := fun s h hs => ⟨fun c => (h c).1,
      sem_eq_zero hs fun c sm hsm => by
        obtain rfl := unscoped_eq sm hsm
        exact (h c).2⟩)

end Cert.KernelIdeal.Ring
-- ==== Proof.Frames.lean ====
/-
  The frames: each program terminates from any memory, its arguments unchanged, its semaphores back at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.KernelIdeal.Ring

open Cert.KernelIdeal Cert.KernelIdeal.Gen
open Idealize.ShloMosaic Idealize.ShloMosaic.TcCoe Idealize.ShloMosaic.Pipeline
open Idealize.SL.Sem

variable {F : FTy → Type} [FloatOps F]

theorem writes_one {b y : DevRef τ sig} {l : List (DevRef τ sig)} (hb : b ∉ l) (hy : y ∈ l) : b ∉ ({y} : Finset (DevRef τ sig)) := fun h =>
  hb (Finset.mem_singleton.mp h ▸ hy)

/-- An argument of the program is written by none of its operations. -/
theorem V₂_arg (m : (ℓ : Loc nD τ sig) → Buf (Elt F) ℓ) (c : Dev nD) :
    V₂ m c (Proc.devRef .tc main_arg0) = m ((c : Thread nD τ).loc main_arg0)
    ∧ V₂ m c (Proc.devRef .tc main_arg1) = m ((c : Thread nD τ).loc main_arg1)
    ∧ V₂ m c (Proc.devRef .tc main_arg2) = m ((c : Thread nD τ).loc main_arg2)
    ∧ V₂ m c (Proc.devRef .tc main_arg3) = m ((c : Thread nD τ).loc main_arg3)
    ∧ V₂ m c (Proc.devRef .tc main_arg4) = m ((c : Thread nD τ).loc main_arg4) := by
  have h1 (b : DevRef τ sig) (hb : b ∉ ([main_v12, main_v13, main_v14, main_v15].map (Proc.devRef .tc) : List (DevRef τ sig))) :
      (hostOps1 (F := F)).Forall fun op => b ∉ op.writes :=
    ⟨writes_one hb (by decide), writes_one hb (by decide), writes_one hb (by decide), writes_one hb (by decide)⟩
  have h0 (b : DevRef τ sig)
      (hb : b ∉ ([main_v1, main_cst, main_v2, main_v3, main_v4, main_v5, main_v6, main_v7, main_v8, main_v9, main_v10].map (Proc.devRef .tc) : List (DevRef τ sig))) :
      (hostOps0 (F := F)).Forall fun op => b ∉ op.writes :=
    ⟨writes_one hb (by decide), writes_one hb (by decide), writes_one hb (by decide), writes_one hb (by decide), writes_one hb (by decide),
      writes_one hb (by decide), writes_one hb (by decide), writes_one hb (by decide), writes_one hb (by decide), writes_one hb (by decide),
      writes_one hb (by decide)⟩
  refine ⟨?_, ?_, ?_, ?_, ?_⟩ <;>
    exact V₂_out m c _ (List.forall_iff_forall_mem.mp (h1 _ (by decide))) (by decide) (List.forall_iff_forall_mem.mp (h0 _ (by decide)))

theorem arg_mem : ∀ r ∈ [main_arg0, main_arg1, main_arg2, main_arg3, main_arg4, main_v15], Proc.devRef .tc r ∈ ucRefs τ sig := by decide

/-- The program's run with its result named and its arguments unchanged. -/
theorem run_value (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c : Thread nD τ).loc main_v15) = V₂ m c (Proc.devRef .tc main_v15)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run _ _ _).mono (fun r h => ⟨fun c => by
    have hr := h.1 c
    obtain ⟨h0, h1, h2, h3, h4⟩ := V₂_arg m c
    exact ⟨hr _ (arg_mem main_v15 (by decide)), (hr _ (arg_mem main_arg0 (by decide))).trans h0, (hr _ (arg_mem main_arg1 (by decide))).trans h1,
      (hr _ (arg_mem main_arg2 (by decide))).trans h2, (hr _ (arg_mem main_arg3 (by decide))).trans h3,
      (hr _ (arg_mem main_arg4 (by decide))).trans h4⟩, h.2⟩) (run_main m ρ)

/-- The same with the result forgotten. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run _ _ _).mono (fun _ h => ⟨fun c => (h.1 c).2, h.2⟩) (run_value m ρ)

end Cert.KernelIdeal.Ring

namespace Cert.Proof

open Idealize.ShloMosaic Idealize.SL.Sem

/-- The two printings of the kernel have one body table: no operation was rewritten. -/
theorem bodies_same : Cert.Kernel.defs₀ (F := Bits) = Cert.KernelIdeal.defs₀ (F := Bits) :=
  congrArg Defs.onTc (funext fun ℓ => funext fun a =>
    match ℓ, a with
    | 0, (_, _) => rfl
    | ⟨_ + 1, h⟩, _ => absurd h (Nat.not_lt.2 (Nat.le_add_left _ _)))

theorem defs_same : Cert.Kernel.defs (F := Bits) = Cert.KernelIdeal.defs (F := Bits) :=
  congrArg (Pipeline.defs (Cert.KernelIdeal.pcfgs (F := Bits))) bodies_same

/-- The kernel as printed runs and leaves the machine quiet. -/
theorem frame_kernel : Cert.quiescent_Kernel := fun m ρ _ => by
  rw [defs_same]
  exact Cert.KernelIdeal.Ring.run_frame (F := Bits) m ρ

/-- So does its idealization. -/
theorem frame_ideal : Cert.quiescent_KernelIdeal := fun m ρ _ => Cert.KernelIdeal.Ring.run_frame (F := Ideal) m ρ

/-- So does the reference, which has no semaphore. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

end Cert.Proof

end
-- ==== Proof.Soft.lean ====
/-
  The softmax of extended reals taken piece by piece.

  A score list is read in pieces. After the keys of a set `S` one keeps `top`, the larger of a start value and
  the greatest score of `S`; `den`, the sum of the exponentials of the scores below `top`; and `num`, the
  sum of the values weighted with them. Reading one more piece rescales `den` and `num` by one factor, and
  the ratio at the end does not depend on the pieces nor on the start value.
-/
module

public import Idealize.ShloMosaic.PureOps.Ideal.Laws

@[expose] public section

noncomputable section

namespace Cert.Soft

open Idealize.ShloMosaic

/-! ## The three constants -/

theorem neg_inf : Ideal.ofBits .f32 0xFF800000#32 = ⊥ := by simp [Ideal.ofBits, Ideal.ieee]

/-- The start value of the maximum. -/
abbrev low : EReal := Ideal.ofBits .f32 0xF149F2CA#32
/-- The factor of the scores. -/
abbrev scale : EReal := Ideal.ofBits .f32 0x3DB504F3#32

theorem low_real : ∃ r : ℝ, low = r := by
  refine ⟨-(13234890 * 2 ^ 76), ?_⟩
  rw [EReal.coe_neg, EReal.coe_mul, EReal.coe_pow]
  simp [Ideal.ofBits, Ideal.ieee]
theorem low_ne_bot : low ≠ ⊥ := by obtain ⟨r, h⟩ := low_real; rw [h]; exact EReal.coe_ne_bot r
theorem scale_real : ∃ r : ℝ, 0 < r ∧ scale = r := by
  refine ⟨11863283 * (2 ^ 27)⁻¹, by positivity, ?_⟩
  rw [EReal.coe_mul]
  simp [Ideal.ofBits, Ideal.ieee]

/-- An exponential is never negative. -/
theorem exp_nonneg (x : EReal) : 0 ≤ Ideal.exp x := by
  induction x with
  | bot => simp
  | top => simp
  | coe r => simpa using (Real.exp_pos r).le

/-- The factor that moves a sum from the maximum `a` to a greater one is finite. -/
theorem exp_sub_ne_top {a b : EReal} (ha : a ≠ ⊥) (h : a ≤ b) : Ideal.exp (a - b) ≠ ⊤ := by
  induction b with
  | bot => exact absurd (le_bot_iff.1 h) ha
  | top =>
    rw [show a - ⊤ = ⊥ from by simp [sub_eq_add_neg]]
    simp
  | coe r =>
    induction a with
    | bot => exact absurd rfl ha
    | top => exact absurd (top_le_iff.1 h) (EReal.coe_ne_top r)
    | coe q => rw [← EReal.coe_sub, Ideal.exp_coe]; exact EReal.coe_ne_top _

/-- Moving one exponential from the maximum `a` to a greater one. -/
theorem exp_rescale {s a b : EReal} (ha : a ≠ ⊥) (hs : s ≤ a) (h : a ≤ b) :
    Ideal.exp (a - b) * Ideal.exp (s - a) = Ideal.exp (s - b) := by
  induction b with
  | bot => exact absurd (le_bot_iff.1 h) ha
  | top =>
    rw [show a - ⊤ = ⊥ from by simp [sub_eq_add_neg], show s - ⊤ = ⊥ from by simp [sub_eq_add_neg]]
    simp
  | coe r =>
    induction a with
    | bot => exact absurd rfl ha
    | top => exact absurd (top_le_iff.1 h) (EReal.coe_ne_top r)
    | coe q =>
      induction s with
      | top => exact absurd (top_le_iff.1 hs) (EReal.coe_ne_top q)
      | bot =>
        rw [show (⊥ : EReal) - (q : EReal) = ⊥ from by simp [sub_eq_add_neg], show (⊥ : EReal) - (r : EReal) = ⊥ from by simp [sub_eq_add_neg]]
        simp
      | coe p =>
        rw [← EReal.coe_sub, ← EReal.coe_sub, ← EReal.coe_sub, Ideal.exp_coe, Ideal.exp_coe, Ideal.exp_coe, ← EReal.coe_mul, ← Real.exp_add]
        congr 2
        ring

/-- A finite factor that is not negative distributes over a sum. -/
theorem mul_sum_of_nonneg {κ : Type} (S : Finset κ) (f : κ → EReal) {a : EReal} (h0 : 0 ≤ a) (h1 : a ≠ ⊤) :
    a * ∑ k ∈ S, f k = ∑ k ∈ S, a * f k := by
  classical
  induction S using Finset.induction_on with
  | empty => simp
  | insert k S hk ih => rw [Finset.sum_insert hk, Finset.sum_insert hk, EReal.left_distrib_of_nonneg_of_ne_top h0 h1, ih]

/-- A positive real factor common to both sides of a quotient drops out. -/
theorem div_common {a : ℝ} (ha : 0 < a) (x y : EReal) : Ideal.div ((a : EReal) * x) ((a : EReal) * y) = Ideal.div x y := by
  have ha0 : (a : EReal) ≠ 0 := by exact_mod_cast ha.ne'
  have hpos : (0 : EReal) < (a : EReal) := by exact_mod_cast ha
  unfold Ideal.div
  by_cases hy : y = 0
  · subst hy
    rw [mul_zero, if_pos rfl, if_pos rfl]
    congr 1
    rw [eq_iff_iff]
    constructor
    · intro h
      by_contra hx
      exact absurd h (not_lt.2 (EReal.mul_nonpos_iff.2 (.inl ⟨hpos.le, not_lt.1 hx⟩)))
    · exact fun h => EReal.mul_pos hpos h
  · rw [if_neg hy, if_neg (mul_ne_zero ha0 hy), EReal.mul_inv, mul_assoc, mul_left_comm x, ← mul_assoc (a : EReal), ← div_eq_mul_inv,
      EReal.div_self (EReal.coe_ne_bot a) (EReal.coe_ne_top a) ha0, one_mul]

variable {κ : Type} [DecidableEq κ]

/-- The larger of the start value and the greatest score. -/
def top (B : EReal) (S : Finset κ) (s : κ → EReal) : EReal := max B (S.sup s)

/-- The sum of the exponentials. -/
def den (B : EReal) (S : Finset κ) (s : κ → EReal) : EReal := ∑ k ∈ S, Ideal.exp (s k - top B S s)

/-- The weighted sum of the values. -/
def num (B : EReal) (S : Finset κ) (s v : κ → EReal) : EReal := ∑ k ∈ S, Ideal.exp (s k - top B S s) * v k

theorem top_ne_bot {B : EReal} (hB : B ≠ ⊥) (S : Finset κ) (s : κ → EReal) : top B S s ≠ ⊥ :=
  fun h => hB (le_bot_iff.1 (h ▸ le_max_left _ _))

theorem le_top (B : EReal) {S : Finset κ} (s : κ → EReal) {k : κ} (hk : k ∈ S) : s k ≤ top B S s :=
  (Finset.le_sup hk).trans (le_max_right _ _)

theorem top_union (B : EReal) (S T : Finset κ) (s : κ → EReal) : top B (S ∪ T) s = max (top B S s) (T.sup s) := by
  unfold top
  rw [Finset.sup_union, max_assoc]

theorem top_le_union (B : EReal) (S T : Finset κ) (s : κ → EReal) : top B S s ≤ top B (S ∪ T) s := by
  rw [top_union]; exact le_max_left _ _

/-- One more piece: the weighted sum. -/
theorem num_union {B : EReal} (hB : B ≠ ⊥) {S T : Finset κ} (h : Disjoint S T) (s v : κ → EReal) :
    num B (S ∪ T) s v = num B S s v * Ideal.exp (top B S s - top B (S ∪ T) s)
      + ∑ k ∈ T, Ideal.exp (s k - top B (S ∪ T) s) * v k := by
  have hle := top_le_union B S T s
  have hb := top_ne_bot hB S s
  unfold num
  rw [Finset.sum_union h, mul_comm, mul_sum_of_nonneg _ _ (exp_nonneg _) (exp_sub_ne_top hb hle)]
  congr 1
  exact Finset.sum_congr rfl fun k hk => by rw [← mul_assoc, exp_rescale hb (le_top B s hk) hle]

/-- One more piece: the sum. -/
theorem den_union {B : EReal} (hB : B ≠ ⊥) {S T : Finset κ} (h : Disjoint S T) (s : κ → EReal) :
    den B (S ∪ T) s = den B S s * Ideal.exp (top B S s - top B (S ∪ T) s) + ∑ k ∈ T, Ideal.exp (s k - top B (S ∪ T) s) := by
  have e : ∀ R : Finset κ, den B R s = num B R s fun _ => 1 := fun R => Finset.sum_congr rfl fun k _ => (mul_one _).symm
  rw [e, e, num_union hB h]
  simp only [mul_one]

/-- The ratio is that of the plain softmax: its own maximum subtracted, no start value. -/
theorem ratio (B : ℝ) (S : Finset κ) (s v : κ → EReal) :
    Ideal.div (num B S s v) (den B S s)
      = Ideal.div (∑ k ∈ S, Ideal.exp (s k - S.sup s) * v k) (∑ k ∈ S, Ideal.exp (s k - S.sup s)) := by
  unfold num den
  generalize hM : S.sup s = M
  have hs : ∀ k ∈ S, s k ≤ M := fun k hk => hM ▸ Finset.le_sup hk
  have ht : top B S s = max (B : EReal) M := by rw [top, hM]
  rw [ht]
  by_cases hBM : (B : EReal) ≤ M
  · rw [max_eq_right hBM]
  · have hMB : M ≤ B := (not_le.1 hBM).le
    rw [max_eq_left hMB]
    induction M with
    | top => exact absurd _root_.le_top hBM
    | bot =>
      have z : ∀ k ∈ S, ∀ y : EReal, Ideal.exp (s k - y) = 0 := fun k hk y => by
        rw [le_bot_iff.1 (hs k hk)]; simp [sub_eq_add_neg]
      rw [Finset.sum_eq_zero fun k hk => by rw [z k hk, zero_mul], Finset.sum_eq_zero fun k hk => z k hk B,
        Finset.sum_eq_zero fun k hk => by rw [z k hk, zero_mul], Finset.sum_eq_zero fun k hk => z k hk ⊥]
    | coe r =>
      have hb : (r : EReal) ≠ ⊥ := EReal.coe_ne_bot r
      have e (f : κ → EReal) : ∑ k ∈ S, Ideal.exp (s k - B) * f k = Ideal.exp (r - B) * ∑ k ∈ S, Ideal.exp (s k - r) * f k := by
        rw [mul_sum_of_nonneg _ _ (exp_nonneg _) (exp_sub_ne_top hb hMB)]
        exact Finset.sum_congr rfl fun k hk => by rw [← mul_assoc, exp_rescale hb (hs k hk) hMB]
      have e1 := e fun _ => 1
      simp only [mul_one] at e1
      rw [e, e1, ← EReal.coe_sub, Ideal.exp_coe]
      exact div_common (Real.exp_pos _) _ _

/-- The plain softmax of the scores `s`, averaging `v`. -/
def attend {κ : Type} [Fintype κ] (s v : κ → EReal) : EReal :=
  Ideal.div (∑ k, Ideal.exp (s k - Finset.univ.sup s) * v k) (∑ k, Ideal.exp (s k - Finset.univ.sup s))

end Cert.Soft
-- ==== Proof.Chunk.lean ====
/-
  One chunk's step at the ideal values, read at one query row: the scores of the chunk's 1024 keys, and the maximum, sum
  and weighted sum after it.
-/
module

public import proofs.«01_k».proof.Proof.Steps
public import proofs.«01_k».proof.Proof.Soft
public import Idealize.ShloMosaic.Lib.Pointwise

@[expose] public section

noncomputable section

namespace Cert.KernelIdeal.Ring

open Cert.KernelIdeal Cert.KernelIdeal.Facts₀
open Idealize.ShloMosaic Idealize.ShloMosaic.TcCoe

variable (q : S128x256.Idx → EReal) (m l : S1x256.Idx → EReal) (acc : S128x256.Idx → EReal) (kc vc : S1x1024x128.Idx → EReal)

theorem pay1_read (j : Fin 1024) (x : Fin 256) :
    Gen.k0_pay1 (F := Ideal) q kc (ix2 j x) = ∑ d : Fin 128, kc (ix3 0 j d) * q (ix2 d x) := by
  unfold Gen.k0_pay1
  simp only [pointwise, zero_add]

theorem pay2_read (x : Fin 256) :
    Gen.k0_pay2 (F := Ideal) q m kc (ix2 0 x)
      = max (m (ix2 0 x)) (Finset.univ.sup fun j : Fin 1024 => Gen.k0_pay1 (F := Ideal) q kc (ix2 j x)) := by
  unfold Gen.k0_pay2
  simp only [pointwise]
  rw [Cert.Soft.neg_inf]
  rfl

theorem pay3_read (x : Fin 256) :
    Gen.k0_pay3 (F := Ideal) q m kc (ix2 0 x) = Ideal.exp (m (ix2 0 x) - Gen.k0_pay2 (F := Ideal) q m kc (ix2 0 x)) := by
  unfold Gen.k0_pay3
  simp only [pointwise]

theorem pay4_read (j : Fin 1024) (x : Fin 256) :
    Gen.k0_pay4 (F := Ideal) q m kc (ix2 j x)
      = Ideal.exp (Gen.k0_pay1 (F := Ideal) q kc (ix2 j x) - Gen.k0_pay2 (F := Ideal) q m kc (ix2 0 x)) := by
  unfold Gen.k0_pay4
  simp only [pointwise, zero_add]
  rfl

theorem pay5_read (d : Fin 128) (x : Fin 256) :
    Gen.k0_pay5 (F := Ideal) q acc m kc vc (ix2 d x)
      = acc (ix2 d x) * Gen.k0_pay3 (F := Ideal) q m kc (ix2 0 x)
        + ∑ j : Fin 1024, vc (ix3 0 j d) * Gen.k0_pay4 (F := Ideal) q m kc (ix2 j x) := by
  unfold Gen.k0_pay5
  simp only [pointwise, zero_add]
  rfl

theorem pay6_read (x : Fin 256) :
    Gen.k0_pay6 (F := Ideal) q m l kc (ix2 0 x)
      = l (ix2 0 x) * Gen.k0_pay3 (F := Ideal) q m kc (ix2 0 x) + ∑ j : Fin 1024, Gen.k0_pay4 (F := Ideal) q m kc (ix2 j x) := by
  unfold Gen.k0_pay6
  simp only [pointwise]

/-- What a state says at query row `x` of the keys `S` read so far, whose scores are `s` and whose values' feature `d` is
    `v d`: the maximum, the sum of the exponentials and the weighted sums over `S`. -/
structure Seen {κ : Type} [DecidableEq κ] (st : St Ideal) (x : Fin 256) (S : Finset κ) (s : κ → EReal) (v : Fin 128 → κ → EReal) : Prop where
  m : st.m (ix2 0 x) = Soft.top Soft.low S s
  l : st.l (ix2 0 x) = Soft.den Soft.low S s
  acc : ∀ d, st.acc (ix2 d x) = Soft.num Soft.low S s (v d)

/-- A fresh state has read no key. -/
theorem seen_start {κ : Type} [DecidableEq κ] (qb : S8x128x256.Idx → EReal) (h : ℕ) (x : Fin 256) (s : κ → EReal) (v : Fin 128 → κ → EReal) :
    Seen (start (F := Ideal) qb h) x ∅ s v where
  m := (max_eq_left bot_le).symm
  l := Ideal.ofBits_zero_f32
  acc _ := Ideal.ofBits_zero_f32

/-- A chunk adds its keys. -/
theorem seen_chunk {κ : Type} [DecidableEq κ] {st : St Ideal} {x : Fin 256} {S : Finset κ} {s : κ → EReal} {v : Fin 128 → κ → EReal}
    (e : Fin 1024 ↪ κ) (hS : Disjoint S (Finset.univ.map e)) (H : Seen st x S s v)
    (hs : ∀ j, s (e j) = ∑ d : Fin 128, kc (ix3 0 j d) * st.q (ix2 d x)) (hv : ∀ d j, v d (e j) = vc (ix3 0 j d)) :
    Seen (chunk kc vc st) x (S ∪ Finset.univ.map e) s v := by
  have h1 (j : Fin 1024) : Gen.k0_pay1 (F := Ideal) st.q kc (ix2 j x) = s (e j) := (pay1_read _ _ j x).trans (hs j).symm
  have h2 : Gen.k0_pay2 (F := Ideal) st.q st.m kc (ix2 0 x) = Soft.top Soft.low (S ∪ Finset.univ.map e) s := by
    rw [pay2_read, H.m, Soft.top_union, Finset.sup_map]
    simp only [h1]
    rfl
  have h3 : Gen.k0_pay3 (F := Ideal) st.q st.m kc (ix2 0 x)
      = Ideal.exp (Soft.top Soft.low S s - Soft.top Soft.low (S ∪ Finset.univ.map e) s) := by
    rw [pay3_read, h2, H.m]
  have h4 (j : Fin 1024) : Gen.k0_pay4 (F := Ideal) st.q st.m kc (ix2 j x)
      = Ideal.exp (s (e j) - Soft.top Soft.low (S ∪ Finset.univ.map e) s) := by
    rw [pay4_read, h1, h2]
  refine ⟨h2, ?_, fun d => ?_⟩
  · show Gen.k0_pay6 (F := Ideal) st.q st.m st.l kc (ix2 0 x) = _
    rw [pay6_read, H.l, h3, Soft.den_union Soft.low_ne_bot hS, Finset.sum_map]
    simp only [h4]
  · show Gen.k0_pay5 (F := Ideal) st.q st.acc st.m kc vc (ix2 d x) = _
    rw [pay5_read, H.acc, h3, Soft.num_union Soft.low_ne_bot hS, Finset.sum_map]
    refine congrArg (_ + ·) (Finset.sum_congr rfl fun j _ => ?_)
    rw [h4, hv, mul_comm]

end Cert.KernelIdeal.Ring
-- ==== Proof.Total.lean ====
/-
  The ring's closed form at the ideal values: the block a device ends with is the plain softmax of its own queries over the
  keys and values of all sixteen devices.

  Key `k` of the whole list is key `k % 4096` of device `k / 4096`. A query block of device `c` meets the devices in the order
  `c, c + 1, …`, and each one's keys in four chunks; `turn c k` is the number of the chunk that holds key `k`.
-/
module

public import proofs.«01_k».proof.Proof.Proto
public import proofs.«01_k».proof.Proof.Chunk

@[expose] public section

noncomputable section

namespace Cert.KernelIdeal.Ring

open Cert.KernelIdeal Cert.KernelIdeal.Facts₀
open Idealize.ShloMosaic Idealize.ShloMosaic.TcCoe

/-- The device that holds a key. -/
abbrev home (k : Fin 65536) : Dev nD := ⟨k.val / 4096, by have := k.isLt; show _ < 16; omega⟩
/-- A key's place there. -/
abbrev place (k : Fin 65536) : Fin 4096 := ⟨k.val % 4096, by omega⟩
/-- The `i`-th device after `c`. -/
abbrev far (c : Dev nD) (i : ℕ) : Dev nD := ⟨(c.val + i) % 16, Nat.mod_lt _ (by decide)⟩
/-- The number of the chunk that holds key `k`, counted from device `c`. -/
abbrev turn (c : Dev nD) (k : Fin 65536) : ℕ := (k.val / 4096 + 16 - c.val) % 16 * 4 + k.val % 4096 / 1024
/-- The keys of the first `n` chunks. -/
abbrev early (c : Dev nD) (n : ℕ) : Finset (Fin 65536) := Finset.univ.filter fun k => turn c k < n

/-- The keys of chunk `t` of the `i`-th device after `c`. -/
def spot (c : Dev nD) (i t : ℕ) (ht : t < 4) : Fin 1024 ↪ Fin 65536 where
  toFun j := ⟨4096 * (far c i).val + 1024 * t + j.val, by have := (far c i).isLt; have : nD = 16 := rfl; omega⟩
  inj' a b e := Fin.ext (by have := congrArg Fin.val e; simp only at this; omega)

theorem early_next (c : Dev nD) (i t : ℕ) (hi : i < 16) (ht : t < 4) :
    early c (4 * i + t + 1) = early c (4 * i + t) ∪ Finset.univ.map (spot c i t ht) := by
  have hc : c.val < 16 := c.isLt
  ext k
  have hk := k.isLt
  simp only [Finset.mem_filter, Finset.mem_union, Finset.mem_map, Finset.mem_univ, true_and]
  constructor
  · intro h
    by_cases h' : turn c k < 4 * i + t
    · exact .inl h'
    · refine .inr ⟨⟨k.val % 1024, by omega⟩, Fin.ext ?_⟩
      show 4096 * ((c.val + i) % 16) + 1024 * t + k.val % 1024 = k.val
      unfold turn at h h'
      omega
  · rintro (h | ⟨j, rfl⟩)
    · omega
    · have hj := j.isLt
      show ((4096 * ((c.val + i) % 16) + 1024 * t + j.val) / 4096 + 16 - c.val) % 16 * 4 + (4096 * ((c.val + i) % 16) + 1024 * t + j.val) % 4096 / 1024 < _
      omega

theorem early_disjoint (c : Dev nD) (i t : ℕ) (hi : i < 16) (ht : t < 4) :
    Disjoint (early c (4 * i + t)) (Finset.univ.map (spot c i t ht)) := by
  have hc : c.val < 16 := c.isLt
  refine Finset.disjoint_left.2 fun k h h' => ?_
  obtain ⟨j, -, rfl⟩ := Finset.mem_map.1 h'
  have hj := j.isLt
  have h2 : ((4096 * ((c.val + i) % 16) + 1024 * t + j.val) / 4096 + 16 - c.val) % 16 * 4 + (4096 * ((c.val + i) % 16) + 1024 * t + j.val) % 4096 / 1024 < 4 * i + t :=
    (Finset.mem_filter.1 h).2
  omega

theorem early_none (c : Dev nD) : early c 0 = ∅ := Finset.filter_false_of_mem fun _ _ => Nat.not_lt_zero _
theorem early_all (c : Dev nD) : early c 64 = Finset.univ :=
  Finset.filter_true_of_mem fun k _ => by show turn c k < 64; unfold turn; omega

theorem rgt_far (c : Dev nD) (i : ℕ) : rgt (far c i) = far c (i + 1) := Fin.ext (by
  show ((c.val + i) % 16 + 1) % 16 = (c.val + (i + 1)) % 16; omega)

variable (D : Data Ideal) (c : Dev nD) (h : Fin 8) (x : Fin 256)

/-- The score of key `k` for row `x` of device `c`'s queries. -/
def keyScore (k : Fin 65536) : EReal := ∑ d : Fin 128, D.k (home k) (ix3 h (place k) d) * D.q c (ix3 h d x)
/-- Feature `d` of value `k`. -/
def keyVal (d : Fin 128) (k : Fin 65536) : EReal := D.v (home k) (ix3 h (place k) d)

theorem stIn_q (i : ℕ) : (stIn D i (far c i) h.val).q = headOf (D.q c) h.val := by
  induction i with
  | zero => show headOf (D.q (far c 0)) h.val = _; rw [show far c 0 = c from Fin.ext (Nat.mod_eq_of_lt c.isLt)]
  | succ i ih => rw [← rgt_far, stIn_succ]; exact (procTo_q _ _ _ _ 4).trans ih

/-- After `i` devices and `t` chunks of the next, a state has seen the first `4 i + t` chunks. -/
theorem seen_at (i t : ℕ) (hi : i < 16) (ht : t ≤ 4)
    (H : Seen (stIn D i (far c i) h.val) x (early c (4 * i)) (keyScore D c h x) (keyVal D h)) :
    Seen (procTo (D.k (far c i)) (D.v (far c i)) h.val (stIn D i (far c i) h.val) t) x (early c (4 * i + t)) (keyScore D c h x) (keyVal D h) := by
  induction t with
  | zero => exact H
  | succ t ih =>
    have e (j : Fin 1024) : home (spot c i t ht j) = far c i := Fin.ext (by
      have hj := j.isLt; show (4096 * ((c.val + i) % 16) + 1024 * t + j.val) / 4096 = (c.val + i) % 16; omega)
    have e' (X : S8x4096x128.Idx → EReal) (j : Fin 1024) (d : Fin 128) : X (ix3 h (place (spot c i t ht j)) d) = chunkOf (F := Ideal) X h.val t (ix3 0 j d) := by
      refine congrArg X (funext fun a => ?_)
      have hj := j.isLt
      match a with
      | ⟨0, _⟩ => exact Fin.ext (Nat.mod_eq_of_lt h.isLt).symm
      | ⟨1, _⟩ => exact Fin.ext (by show (4096 * ((c.val + i) % 16) + 1024 * t + j.val) % 4096 = (1024 * t + j.val) % 4096; omega)
      | ⟨2, _⟩ => rfl
    rw [show 4 * i + (t + 1) = 4 * i + t + 1 from rfl, early_next c i t hi ht]
    refine seen_chunk _ _ (spot c i t ht) (early_disjoint c i t hi ht) (ih (by omega)) (fun j => ?_) fun d j => ?_
    · unfold keyScore
      rw [procTo_q, stIn_q]
      refine Finset.sum_congr rfl fun d _ => ?_
      rw [e, e' (D.k (far c i))]
      refine congrArg (_ * ·) (congrArg (D.q c) (funext fun a => ?_))
      match a with
      | ⟨0, _⟩ => exact Fin.ext (Nat.mod_eq_of_lt h.isLt).symm
      | ⟨1, _⟩ => rfl
      | ⟨2, _⟩ => rfl
    · unfold keyVal
      rw [e, e' (D.v (far c i))]

theorem seen_in (i : ℕ) (hi : i < 16) : Seen (stIn D i (far c i) h.val) x (early c (4 * i)) (keyScore D c h x) (keyVal D h) := by
  induction i with
  | zero => rw [show 4 * 0 = 0 from rfl, early_none]; exact seen_start _ _ _ _ _
  | succ i ih =>
    rw [← rgt_far, stIn_succ]
    exact seen_at D c h x i 4 (by omega) le_rfl (ih (by omega))

/-- The block device `c` ends with, at head `h`, feature `d` and row `x`. -/
theorem finished_read (d : Fin 128) :
    finished D (lft c) (ix3 h d x) = Soft.attend (keyScore D c h x) (keyVal D h d) := by
  have e : lft c = far c 15 := rfl
  have H := seen_at D c h x 15 4 (by decide) le_rfl (seen_in D c h x 15 (by decide))
  rw [show 4 * 15 + 4 = 64 from rfl, early_all] at H
  obtain ⟨r, hr⟩ := Soft.low_real
  have H2 := Soft.ratio r Finset.univ (keyScore D c h x) (keyVal D h d)
  rw [← hr, ← H.acc d, ← H.l] at H2
  exact H2

end Cert.KernelIdeal.Ring
-- ==== Proof.Value.lean ====
/-
  The kernel's operands and result as closed forms of the program's arguments: what the host operations before the ring call
  make of the arguments, what the call leaves, and what the host operations after it make of that.
-/
module

public import proofs.«01_k».proof.Proof.Frames
public import proofs.«01_k».proof.Proof.Total
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe Idealize.ShloMosaic.Pipeline Idealize.ShloMosaic.StableHlo

variable {F : FTy → Type} [FloatOps F]

/-! ## The host operations -/

/-- The queries the call is given. -/
def qOf (x : S1x256x1024.Idx → Elt F .f32) (w : S1024x1024.Idx → Elt F .f32) : S8x128x256.Idx → Elt F .f32 :=
  transpose S8x128x256 [1, 2, 0] (shapeCast S256x8x128 (Host.dotGeneral dot_S256x1024_S1024x1024_S256x1024_1_0_0_1_n_n none
    (shapeCast S256x1024 x shapeCasts_S1x256x1024_S256x1024 : FVec F S256x1024 .f32)
    (mulf (w : FVec F S1024x1024 .f32) (broadcastInDim S1024x1024 ![] bcast_S_S1024x1024 (constant S_ .f32 0x3DB504F3#32))) : FVec F S256x1024 .f32)
    shapeCasts_S256x1024_S256x8x128) transposes_S256x8x128_S8x128x256_1_2_0
/-- The keys, or the values. -/
def kOf (a : S1x4096x8x128.Idx → Elt F .f32) : S8x4096x128.Idx → Elt F .f32 :=
  transpose S8x4096x128 [1, 0, 2] (shapeCast S4096x8x128 a shapeCasts_S1x4096x8x128_S4096x8x128) transposes_S4096x8x128_S8x4096x128_1_0_2
/-- The program's result of the call's result. -/
def rOf (b : S8x128x256.Idx → Elt F .f32) (w : S1024x1024.Idx → Elt F .f32) : S1x256x1024.Idx → Elt F .f32 :=
  broadcastInDim S1x256x1024 ![1, 2] bcast_S256x1024_S1x256x1024_1_2 (Host.dotGeneral dot_S256x1024_S1024x1024_S256x1024_1_0_0_1_n_n none
    (shapeCast S256x1024 (transpose S256x8x128 [2, 0, 1] b transposes_S8x128x256_S256x8x128_2_0_1) shapeCasts_S256x8x128_S256x1024 : FVec F S256x1024 .f32)
    (w : FVec F S1024x1024 .f32) : FVec F S256x1024 .f32)

variable (m : (ℓ : Loc nD τ sig) → Buf (Elt F) ℓ) (c : Dev nD)

theorem V0_q : V0 m c (Proc.devRef .tc main_v6) = qOf (m ((c : Thread nD τ).loc main_arg0)) (m ((c : Thread nD τ).loc main_arg1)) := by
  show StableHlo.after hostOps0 _ _ = _
  after_results
  rfl
theorem V0_k : V0 m c (Proc.devRef .tc main_v8) = kOf (m ((c : Thread nD τ).loc main_arg2)) := by
  show StableHlo.after hostOps0 _ _ = _
  after_results
  rfl
theorem V0_v : V0 m c (Proc.devRef .tc main_v10) = kOf (m ((c : Thread nD τ).loc main_arg3)) := by
  show StableHlo.after hostOps0 _ _ = _
  after_results
  rfl
theorem V0_w : V0 m c (Proc.devRef .tc main_arg4) = m ((c : Thread nD τ).loc main_arg4) := by
  show StableHlo.after hostOps0 _ _ = _
  after_results

/-- The call's result is the finished block. -/
theorem W₁_out : W₁ m c (Proc.devRef .tc main_v11) = finished (D m) (lft c) := by
  refine (Function.update_self (Proc.devRef .tc main_v11 : DevRef τ sig) ((dat m c).arrAt 3 cfg0.N) (V0 m c)).trans ?_
  funext i
  exact (dat m c).arrAt_emb_eq_after_last 3 t0_0 (by decide +kernel) i

theorem V₂_read : V₂ m c (Proc.devRef .tc main_v15) = rOf (finished (D m) (lft c)) (m ((c : Thread nD τ).loc main_arg4)) := by
  have e : V₂ m c (Proc.devRef .tc main_v15) = rOf (W₁ m c (Proc.devRef .tc main_v11)) (W₁ m c (Proc.devRef .tc main_arg4)) := by
    unfold V₂
    after_results
    rfl
  rw [e, W₁_out, rest_eq m c _ (by decide), V0_w]

/-- The call's operands are the host's arrays: each window is its whole array. -/
theorem D_q : (D m).q c = qOf (m ((c : Thread nD τ).loc main_arg0)) (m ((c : Thread nD τ).loc main_arg1)) := by
  rw [← V0_q]
  funext j
  show ((cfg0.win 0).blk t0_0).view.read (Elt F) (V m c main_v6) j = V m c main_v6 j
  refine congrArg (V m c main_v6) (funext fun a => Fin.ext ?_)
  have e := (cfg0.win 0).rect_emb_val t0_0 j a
  have h0 : ∀ a, (cfg0.win 0).index t0_0 a = 0 := by decide +kernel
  rw [h0 a, Nat.zero_mul, Nat.zero_add] at e
  exact e
theorem D_k : (D m).k c = kOf (m ((c : Thread nD τ).loc main_arg2)) := by
  rw [← V0_k]
  funext j
  show ((cfg0.win 1).blk t0_0).view.read (Elt F) (V m c main_v8) j = V m c main_v8 j
  refine congrArg (V m c main_v8) (funext fun a => Fin.ext ?_)
  have e := (cfg0.win 1).rect_emb_val t0_0 j a
  have h0 : ∀ a, (cfg0.win 1).index t0_0 a = 0 := by decide +kernel
  rw [h0 a, Nat.zero_mul, Nat.zero_add] at e
  exact e
theorem D_v : (D m).v c = kOf (m ((c : Thread nD τ).loc main_arg3)) := by
  rw [← V0_v]
  funext j
  show ((cfg0.win 2).blk t0_0).view.read (Elt F) (V m c main_v10) j = V m c main_v10 j
  refine congrArg (V m c main_v10) (funext fun a => Fin.ext ?_)
  have e := (cfg0.win 2).rect_emb_val t0_0 j a
  have h0 : ∀ a, (cfg0.win 2).index t0_0 a = 0 := by decide +kernel
  rw [h0 a, Nat.zero_mul, Nat.zero_add] at e
  exact e

/-! ## Read at an index, at the ideal values -/

theorem qOf_read (x : S1x256x1024.Idx → EReal) (w : S1024x1024.Idx → EReal) (h : Fin 8) (d : Fin 128) (i : Fin 256) :
    qOf (F := Ideal) x w (ix3 h d i) = ∑ e : Fin 1024, x (ix3 0 i e) * (w (ix2 e (⟨128 * h.val + d.val, by omega⟩ : Fin 1024)) * Soft.scale) := by
  unfold qOf
  simp only [pointwise, zero_add, Nat.mul_comm h.val 128]

theorem kOf_read (a : S1x4096x8x128.Idx → EReal) (h : Fin 8) (j : Fin 4096) (d : Fin 128) :
    kOf (F := Ideal) a (ix3 h j d) = a (ix4 0 j h d) := by
  unfold kOf
  simp only [pointwise]

theorem rOf_read (b : S8x128x256.Idx → EReal) (w : S1024x1024.Idx → EReal) (i : Fin 256) (e : Fin 1024) :
    rOf (F := Ideal) b w (ix3 0 i e)
      = ∑ n : Fin 1024, b (ix3 (⟨n.val / 128, by omega⟩ : Fin 8) (⟨n.val % 128, by omega⟩ : Fin 128) i) * w (ix2 n e) := by
  unfold rOf
  simp only [pointwise, zero_add]
  rfl

end Cert.KernelIdeal.Ring
-- ==== Proof.RefValue.lean ====
/-
  The reference's result, in closed form: at row `i` and column `e` it is the sum over the 1024 features `n` of
  the attention of head `n / 128` at feature `n % 128`, times the output weight at `(n, e)`.
-/
module

public import proofs.«01_k».proof.Proof.Soft
public import Idealize.ShloMosaic.Lib.Pointwise
public import proofs.«01_k».proof.Proof.Gen.ReferenceIdeal.Read

@[expose] public section

noncomputable section

namespace Cert.Soft

open Cert.ReferenceIdeal Cert.ReferenceIdeal.Read
open Idealize.ShloMosaic

/-- The head of one of the 1024 features. -/
abbrev headAt (n : Fin 1024) : Fin 8 := ⟨n.val / 128, by omega⟩
/-- Its place in the head. -/
abbrev featAt (n : Fin 1024) : Fin 128 := ⟨n.val % 128, by omega⟩
/-- The feature at a place of a head. -/
abbrev joinAt (h : Fin 8) (d : Fin 128) : Fin 1024 := ⟨128 * h.val + d.val, by omega⟩

variable (x0 : S1x4096x1024.Idx → EReal) (x1 : S1024x1024.Idx → EReal) (x2 x3 : S1x65536x8x128.Idx → EReal)

/-- The score of query row `i` and key `k` in head `h`. -/
def score (i : Fin 4096) (h : Fin 8) (k : Fin 65536) : EReal :=
  (∑ d : Fin 128, (∑ e : Fin 1024, x0 (ix3 0 i e) * x1 (ix2 e (joinAt h d))) * x2 (ix4 0 k h d)) * scale

theorem score_read (i : Fin 4096) (h : Fin 8) (k : Fin 65536) :
    val_main_v4 (F := Ideal) x0 x1 x2 (ix4 0 h i k) = score x0 x1 x2 i h k := by
  rw [val_main_v4_apply, val_main_v3_apply, val_main_cst_apply, val_main_v2_apply]
  unfold score
  refine congrArg (· * scale) (Finset.sum_congr rfl fun d _ => ?_)
  rw [val_main_v1_apply, val_main_v0_apply]
  refine congrArg₂ (· * ·) (Finset.sum_congr rfl fun e _ => congrArg₂ (· * ·) (congrArg x0 ?_) (congrArg x1 ?_)) (congrArg x2 ?_)
  · funext a
    match a with
    | ⟨0, _⟩ => rfl
    | ⟨1, _⟩ => refine Fin.ext ?_; show (((0 * 4096 + i.val) * 8 + h.val) * 128 + d.val) / 1024 % 4096 = i.val; omega
    | ⟨2, _⟩ => rfl
  · funext a
    match a with
    | ⟨0, _⟩ => rfl
    | ⟨1, _⟩ => refine Fin.ext ?_; show (((0 * 4096 + i.val) * 8 + h.val) * 128 + d.val) % 1024 = 128 * h.val + d.val; omega
  · funext a
    match a with
    | ⟨0, _⟩ => rfl
    | ⟨1, _⟩ => rfl
    | ⟨2, _⟩ => rfl
    | ⟨3, _⟩ => rfl

theorem max_read (i : Fin 4096) (h : Fin 8) :
    val_main_v5 (F := Ideal) x0 x1 x2 (ix3 0 h i) = Finset.univ.sup (score x0 x1 x2 i h) := by
  unfold val_main_v5
  rw [Host.reduce_eq_fold_single (f := FloatOps.maximumf (F := Ideal) (φ := .f32)) _ _ _ (by decide) _ _, val_main_cst_0_apply]
  show Finset.univ.fold max (Ideal.ofBits .f32 0xFF800000#32) _ = Finset.univ.fold max ⊥ _
  rw [neg_inf]
  refine Finset.fold_congr fun k _ => ?_
  refine Eq.trans ?_ (score_read x0 x1 x2 i h k)
  exact congrArg (val_main_v4 (F := Ideal) x0 x1 x2) (funext fun a => Fin.ext (by match a with | ⟨0, _⟩ => rfl | ⟨1, _⟩ => rfl | ⟨2, _⟩ => rfl | ⟨3, _⟩ => rfl))

theorem exp_read (i : Fin 4096) (h : Fin 8) (k : Fin 65536) :
    val_main_v9 (F := Ideal) x0 x1 x2 (ix4 0 h i k)
      = Ideal.exp (score x0 x1 x2 i h k - Finset.univ.sup (score x0 x1 x2 i h)) := by
  rw [val_main_v9_apply, val_main_v8_apply, score_read, val_main_v7_apply, val_main_v6_apply,
    show idx_main_v6 (idx_main_v7 (ix4 0 h i k)) = ix3 0 h i from funext fun a => by match a with | ⟨0, _⟩ => rfl | ⟨1, _⟩ => rfl | ⟨2, _⟩ => rfl,
    max_read]
  generalize score x0 x1 x2 i h k = s
  generalize Finset.univ.sup (score x0 x1 x2 i h) = M
  rfl

theorem sum_read (i : Fin 4096) (h : Fin 8) (d : Fin 128) :
    val_main_v15 (F := Ideal) x0 x1 x2 (ix4 0 i h d)
      = ∑ k, Ideal.exp (score x0 x1 x2 i h k - Finset.univ.sup (score x0 x1 x2 i h)) := by
  rw [val_main_v15_apply, val_main_v14_apply, val_main_v11_apply, val_main_v10_apply, val_main_cst_1_apply]
  show Ideal.ofBits .f32 0x00000000#32 + _ = _
  rw [Ideal.ofBits_zero_f32, zero_add]
  refine Finset.sum_congr rfl fun k _ => ?_
  rw [← exp_read]
  exact congrArg _ (funext fun a => Fin.ext (by match a with | ⟨0, _⟩ => rfl | ⟨1, _⟩ => rfl | ⟨2, _⟩ => rfl | ⟨3, _⟩ => rfl))

theorem weighted_read (i : Fin 4096) (h : Fin 8) (d : Fin 128) :
    val_main_v13 (F := Ideal) x0 x1 x2 x3 (ix4 0 i h d)
      = ∑ k, Ideal.exp (score x0 x1 x2 i h k - Finset.univ.sup (score x0 x1 x2 i h)) * x3 (ix4 0 k h d) := by
  rw [val_main_v13_apply, val_main_v12_apply]
  refine Finset.sum_congr rfl fun k _ => ?_
  rw [← exp_read, mul_comm]
  refine congrArg₂ (· * ·) (congrArg _ (funext fun a => ?_)) (congrArg x3 (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

theorem attend_read (i : Fin 4096) (h : Fin 8) (d : Fin 128) :
    val_main_v16 (F := Ideal) x0 x1 x2 x3 (ix4 0 i h d) = attend (score x0 x1 x2 i h) fun k => x3 (ix4 0 k h d) := by
  rw [val_main_v16_apply, weighted_read, sum_read]
  rfl

/-- The reference's result at row `i` and column `e`. -/
theorem result_read (x4 : S1024x1024.Idx → EReal) (i : Fin 4096) (e : Fin 1024) :
    val_main_v18 (F := Ideal) x0 x1 x2 x3 x4 (ix3 0 i e)
      = ∑ n : Fin 1024, attend (score x0 x1 x2 i (headAt n)) (fun k => x3 (ix4 0 k (headAt n) (featAt n))) * x4 (ix2 n e) := by
  rw [val_main_v18_apply]
  refine Finset.sum_congr rfl fun n _ => ?_
  rw [val_main_v17_apply, ← attend_read]
  refine congrArg₂ (· * ·) (congrArg _ (funext fun a => ?_)) (congrArg x4 (funext fun a => ?_))
  · match a with
    | ⟨0, _⟩ => rfl
    | ⟨1, _⟩ => refine Fin.ext ?_; show ((0 * 4096 + i.val) * 1024 + n.val) / 1024 % 4096 = i.val; omega
    | ⟨2, _⟩ => refine Fin.ext ?_; show ((0 * 4096 + i.val) * 1024 + n.val) / 128 % 8 = n.val / 128; omega
    | ⟨3, _⟩ => refine Fin.ext ?_; show ((0 * 4096 + i.val) * 1024 + n.val) % 128 = n.val % 128; omega
  · match a with | ⟨0, _⟩ => rfl | ⟨1, _⟩ => rfl

end Cert.Soft
-- ==== Proof.Final.lean ====
/-
  The value claim: at the ideal values device `c` ends with block `c` of the reference's result.
-/
module

public import proofs.«01_k».proof.Proof.Value
public import proofs.«01_k».proof.Proof.RefValue

@[expose] public section

noncomputable section

namespace Cert.Soft

open Idealize.ShloMosaic

/-- Scaling the query weights scales the score. -/
theorem scale_out {κ ι : Type} [Fintype κ] [Fintype ι] (x : ι → EReal) (w : ι → κ → EReal) (k : κ → EReal) :
    ∑ d, k d * ∑ e, x e * (w e d * scale) = (∑ d, (∑ e, x e * w e d) * k d) * scale := by
  obtain ⟨r, hr, hs⟩ := scale_real
  have h0 : (0 : EReal) ≤ scale := by rw [hs]; exact_mod_cast hr.le
  have h1 : scale ≠ ⊤ := by rw [hs]; exact EReal.coe_ne_top r
  rw [mul_comm _ scale, mul_sum_of_nonneg _ _ h0 h1]
  refine Finset.sum_congr rfl fun d _ => ?_
  rw [mul_comm (k d), ← mul_assoc, mul_sum_of_nonneg _ _ h0 h1]
  exact congrArg (· * k d) (Finset.sum_congr rfl fun e _ => by rw [← mul_assoc, mul_comm])

end Cert.Soft

namespace Cert.Proof

open Cert.KernelIdeal.Ring
open Idealize.ShloMosaic Idealize.ShloMosaic.TcCoe Idealize.SL.Sem

/-! ## Where a device's block lies in the whole array -/

theorem rows_at (c : Fin 16) (i : Fin 256) (e : Fin 1024) (h : Layout.Tiles ⟨3, ![1, 256, 1024]⟩ ⟨3, ![1, 4096, 1024]⟩ 1 16) :
    h.idx c (ix3 (0 : Fin 1) i e) = ix3 (0 : Fin 1) (⟨c.val * 256 + i.val, by omega⟩ : Fin 4096) e := by
  funext a
  match a with | ⟨0, _⟩ => rfl | ⟨1, _⟩ => rfl | ⟨2, _⟩ => rfl

theorem keys_at (k : Fin 65536) (h : Fin 8) (d : Fin 128) (ht : Layout.Tiles ⟨4, ![1, 4096, 8, 128]⟩ ⟨4, ![1, 65536, 8, 128]⟩ 1 16) :
    ht.idx (home k) (ix4 (0 : Fin 1) (place k) h d) = ix4 (0 : Fin 1) k h d := by
  funext a
  match a with
  | ⟨0, _⟩ => rfl
  | ⟨1, _⟩ => refine Fin.ext ?_; show k.val / 4096 * 4096 + k.val % 4096 = k.val; omega
  | ⟨2, _⟩ => rfl
  | ⟨3, _⟩ => rfl

section

variable (m : (ℓ : Loc Cert.KernelIdeal.nD Cert.KernelIdeal.τ Cert.KernelIdeal.sig) → Buf (Elt Ideal) ℓ)
  (x0 : Cert.ReferenceIdeal.S1x4096x1024.Idx → EReal) (x1 x4 : Cert.ReferenceIdeal.S1024x1024.Idx → EReal)
  (x2 x3 : Cert.ReferenceIdeal.S1x65536x8x128.Idx → EReal)

/-- Device `c`'s result, from the whole arguments. -/
theorem kernel_read
    (h0 : ∀ c : Dev Cert.KernelIdeal.nD, m ((c : Thread Cert.KernelIdeal.nD Cert.KernelIdeal.τ).loc Cert.KernelIdeal.main_arg0) = Layout.block ⟨3, ![1, 256, 1024]⟩ ⟨3, ![1, 4096, 1024]⟩ 1 16 c x0)
    (h1 : ∀ c : Dev Cert.KernelIdeal.nD, m ((c : Thread Cert.KernelIdeal.nD Cert.KernelIdeal.τ).loc Cert.KernelIdeal.main_arg1) = x1)
    (h2 : ∀ c : Dev Cert.KernelIdeal.nD, m ((c : Thread Cert.KernelIdeal.nD Cert.KernelIdeal.τ).loc Cert.KernelIdeal.main_arg2) = Layout.block ⟨4, ![1, 4096, 8, 128]⟩ ⟨4, ![1, 65536, 8, 128]⟩ 1 16 c x2)
    (h3 : ∀ c : Dev Cert.KernelIdeal.nD, m ((c : Thread Cert.KernelIdeal.nD Cert.KernelIdeal.τ).loc Cert.KernelIdeal.main_arg3) = Layout.block ⟨4, ![1, 4096, 8, 128]⟩ ⟨4, ![1, 65536, 8, 128]⟩ 1 16 c x3)
    (h4 : ∀ c : Dev Cert.KernelIdeal.nD, m ((c : Thread Cert.KernelIdeal.nD Cert.KernelIdeal.τ).loc Cert.KernelIdeal.main_arg4) = x4)
    (c : Dev Cert.KernelIdeal.nD) :
    V₂ m c (Proc.devRef .tc Cert.KernelIdeal.main_v15)
      = Layout.block ⟨3, ![1, 256, 1024]⟩ ⟨3, ![1, 4096, 1024]⟩ 1 16 c (Cert.ReferenceIdeal.Read.val_main_v18 (F := Ideal) x0 x1 x2 x3 x4) := by
  have hs (h : Fin 8) (i : Fin 256) (k : Fin 65536) :
      keyScore (D m) c h i k = Soft.score x0 x1 x2 (⟨c.val * 256 + i.val, by have := c.isLt; have : Cert.KernelIdeal.nD = 16 := rfl; omega⟩ : Fin 4096) h k := by
    unfold keyScore Soft.score
    rw [← Soft.scale_out]
    refine Finset.sum_congr rfl fun d _ => ?_
    rw [D_k, D_q, kOf_read, qOf_read, h0, h1, h2, Layout.block_apply, keys_at]
    refine congrArg (_ * ·) (Finset.sum_congr rfl fun e _ => ?_)
    rw [Layout.block_apply, rows_at]
  have hv (h : Fin 8) (d : Fin 128) (k : Fin 65536) : keyVal (D m) h d k = x3 (ix4 0 k h d) := by
    unfold keyVal
    rw [D_v, kOf_read, h3, Layout.block_apply, keys_at]
  rw [V₂_read]
  funext j
  obtain ⟨i, e, rfl⟩ : ∃ (i : Fin 256) (e : Fin 1024), j = ix3 (0 : Fin 1) i e :=
    ⟨j 1, j 2, (eq_ix3 j).trans (congrArg (ix3 · (j 1) (j 2)) (Subsingleton.elim (α := Fin 1) _ _))⟩
  rw [rOf_read, h4, Layout.block_apply, rows_at, Soft.result_read]
  refine Finset.sum_congr rfl fun n _ => ?_
  rw [finished_read, funext (hs _ i), funext (hv _ _)]

end

/-- Each device's result is its block of the reference's result. -/
theorem algebraic : Cert.algebraic_KernelIdeal_ReferenceIdeal := by
  intro m g m' g' _ hag
  refine ⟨Cert.ReferenceIdeal.Read.val_main_v18 (F := Ideal) (m' ((Dev.tc (0 : Dev Cert.ReferenceIdeal.nD)).loc Cert.ReferenceIdeal.main_arg0))
    (m' ((Dev.tc (0 : Dev Cert.ReferenceIdeal.nD)).loc Cert.ReferenceIdeal.main_arg1)) (m' ((Dev.tc (0 : Dev Cert.ReferenceIdeal.nD)).loc Cert.ReferenceIdeal.main_arg2))
    (m' ((Dev.tc (0 : Dev Cert.ReferenceIdeal.nD)).loc Cert.ReferenceIdeal.main_arg3)) (m' ((Dev.tc (0 : Dev Cert.ReferenceIdeal.nD)).loc Cert.ReferenceIdeal.main_arg4)),
    (θ_run _ _ _).mono (fun r hr c => ?_) (run_value m g),
    (θ_run (Cert.ReferenceIdeal.defs (F := Ideal)) _ _).mono (fun r hr => ?_) (Cert.ReferenceIdeal.Value.run (F := Ideal) m' g')⟩
  · obtain ⟨hv, ha⟩ := hr.1 c
    exact ⟨hv.trans (kernel_read m _ _ _ _ _ (fun c => (hag c).1) (fun c => (hag c).2.1) (fun c => (hag c).2.2.1) (fun c => (hag c).2.2.2.1)
      (fun c => (hag c).2.2.2.2) c), ha⟩
  · exact ⟨(hr 0).1.trans (Cert.ReferenceIdeal.Read.val_main_v18_eq ..), (hr 0).2⟩

end Cert.Proof
-- ==== Proof.lean ====
module

public import proofs.«01_k».proof.Defs
public import proofs.«01_k».proof.Proof.Frames
public import proofs.«01_k».proof.Proof.Final

@[expose] public section

noncomputable section

namespace Cert.Proof

/-- Every claim of this certificate. -/
theorem claim : Cert.Claim :=
  ⟨Cert.Kernel.Gen.facts, Cert.KernelIdeal.Gen.facts, Cert.ReferenceIdeal.Gen.facts, frame_kernel, frame_ideal, frame_reference, trivial, algebraic⟩

end Cert.Proof

end
